-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_untied [hKernelIdeal : Cert.KernelIdeal.Facts] [hReferenceIdeal : Cert.ReferenceIdeal.Facts] [hOn_untied : Cert.On_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          (∀ i : (⟨2, ![16384, 8]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v3) i = v0 c i)
          ∧ (∀ i : (⟨2, ![16384, 8]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.KernelIdeal.nD Cert.KernelIdeal.τ).loc Cert.KernelIdeal.main_v4) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![16384, 8]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_indices_11) i = v0 c i)
          ∧ (∀ i : (⟨2, ![16384, 8]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.ReferenceIdeal.nD Cert.ReferenceIdeal.τ).loc Cert.ReferenceIdeal.main_v46) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hOn_untied : Cert.On_untied.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_untied (hKernelIdeal := hKernelIdeal) (hReferenceIdeal := hReferenceIdeal) (hOn_untied := hOn_untied)
-- ==== On_untied.lean ====
abbrev S4x4096x2048 : Shape := ⟨3, ![4, 4096, 2048]⟩
abbrev S64x2048 : Shape := ⟨2, ![64, 2048]⟩
abbrev S16384x2048 : Shape := ⟨2, ![16384, 2048]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S16384x8x8 : Shape := ⟨3, ![16384, 8, 8]⟩
abbrev S16384x8 : Shape := ⟨2, ![16384, 8]⟩
abbrev S16384x64x1 : Shape := ⟨3, ![16384, 64, 1]⟩
abbrev S16384x1x64 : Shape := ⟨3, ![16384, 1, 64]⟩
abbrev S16384x64x64 : Shape := ⟨3, ![16384, 64, 64]⟩
abbrev S1x64x64 : Shape := ⟨3, ![1, 64, 64]⟩
abbrev S16384x8x1 : Shape := ⟨3, ![16384, 8, 1]⟩
abbrev S16384x1x8 : Shape := ⟨3, ![16384, 1, 8]⟩
abbrev S1x8x8 : Shape := ⟨3, ![1, 8, 8]⟩

class Facts : Prop where
  shapeCasts_S4x4096x2048_S16384x2048 : S4x4096x2048.ShapeCasts S16384x2048
  reducesTo_S16384x64_S16384_d1 : S16384x64.ReducesTo [1] S16384
  h_S_ : 0 < S_.numel
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  shapeCasts_S16384x64_S16384x8x8 : S16384x64.ShapeCasts S16384x8x8
  reducesTo_S16384x8x8_S16384x8_d2 : S16384x8x8.ReducesTo [2] S16384x8
  bcast_S16384x64_S16384x64x1_0_1 : S16384x64.BroadcastsInDim S16384x64x1 (![0, 1] : Fin 2 → Fin S16384x64x1.rank)
  bcast_S16384x64_S16384x1x64_0_2 : S16384x64.BroadcastsInDim S16384x1x64 (![0, 2] : Fin 2 → Fin S16384x1x64.rank)
  bcast_S16384x64x1_S16384x64x64_0_1_2 : S16384x64x1.BroadcastsInDim S16384x64x64 (![0, 1, 2] : Fin 3 → Fin S16384x64x64.rank)
  bcast_S16384x1x64_S16384x64x64_0_1_2 : S16384x1x64.BroadcastsInDim S16384x64x64 (![0, 1, 2] : Fin 3 → Fin S16384x64x64.rank)
  bcast_S1x64x64_S16384x64x64_0_1_2 : S1x64x64.BroadcastsInDim S16384x64x64 (![0, 1, 2] : Fin 3 → Fin S16384x64x64.rank)
  reducesTo_S16384x64x64_S16384_d1_2 : S16384x64x64.ReducesTo [1, 2] S16384
  bcast_S16384x1_S16384x8_0_1 : S16384x1.BroadcastsInDim S16384x8 (![0, 1] : Fin 2 → Fin S16384x8.rank)
  bcast_S16384x8_S16384x8x1_0_1 : S16384x8.BroadcastsInDim S16384x8x1 (![0, 1] : Fin 2 → Fin S16384x8x1.rank)
  bcast_S16384x8_S16384x1x8_0_2 : S16384x8.BroadcastsInDim S16384x1x8 (![0, 2] : Fin 2 → Fin S16384x1x8.rank)
  bcast_S16384x8x1_S16384x8x8_0_1_2 : S16384x8x1.BroadcastsInDim S16384x8x8 (![0, 1, 2] : Fin 3 → Fin S16384x8x8.rank)
  bcast_S16384x1x8_S16384x8x8_0_1_2 : S16384x1x8.BroadcastsInDim S16384x8x8 (![0, 1, 2] : Fin 3 → Fin S16384x8x8.rank)
  bcast_S1x8x8_S16384x8x8_0_1_2 : S1x8x8.BroadcastsInDim S16384x8x8 (![0, 1, 2] : Fin 3 → Fin S16384x8x8.rank)
  reducesTo_S16384x8x8_S16384_d1_2 : S16384x8x8.ReducesTo [1, 2] S16384
  dot_S16384x2048_S64x2048_S16384x64_1_1_0_0_n_n_wf : DotDims.WF S16384x2048 S64x2048 S16384x64 [1] [1] [0] [0] [] []

variable [Facts]

def dot_S16384x2048_S64x2048_S16384x64_1_1_0_0_n_n : DotDims S16384x2048 S64x2048 S16384x64 where
  lhsContracting := [1]
  rhsContracting := [1]
  lhsNonContracting := [0]
  rhsNonContracting := [0]
  lhsBatch := []
  rhsBatch := []
  wf := dot_S16384x2048_S64x2048_S16384x64_1_1_0_0_n_n_wf
def fn_part1 {F : FTy → Type} [FloatOps F] (main_v12 : FVec F S16384x8 .f32) (main_v17 : IVec S16384x64x64 1) (main_v20 : IVec S1x64x64 1) : IVec S16384x8 1 × IVec S16384x8 1 :=
  let main_v21 : IVec S16384x64x64 1 := noti main_v17
  let main_v22 : IVec S16384x64x64 1 := broadcastInDim S16384x64x64 ![0, 1, 2] bcast_S1x64x64_S16384x64x64_0_1_2 main_v20
  let main_v23 : IVec S16384x64x64 1 := ori main_v21 main_v22
  let main_c : IVec S_ 1 := constantI S_ 1 1#1
  let main_v24 : IVec S16384 1 := (fun x v => Host.reduce IntOp.andi x v reducesTo_S16384x64x64_S16384_d1_2 h_S_) main_v23 main_c
  let main_v25 : IVec S16384x1 1 := broadcastInDim S16384x1 ![0] bcast_S16384_S16384x1_0 main_v24
  let main_v26 : IVec S16384x8 1 := broadcastInDim S16384x8 ![0, 1] bcast_S16384x1_S16384x8_0_1 main_v25
  let main_v27 : FVec F S16384x8x1 .f32 := broadcastInDim S16384x8x1 ![0, 1] bcast_S16384x8_S16384x8x1_0_1 main_v12
  let main_v28 : FVec F S16384x1x8 .f32 := broadcastInDim S16384x1x8 ![0, 2] bcast_S16384x8_S16384x1x8_0_2 main_v12
  let main_v29 : FVec F S16384x8x8 .f32 := broadcastInDim S16384x8x8 ![0, 1, 2] bcast_S16384x8x1_S16384x8x8_0_1_2 main_v27
  let main_v30 : FVec F S16384x8x8 .f32 := broadcastInDim S16384x8x8 ![0, 1, 2] bcast_S16384x1x8_S16384x8x8_0_1_2 main_v28
  let main_v31 : IVec S16384x8x8 1 := cmpf .oeq main_v29 main_v30
  let main_v32 : IVec S1x8x8 32 := iotaInDim S1x8x8 32 1
  let main_v33 : IVec S1x8x8 32 := iotaInDim S1x8x8 32 2
  let main_v34 : IVec S1x8x8 1 := cmpi .eq main_v32 main_v33
  let main_v35 : IVec S16384x8x8 1 := noti main_v31
  let main_v36 : IVec S16384x8x8 1 := broadcastInDim S16384x8x8 ![0, 1, 2] bcast_S1x8x8_S16384x8x8_0_1_2 main_v34
  let main_v37 : IVec S16384x8x8 1 := ori main_v35 main_v36
  let main_c_2 : IVec S_ 1 := constantI S_ 1 1#1
  let main_v38 : IVec S16384 1 := (fun x v => Host.reduce IntOp.andi x v reducesTo_S16384x8x8_S16384_d1_2 h_S_) main_v37 main_c_2
  let main_v39 : IVec S16384x1 1 := broadcastInDim S16384x1 ![0] bcast_S16384_S16384x1_0 main_v38
  let main_v40 : IVec S16384x8 1 := broadcastInDim S16384x8 ![0, 1] bcast_S16384x1_S16384x8_0_1 main_v39
  (main_v26, main_v40)

def fn {F : FTy → Type} [FloatOps F] (main_arg0 : FVec F S4x4096x2048 .f32) (main_arg1 : FVec F S64x2048 .f32) : IVec S16384x8 1 × IVec S16384x8 1 :=
  let main_v0 : FVec F S16384x2048 .f32 := shapeCast S16384x2048 main_arg0 shapeCasts_S4x4096x2048_S16384x2048
  let main_v1 : FVec F S16384x64 .f32 := (fun l r => Host.dotGeneral dot_S16384x2048_S64x2048_S16384x64_1_1_0_0_n_n none l r) main_v0 main_arg1
  let main_cst : FVec F S_ .f32 := constant S_ .f32 0xFF800000#32
  let main_v2 : FVec F S16384 .f32 := (fun x v => Host.reduce FloatOps.maximumf x v reducesTo_S16384x64_S16384_d1 h_S_) main_v1 main_cst
  let main_v3 : FVec F S16384x1 .f32 := broadcastInDim S16384x1 ![0] bcast_S16384_S16384x1_0 main_v2
  let main_v4 : FVec F S16384x64 .f32 := broadcastInDim S16384x64 ![0, 1] bcast_S16384x1_S16384x64_0_1 main_v3
  let main_v5 : FVec F S16384x64 .f32 := subf main_v1 main_v4
  let main_v6 : FVec F S16384x64 .f32 := Host.exp main_v5
  let main_cst_0 : FVec F S_ .f32 := constant S_ .f32 0x00000000#32
  let main_v7 : FVec F S16384 .f32 := (fun x v => Host.reduceAdd x v reducesTo_S16384x64_S16384_d1 h_S_) main_v6 main_cst_0
  let main_v8 : FVec F S16384x1 .f32 := broadcastInDim S16384x1 ![0] bcast_S16384_S16384x1_0 main_v7
  let main_v9 : FVec F S16384x64 .f32 := broadcastInDim S16384x64 ![0, 1] bcast_S16384x1_S16384x64_0_1 main_v8
  let main_v10 : FVec F S16384x64 .f32 := Host.divf main_v6 main_v9
  let main_v11 : FVec F S16384x8x8 .f32 := shapeCast S16384x8x8 main_v10 shapeCasts_S16384x64_S16384x8x8
  let main_cst_1 : FVec F S_ .f32 := constant S_ .f32 0xFF800000#32
  let main_v12 : FVec F S16384x8 .f32 := (fun x v => Host.reduce FloatOps.maximumf x v reducesTo_S16384x8x8_S16384x8_d2 h_S_) main_v11 main_cst_1
  let main_v13 : FVec F S16384x64x1 .f32 := broadcastInDim S16384x64x1 ![0, 1] bcast_S16384x64_S16384x64x1_0_1 main_v10
  let main_v14 : FVec F S16384x1x64 .f32 := broadcastInDim S16384x1x64 ![0, 2] bcast_S16384x64_S16384x1x64_0_2 main_v10
  let main_v15 : FVec F S16384x64x64 .f32 := broadcastInDim S16384x64x64 ![0, 1, 2] bcast_S16384x64x1_S16384x64x64_0_1_2 main_v13
  let main_v16 : FVec F S16384x64x64 .f32 := broadcastInDim S16384x64x64 ![0, 1, 2] bcast_S16384x1x64_S16384x64x64_0_1_2 main_v14
  let main_v17 : IVec S16384x64x64 1 := cmpf .oeq main_v15 main_v16
  let main_v18 : IVec S1x64x64 32 := iotaInDim S1x64x64 32 1
  let main_v19 : IVec S1x64x64 32 := iotaInDim S1x64x64 32 2
  let main_v20 : IVec S1x64x64 1 := cmpi .eq main_v18 main_v19
  fn_part1 (F := F) main_v12 main_v17 main_v20
-- ==== Kernel.lean ====
abbrev S4x4096x2048 : Shape := ⟨3, ![4, 4096, 2048]⟩
abbrev S64x2048 : Shape := ⟨2, ![64, 2048]⟩
abbrev S16384x2048 : Shape := ⟨2, ![16384, 2048]⟩
abbrev S64x16384 : Shape := ⟨2, ![64, 16384]⟩
abbrev S2048x2048 : Shape := ⟨2, ![2048, 2048]⟩
abbrev S2048 : Shape := ⟨1, ![2048]⟩
abbrev S1x2048 : Shape := ⟨2, ![1, 2048]⟩
abbrev S8x16384 : Shape := ⟨2, ![8, 16384]⟩
abbrev S64x512 : Shape := ⟨2, ![64, 512]⟩
abbrev S8x512 : Shape := ⟨2, ![8, 512]⟩
abbrev S_ : Shape := ⟨0, ![]⟩
abbrev S16 : Shape := ⟨1, ![16]⟩
abbrev S1x16 : Shape := ⟨2, ![1, 16]⟩
abbrev S16384x8 : Shape := ⟨2, ![16384, 8]⟩

abbrev nBuf : Table → Nat
  | .hbm => 8
  | .local .tc .vmem => 5
  | .local .scVector .vmem => 3
  | _ => 0

abbrev bufTy : (tb : Table) → Fin (nBuf tb) → BufTy
  | .hbm, ⟨0, _⟩ => ⟨S4x4096x2048, .f32⟩
  | .hbm, ⟨1, _⟩ => ⟨S64x2048, .f32⟩
  | .hbm, ⟨2, _⟩ => ⟨S16384x2048, .f32⟩
  | .hbm, ⟨3, _⟩ => ⟨S64x16384, .f32⟩
  | .hbm, ⟨4, _⟩ => ⟨S8x16384, .i32⟩
  | .hbm, ⟨5, _⟩ => ⟨S8x16384, .f32⟩
  | .hbm, ⟨6, _⟩ => ⟨S16384x8, .i32⟩
  | .hbm, ⟨7, _⟩ => ⟨S16384x8, .f32⟩
  | .local .tc .vmem, ⟨0, _⟩ => ⟨S2048x2048, .f32⟩
  | .local .tc .vmem, ⟨1, _⟩ => ⟨S2048x2048, .f32⟩
  | .local .tc .vmem, ⟨2, _⟩ => ⟨S64x2048, .f32⟩
  | .local .tc .vmem, ⟨3, _⟩ => ⟨S64x2048, .f32⟩
  | .local .tc .vmem, ⟨4, _⟩ => ⟨S64x2048, .f32⟩
  | .local .scVector .vmem, ⟨0, _⟩ => ⟨S64x512, .f32⟩
  | .local .scVector .vmem, ⟨1, _⟩ => ⟨S8x512, .i32⟩
  | .local .scVector .vmem, ⟨2, _⟩ => ⟨S8x512, .f32⟩
  | _, _ => ⟨S4x4096x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v1_scv : Ref sig .scVector := ⟨.hbm, 3, rfl⟩
abbrev main_v2_0_scv : Ref sig .scVector := ⟨.hbm, 4, rfl⟩
abbrev main_v2_1_scv : Ref sig .scVector := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 2 → Nat :=
  let c0_i32_4_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
@[reducible] def k1_t1_loop : Scf.Loop 32 :=
  let c0_i32_1 : BitVec 32 := 0#32
  let c32_i32 : BitVec 32 := 32#32
  let v12 : BitVec 32 := Scalar.addi c0_i32_1 c32_i32
  let c1_i32_2 : BitVec 32 := 1#32
  ⟨c0_i32_1, v12, c1_i32_2⟩
def k1_off2 (k1_t1 : Fin k1_t1_loop.trips) : Fin 2 → Nat :=
  let c0_i32_7 : BitVec 32 := 0#32
  let v19 : Index := Scalar.indexCast c0_i32_7
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_6 : BitVec 32 := 16#32
  let v18 : BitVec 32 := Scalar.muli v14 c16_i32_6
  let v20 : Index := Scalar.indexCast v18
  ![0, v20.toNat]
def k1_off3 (k1_t1 : Fin k1_t1_loop.trips) : Fin 2 → Nat :=
  let c1_i32_9 : BitVec 32 := 1#32
  let v23 : Index := Scalar.indexCast c1_i32_9
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_8 : BitVec 32 := 16#32
  let v22 : BitVec 32 := Scalar.muli v14 c16_i32_8
  let v24 : Index := Scalar.indexCast v22
  ![1, v24.toNat]
def k1_off4 (k1_t1 : Fin k1_t1_loop.trips) : Fin 2 → Nat :=
  let c2_i32_11 : BitVec 32 := 2#32
  let v28 : Index := Scalar.indexCast c2_i32_11
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_10 : BitVec 32 := 16#32
  let v27 : BitVec 32 := Scalar.muli v14 c16_i32_10
  let v29 : Index := Scalar.indexCast v27
  ![2, v29.toNat]
def k1_off5 (k1_t1 : Fin k1_t1_loop.trips) : Fin 2 → Nat :=
  let c3_i32_13 : BitVec 32 := 3#32
  let v33 : Index := Scalar.indexCast c3_i32_13
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_12 : BitVec 32 := 16#32
  let v32 : BitVec 32 := Scalar.muli v14 c16_i32_12
  let v34 : Index := Scalar.indexCast v32
  ![3, v34.toNat]
def k1_off6 (k1_t1 : Fin k1_t1_loop.trips) : Fin 2 → Nat :=
  let c4_i32_15 : BitVec 32 := 4#32
  let v38 : Index := Scalar.indexCast c4_i32_15
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_14 : BitVec 32 := 16#32
  let v37 : BitVec 32 := Scalar.muli v14 c16_i32_14
  let v39 : Index := Scalar.indexCast v37
  ![4, v39.toNat]
def k1_off7 (k1_t1 : Fin k1_t1_loop.trips) : Fin 2 → Nat :=
  let c5_i32_17 : BitVec 32 := 5#32
  let v43 : Index := Scalar.indexCast c5_i32_17
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_16 : BitVec 32 := 16#32
  let v42 : BitVec 32 := Scalar.muli v14 c16_i32_16
  let v44 : Index := Scalar.indexCast v42
  ![5, v44.toNat]
def k1_off8 (k1_t1 : Fin k1_t1_loop.trips) : Fin 2 → Nat :=
  let c6_i32_19 : BitVec 32 := 6#32
  let v48 : Index := Scalar.indexCast c6_i32_19
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_18 : BitVec 32 := 16#32
  let v47 : BitVec 32 := Scalar.muli v14 c16_i32_18
  let v49 : Index := Scalar.indexCast v47
  ![6, v49.toNat]
def k1_off9 (k1_t1 : Fin k1_t1_loop.trips) : Fin 2 → Nat :=
  let c7_i32_21 : BitVec 32 := 7#32
  let v53 : Index := Scalar.indexCast c7_i32_21
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_20 : BitVec 32 := 16#32
  let v52 : BitVec 32 := Scalar.muli v14 c16_i32_20
  let v54 : Index := Scalar.indexCast v52
  ![7, v54.toNat]
def k1_off10 (k1_t1 : Fin k1_t1_loop.trips) : Fin 2 → Nat :=
  let c8_i32 : BitVec 32 := 8#32
  let v58 : Index := Scalar.indexCast c8_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_22 : BitVec 32 := 16#32
  let v57 : BitVec 32 := Scalar.muli v14 c16_i32_22
  let v59 : Index := Scalar.indexCast v57
  ![8, v59.toNat]
def k1_off11 (k1_t1 : Fin k1_t1_loop.trips) : Fin 2 → Nat :=
  let c9_i32 : BitVec 32 := 9#32
  let v62 : Index := Scalar.indexCast c9_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_23 : BitVec 32 := 16#32
  let v61 : BitVec 32 := Scalar.muli v14 c16_i32_23
  let v63 : Index := Scalar.indexCast v61
  ![9, v63.toNat]
def k1_off12 (k1_t1 : Fin k1_t1_loop.trips) : Fin 2 → Nat :=
  let c10_i32 : BitVec 32 := 10#32
  let v67 : Index := Scalar.indexCast c10_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_24 : BitVec 32 := 16#32
  let v66 : BitVec 32 := Scalar.muli v14 c16_i32_24
  let v68 : Index := Scalar.indexCast v66
  ![10, v68.toNat]
def k1_off13 (k1_t1 : Fin k1_t1_loop.trips) : Fin 2 → Nat :=
  let c11_i32 : BitVec 32 := 11#32
  let v72 : Index := Scalar.indexCast c11_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_25 : BitVec 32 := 16#32
  let v71 : BitVec 32 := Scalar.muli v14 c16_i32_25
  let v73 : Index := Scalar.indexCast v71
  ![11, v73.toNat]
def k1_off14 (k1_t1 : Fin k1_t1_loop.trips) : Fin 2 → Nat :=
  let c12_i32 : BitVec 32 := 12#32
  let v77 : Index := Scalar.indexCast c12_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_26 : BitVec 32 := 16#32
  let v76 : BitVec 32 := Scalar.muli v14 c16_i32_26
  let v78 : Index := Scalar.indexCast v76
  ![12, v78.toNat]
def k1_off15 (k1_t1 : Fin k1_t1_loop.trips) : Fin 2 → Nat :=
  let c13_i32 : BitVec 32 := 13#32
  let v82 : Index := Scalar.indexCast c13_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_27 : BitVec 32 := 16#32
  let v81 : BitVec 32 := Scalar.muli v14 c16_i32_27
  let v83 : Index := Scalar.indexCast v81
  ![13, v83.toNat]
def k1_off16 (k1_t1 : Fin k1_t1_loop.trips) : Fin 2 → Nat :=
  let c14_i32 : BitVec 32 := 14#32
  let v87 : Index := Scalar.indexCast c14_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_28 : BitVec 32 := 16#32
  let v86 : BitVec 32 := Scalar.muli v14 c16_i32_28
  let v88 : Index := Scalar.indexCast v86
  ![14, v88.toNat]
def k1_off17 (k1_t1 : Fin k1_t1_loop.trips) : Fin 2 → Nat :=
  let c15_i32 : BitVec 32 := 15#32
  let v92 : Index := Scalar.indexCast c15_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_29 : BitVec 32 := 16#32
  let v91 : BitVec 32 := Scalar.muli v14 c16_i32_29
  let v93 : Index := Scalar.indexCast v91
  ![15, v93.toNat]
def k1_off18 (k1_t1 : Fin k1_t1_loop.trips) : Fin 2 → Nat :=
  let c16_i32_31 : BitVec 32 := 16#32
  let v97 : Index := Scalar.indexCast c16_i32_31
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_30 : BitVec 32 := 16#32
  let v96 : BitVec 32 := Scalar.muli v14 c16_i32_30
  let v98 : Index := Scalar.indexCast v96
  ![16, v98.toNat]
def k1_off19 (k1_t1 : Fin k1_t1_loop.trips) : Fin 2 → Nat :=
  let c17_i32 : BitVec 32 := 17#32
  let v101 : Index := Scalar.indexCast c17_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_32 : BitVec 32 := 16#32
  let v100 : BitVec 32 := Scalar.muli v14 c16_i32_32
  let v102 : Index := Scalar.indexCast v100
  ![17, v102.toNat]
def k1_off20 (k1_t1 : Fin k1_t1_loop.trips) : Fin 2 → Nat :=
  let c18_i32 : BitVec 32 := 18#32
  let v106 : Index := Scalar.indexCast c18_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_33 : BitVec 32 := 16#32
  let v105 : BitVec 32 := Scalar.muli v14 c16_i32_33
  let v107 : Index := Scalar.indexCast v105
  ![18, v107.toNat]
def k1_off21 (k1_t1 : Fin k1_t1_loop.trips) : Fin 2 → Nat :=
  let c19_i32 : BitVec 32 := 19#32
  let v111 : Index := Scalar.indexCast c19_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_34 : BitVec 32 := 16#32
  let v110 : BitVec 32 := Scalar.muli v14 c16_i32_34
  let v112 : Index := Scalar.indexCast v110
  ![19, v112.toNat]
def k1_off22 (k1_t1 : Fin k1_t1_loop.trips) : Fin 2 → Nat :=
  let c20_i32 : BitVec 32 := 20#32
  let v116 : Index := Scalar.indexCast c20_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_35 : BitVec 32 := 16#32
  let v115 : BitVec 32 := Scalar.muli v14 c16_i32_35
  let v117 : Index := Scalar.indexCast v115
  ![20, v117.toNat]
def k1_off23 (k1_t1 : Fin k1_t1_loop.trips) : Fin 2 → Nat :=
  let c21_i32 : BitVec 32 := 21#32
  let v121 : Index := Scalar.indexCast c21_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_36 : BitVec 32 := 16#32
  let v120 : BitVec 32 := Scalar.muli v14 c16_i32_36
  let v122 : Index := Scalar.indexCast v120
  ![21, v122.toNat]
def k1_off24 (k1_t1 : Fin k1_t1_loop.trips) : Fin 2 → Nat :=
  let c22_i32 : BitVec 32 := 22#32
  let v126 : Index := Scalar.indexCast c22_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_37 : BitVec 32 := 16#32
  let v125 : BitVec 32 := Scalar.muli v14 c16_i32_37
  let v127 : Index := Scalar.indexCast v125
  ![22, v127.toNat]
def k1_off25 (k1_t1 : Fin k1_t1_loop.trips) : Fin 2 → Nat :=
  let c23_i32 : BitVec 32 := 23#32
  let v131 : Index := Scalar.indexCast c23_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_38 : BitVec 32 := 16#32
  let v130 : BitVec 32 := Scalar.muli v14 c16_i32_38
  let v132 : Index := Scalar.indexCast v130
  ![23, v132.toNat]
def k1_off26 (k1_t1 : Fin k1_t1_loop.trips) : Fin 2 → Nat :=
  let c24_i32 : BitVec 32 := 24#32
  let v136 : Index := Scalar.indexCast c24_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_39 : BitVec 32 := 16#32
  let v135 : BitVec 32 := Scalar.muli v14 c16_i32_39
  let v137 : Index := Scalar.indexCast v135
  ![24, v137.toNat]
def k1_off27 (k1_t1 : Fin k1_t1_loop.trips) : Fin 2 → Nat :=
  let c25_i32 : BitVec 32 := 25#32
  let v140 : Index := Scalar.indexCast c25_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_40 : BitVec 32 := 16#32
  let v139 : BitVec 32 := Scalar.muli v14 c16_i32_40
  let v141 : Index := Scalar.indexCast v139
  ![25, v141.toNat]
def k1_off28 (k1_t1 : Fin k1_t1_loop.trips) : Fin 2 → Nat :=
  let c26_i32 : BitVec 32 := 26#32
  let v145 : Index := Scalar.indexCast c26_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_41 : BitVec 32 := 16#32
  let v144 : BitVec 32 := Scalar.muli v14 c16_i32_41
  let v146 : Index := Scalar.indexCast v144
  ![26, v146.toNat]
def k1_off29 (k1_t1 : Fin k1_t1_loop.trips) : Fin 2 → Nat :=
  let c27_i32 : BitVec 32 := 27#32
  let v150 : Index := Scalar.indexCast c27_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_42 : BitVec 32 := 16#32
  let v149 : BitVec 32 := Scalar.muli v14 c16_i32_42
  let v151 : Index := Scalar.indexCast v149
  ![27, v151.toNat]
def k1_off30 (k1_t1 : Fin k1_t1_loop.trips) : Fin 2 → Nat :=
  let c28_i32 : BitVec 32 := 28#32
  let v155 : Index := Scalar.indexCast c28_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_43 : BitVec 32 := 16#32
  let v154 : BitVec 32 := Scalar.muli v14 c16_i32_43
  let v156 : Index := Scalar.indexCast v154
  ![28, v156.toNat]
def k1_off31 (k1_t1 : Fin k1_t1_loop.trips) : Fin 2 → Nat :=
  let c29_i32 : BitVec 32 := 29#32
  let v160 : Index := Scalar.indexCast c29_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_44 : BitVec 32 := 16#32
  let v159 : BitVec 32 := Scalar.muli v14 c16_i32_44
  let v161 : Index := Scalar.indexCast v159
  ![29, v161.toNat]
def k1_off32 (k1_t1 : Fin k1_t1_loop.trips) : Fin 2 → Nat :=
  let c30_i32 : BitVec 32 := 30#32
  let v165 : Index := Scalar.indexCast c30_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_45 : BitVec 32 := 16#32
  let v164 : BitVec 32 := Scalar.muli v14 c16_i32_45
  let v166 : Index := Scalar.indexCast v164
  ![30, v166.toNat]
def k1_off33 (k1_t1 : Fin k1_t1_loop.trips) : Fin 2 → Nat :=
  let c31_i32 : BitVec 32 := 31#32
  let v170 : Index := Scalar.indexCast c31_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_46 : BitVec 32 := 16#32
  let v169 : BitVec 32 := Scalar.muli v14 c16_i32_46
  let v171 : Index := Scalar.indexCast v169
  ![31, v171.toNat]
def k1_off34 (k1_t1 : Fin k1_t1_loop.trips) : Fin 2 → Nat :=
  let c32_i32_48 : BitVec 32 := 32#32
  let v175 : Index := Scalar.indexCast c32_i32_48
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_47 : BitVec 32 := 16#32
  let v174 : BitVec 32 := Scalar.muli v14 c16_i32_47
  let v176 : Index := Scalar.indexCast v174
  ![32, v176.toNat]
def k1_off35 (k1_t1 : Fin k1_t1_loop.trips) : Fin 2 → Nat :=
  let c33_i32 : BitVec 32 := 33#32
  let v179 : Index := Scalar.indexCast c33_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_49 : BitVec 32 := 16#32
  let v178 : BitVec 32 := Scalar.muli v14 c16_i32_49
  let v180 : Index := Scalar.indexCast v178
  ![33, v180.toNat]
def k1_off36 (k1_t1 : Fin k1_t1_loop.trips) : Fin 2 → Nat :=
  let c34_i32 : BitVec 32 := 34#32
  let v184 : Index := Scalar.indexCast c34_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_50 : BitVec 32 := 16#32
  let v183 : BitVec 32 := Scalar.muli v14 c16_i32_50
  let v185 : Index := Scalar.indexCast v183
  ![34, v185.toNat]
def k1_off37 (k1_t1 : Fin k1_t1_loop.trips) : Fin 2 → Nat :=
  let c35_i32 : BitVec 32 := 35#32
  let v189 : Index := Scalar.indexCast c35_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_51 : BitVec 32 := 16#32
  let v188 : BitVec 32 := Scalar.muli v14 c16_i32_51
  let v190 : Index := Scalar.indexCast v188
  ![35, v190.toNat]
def k1_off38 (k1_t1 : Fin k1_t1_loop.trips) : Fin 2 → Nat :=
  let c36_i32 : BitVec 32 := 36#32
  let v194 : Index := Scalar.indexCast c36_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_52 : BitVec 32 := 16#32
  let v193 : BitVec 32 := Scalar.muli v14 c16_i32_52
  let v195 : Index := Scalar.indexCast v193
  ![36, v195.toNat]
def k1_off39 (k1_t1 : Fin k1_t1_loop.trips) : Fin 2 → Nat :=
  let c37_i32 : BitVec 32 := 37#32
  let v199 : Index := Scalar.indexCast c37_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_53 : BitVec 32 := 16#32
  let v198 : BitVec 32 := Scalar.muli v14 c16_i32_53
  let v200 : Index := Scalar.indexCast v198
  ![37, v200.toNat]
def k1_off40 (k1_t1 : Fin k1_t1_loop.trips) : Fin 2 → Nat :=
  let c38_i32 : BitVec 32 := 38#32
  let v204 : Index := Scalar.indexCast c38_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_54 : BitVec 32 := 16#32
  let v203 : BitVec 32 := Scalar.muli v14 c16_i32_54
  let v205 : Index := Scalar.indexCast v203
  ![38, v205.toNat]
def k1_off41 (k1_t1 : Fin k1_t1_loop.trips) : Fin 2 → Nat :=
  let c39_i32 : BitVec 32 := 39#32
  let v209 : Index := Scalar.indexCast c39_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_55 : BitVec 32 := 16#32
  let v208 : BitVec 32 := Scalar.muli v14 c16_i32_55
  let v210 : Index := Scalar.indexCast v208
  ![39, v210.toNat]
def k1_off42 (k1_t1 : Fin k1_t1_loop.trips) : Fin 2 → Nat :=
  let c40_i32 : BitVec 32 := 40#32
  let v214 : Index := Scalar.indexCast c40_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_56 : BitVec 32 := 16#32
  let v213 : BitVec 32 := Scalar.muli v14 c16_i32_56
  let v215 : Index := Scalar.indexCast v213
  ![40, v215.toNat]
def k1_off43 (k1_t1 : Fin k1_t1_loop.trips) : Fin 2 → Nat :=
  let c41_i32 : BitVec 32 := 41#32
  let v218 : Index := Scalar.indexCast c41_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_57 : BitVec 32 := 16#32
  let v217 : BitVec 32 := Scalar.muli v14 c16_i32_57
  let v219 : Index := Scalar.indexCast v217
  ![41, v219.toNat]
def k1_off44 (k1_t1 : Fin k1_t1_loop.trips) : Fin 2 → Nat :=
  let c42_i32 : BitVec 32 := 42#32
  let v223 : Index := Scalar.indexCast c42_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_58 : BitVec 32 := 16#32
  let v222 : BitVec 32 := Scalar.muli v14 c16_i32_58
  let v224 : Index := Scalar.indexCast v222
  ![42, v224.toNat]
def k1_off45 (k1_t1 : Fin k1_t1_loop.trips) : Fin 2 → Nat :=
  let c43_i32 : BitVec 32 := 43#32
  let v228 : Index := Scalar.indexCast c43_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_59 : BitVec 32 := 16#32
  let v227 : BitVec 32 := Scalar.muli v14 c16_i32_59
  let v229 : Index := Scalar.indexCast v227
  ![43, v229.toNat]
def k1_off46 (k1_t1 : Fin k1_t1_loop.trips) : Fin 2 → Nat :=
  let c44_i32 : BitVec 32 := 44#32
  let v233 : Index := Scalar.indexCast c44_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_60 : BitVec 32 := 16#32
  let v232 : BitVec 32 := Scalar.muli v14 c16_i32_60
  let v234 : Index := Scalar.indexCast v232
  ![44, v234.toNat]
def k1_off47 (k1_t1 : Fin k1_t1_loop.trips) : Fin 2 → Nat :=
  let c45_i32 : BitVec 32 := 45#32
  let v238 : Index := Scalar.indexCast c45_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_61 : BitVec 32 := 16#32
  let v237 : BitVec 32 := Scalar.muli v14 c16_i32_61
  let v239 : Index := Scalar.indexCast v237
  ![45, v239.toNat]
def k1_off48 (k1_t1 : Fin k1_t1_loop.trips) : Fin 2 → Nat :=
  let c46_i32 : BitVec 32 := 46#32
  let v243 : Index := Scalar.indexCast c46_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_62 : BitVec 32 := 16#32
  let v242 : BitVec 32 := Scalar.muli v14 c16_i32_62
  let v244 : Index := Scalar.indexCast v242
  ![46, v244.toNat]
def k1_off49 (k1_t1 : Fin k1_t1_loop.trips) : Fin 2 → Nat :=
  let c47_i32 : BitVec 32 := 47#32
  let v248 : Index := Scalar.indexCast c47_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_63 : BitVec 32 := 16#32
  let v247 : BitVec 32 := Scalar.muli v14 c16_i32_63
  let v249 : Index := Scalar.indexCast v247
  ![47, v249.toNat]
def k1_off50 (k1_t1 : Fin k1_t1_loop.trips) : Fin 2 → Nat :=
  let c48_i32 : BitVec 32 := 48#32
  let v253 : Index := Scalar.indexCast c48_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_64 : BitVec 32 := 16#32
  let v252 : BitVec 32 := Scalar.muli v14 c16_i32_64
  let v254 : Index := Scalar.indexCast v252
  ![48, v254.toNat]
def k1_off51 (k1_t1 : Fin k1_t1_loop.trips) : Fin 2 → Nat :=
  let c49_i32 : BitVec 32 := 49#32
  let v257 : Index := Scalar.indexCast c49_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_65 : BitVec 32 := 16#32
  let v256 : BitVec 32 := Scalar.muli v14 c16_i32_65
  let v258 : Index := Scalar.indexCast v256
  ![49, v258.toNat]
def k1_off52 (k1_t1 : Fin k1_t1_loop.trips) : Fin 2 → Nat :=
  let c50_i32 : BitVec 32 := 50#32
  let v262 : Index := Scalar.indexCast c50_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_66 : BitVec 32 := 16#32
  let v261 : BitVec 32 := Scalar.muli v14 c16_i32_66
  let v263 : Index := Scalar.indexCast v261
  ![50, v263.toNat]
def k1_off53 (k1_t1 : Fin k1_t1_loop.trips) : Fin 2 → Nat :=
  let c51_i32 : BitVec 32 := 51#32
  let v267 : Index := Scalar.indexCast c51_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_67 : BitVec 32 := 16#32
  let v266 : BitVec 32 := Scalar.muli v14 c16_i32_67
  let v268 : Index := Scalar.indexCast v266
  ![51, v268.toNat]
def k1_off54 (k1_t1 : Fin k1_t1_loop.trips) : Fin 2 → Nat :=
  let c52_i32 : BitVec 32 := 52#32
  let v272 : Index := Scalar.indexCast c52_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_68 : BitVec 32 := 16#32
  let v271 : BitVec 32 := Scalar.muli v14 c16_i32_68
  let v273 : Index := Scalar.indexCast v271
  ![52, v273.toNat]
def k1_off55 (k1_t1 : Fin k1_t1_loop.trips) : Fin 2 → Nat :=
  let c53_i32 : BitVec 32 := 53#32
  let v277 : Index := Scalar.indexCast c53_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_69 : BitVec 32 := 16#32
  let v276 : BitVec 32 := Scalar.muli v14 c16_i32_69
  let v278 : Index := Scalar.indexCast v276
  ![53, v278.toNat]
def k1_off56 (k1_t1 : Fin k1_t1_loop.trips) : Fin 2 → Nat :=
  let c54_i32 : BitVec 32 := 54#32
  let v282 : Index := Scalar.indexCast c54_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_70 : BitVec 32 := 16#32
  let v281 : BitVec 32 := Scalar.muli v14 c16_i32_70
  let v283 : Index := Scalar.indexCast v281
  ![54, v283.toNat]
def k1_off57 (k1_t1 : Fin k1_t1_loop.trips) : Fin 2 → Nat :=
  let c55_i32 : BitVec 32 := 55#32
  let v287 : Index := Scalar.indexCast c55_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_71 : BitVec 32 := 16#32
  let v286 : BitVec 32 := Scalar.muli v14 c16_i32_71
  let v288 : Index := Scalar.indexCast v286
  ![55, v288.toNat]
def k1_off58 (k1_t1 : Fin k1_t1_loop.trips) : Fin 2 → Nat :=
  let c56_i32 : BitVec 32 := 56#32
  let v292 : Index := Scalar.indexCast c56_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_72 : BitVec 32 := 16#32
  let v291 : BitVec 32 := Scalar.muli v14 c16_i32_72
  let v293 : Index := Scalar.indexCast v291
  ![56, v293.toNat]
def k1_off59 (k1_t1 : Fin k1_t1_loop.trips) : Fin 2 → Nat :=
  let c57_i32 : BitVec 32 := 57#32
  let v296 : Index := Scalar.indexCast c57_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_73 : BitVec 32 := 16#32
  let v295 : BitVec 32 := Scalar.muli v14 c16_i32_73
  let v297 : Index := Scalar.indexCast v295
  ![57, v297.toNat]
def k1_off60 (k1_t1 : Fin k1_t1_loop.trips) : Fin 2 → Nat :=
  let c58_i32 : BitVec 32 := 58#32
  let v301 : Index := Scalar.indexCast c58_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_74 : BitVec 32 := 16#32
  let v300 : BitVec 32 := Scalar.muli v14 c16_i32_74
  let v302 : Index := Scalar.indexCast v300
  ![58, v302.toNat]
def k1_off61 (k1_t1 : Fin k1_t1_loop.trips) : Fin 2 → Nat :=
  let c59_i32 : BitVec 32 := 59#32
  let v306 : Index := Scalar.indexCast c59_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_75 : BitVec 32 := 16#32
  let v305 : BitVec 32 := Scalar.muli v14 c16_i32_75
  let v307 : Index := Scalar.indexCast v305
  ![59, v307.toNat]
def k1_off62 (k1_t1 : Fin k1_t1_loop.trips) : Fin 2 → Nat :=
  let c60_i32 : BitVec 32 := 60#32
  let v311 : Index := Scalar.indexCast c60_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_76 : BitVec 32 := 16#32
  let v310 : BitVec 32 := Scalar.muli v14 c16_i32_76
  let v312 : Index := Scalar.indexCast v310
  ![60, v312.toNat]
def k1_off63 (k1_t1 : Fin k1_t1_loop.trips) : Fin 2 → Nat :=
  let c61_i32 : BitVec 32 := 61#32
  let v316 : Index := Scalar.indexCast c61_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_77 : BitVec 32 := 16#32
  let v315 : BitVec 32 := Scalar.muli v14 c16_i32_77
  let v317 : Index := Scalar.indexCast v315
  ![61, v317.toNat]
def k1_off64 (k1_t1 : Fin k1_t1_loop.trips) : Fin 2 → Nat :=
  let c62_i32 : BitVec 32 := 62#32
  let v321 : Index := Scalar.indexCast c62_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_78 : BitVec 32 := 16#32
  let v320 : BitVec 32 := Scalar.muli v14 c16_i32_78
  let v322 : Index := Scalar.indexCast v320
  ![62, v322.toNat]
def k1_off65 (k1_t1 : Fin k1_t1_loop.trips) : Fin 2 → Nat :=
  let c63_i32 : BitVec 32 := 63#32
  let v326 : Index := Scalar.indexCast c63_i32
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_79 : BitVec 32 := 16#32
  let v325 : BitVec 32 := Scalar.muli v14 c16_i32_79
  let v327 : Index := Scalar.indexCast v325
  ![63, v327.toNat]

def k1_chk1 (v17 : IVec S16 32) (v428 : IVec S16 32) : Prop :=
  (∀ a x, ((![v428, v17] : Fin 2 → IVec S16 32) a x).toNat < S64x512.size a)
theorem k1_idx1_inb : ∀ (v17 : IVec S16 32) (v428 : IVec S16 32) (k1_hw1 : k1_chk1 v17 v428), ∀ a x, ((![v428, v17] : Fin 2 → IVec S16 32) a x).toNat < S64x512.size a := fun v17 v428 k1_hw1 => k1_hw1

def k1_chk2 (v17 : IVec S16 32) (v431 : IVec S16 32) : Prop :=
  (∀ a x, ((![v431, v17] : Fin 2 → IVec S16 32) a x).toNat < S64x512.size a)
theorem k1_idx2_inb : ∀ (v17 : IVec S16 32) (v431 : IVec S16 32) (k1_hw2 : k1_chk2 v17 v431), ∀ a x, ((![v431, v17] : Fin 2 → IVec S16 32) a x).toNat < S64x512.size a := fun v17 v431 k1_hw2 => k1_hw2

def k1_chk3 (v17 : IVec S16 32) (v434 : IVec S16 32) : Prop :=
  (∀ a x, ((![v434, v17] : Fin 2 → IVec S16 32) a x).toNat < S64x512.size a)
theorem k1_idx3_inb : ∀ (v17 : IVec S16 32) (v434 : IVec S16 32) (k1_hw3 : k1_chk3 v17 v434), ∀ a x, ((![v434, v17] : Fin 2 → IVec S16 32) a x).toNat < S64x512.size a := fun v17 v434 k1_hw3 => k1_hw3

def k1_chk4 (v17 : IVec S16 32) (v437 : IVec S16 32) : Prop :=
  (∀ a x, ((![v437, v17] : Fin 2 → IVec S16 32) a x).toNat < S64x512.size a)
theorem k1_idx4_inb : ∀ (v17 : IVec S16 32) (v437 : IVec S16 32) (k1_hw4 : k1_chk4 v17 v437), ∀ a x, ((![v437, v17] : Fin 2 → IVec S16 32) a x).toNat < S64x512.size a := fun v17 v437 k1_hw4 => k1_hw4

def k1_chk5 (v17 : IVec S16 32) (v440 : IVec S16 32) : Prop :=
  (∀ a x, ((![v440, v17] : Fin 2 → IVec S16 32) a x).toNat < S64x512.size a)
theorem k1_idx5_inb : ∀ (v17 : IVec S16 32) (v440 : IVec S16 32) (k1_hw5 : k1_chk5 v17 v440), ∀ a x, ((![v440, v17] : Fin 2 → IVec S16 32) a x).toNat < S64x512.size a := fun v17 v440 k1_hw5 => k1_hw5

def k1_chk6 (v17 : IVec S16 32) (v443 : IVec S16 32) : Prop :=
  (∀ a x, ((![v443, v17] : Fin 2 → IVec S16 32) a x).toNat < S64x512.size a)
theorem k1_idx6_inb : ∀ (v17 : IVec S16 32) (v443 : IVec S16 32) (k1_hw6 : k1_chk6 v17 v443), ∀ a x, ((![v443, v17] : Fin 2 → IVec S16 32) a x).toNat < S64x512.size a := fun v17 v443 k1_hw6 => k1_hw6

def k1_chk7 (v17 : IVec S16 32) (v446 : IVec S16 32) : Prop :=
  (∀ a x, ((![v446, v17] : Fin 2 → IVec S16 32) a x).toNat < S64x512.size a)
theorem k1_idx7_inb : ∀ (v17 : IVec S16 32) (v446 : IVec S16 32) (k1_hw7 : k1_chk7 v17 v446), ∀ a x, ((![v446, v17] : Fin 2 → IVec S16 32) a x).toNat < S64x512.size a := fun v17 v446 k1_hw7 => k1_hw7

def k1_chk8 (v17 : IVec S16 32) (v449 : IVec S16 32) : Prop :=
  (∀ a x, ((![v449, v17] : Fin 2 → IVec S16 32) a x).toNat < S64x512.size a)
theorem k1_idx8_inb : ∀ (v17 : IVec S16 32) (v449 : IVec S16 32) (k1_hw8 : k1_chk8 v17 v449), ∀ a x, ((![v449, v17] : Fin 2 → IVec S16 32) a x).toNat < S64x512.size a := fun v17 v449 k1_hw8 => k1_hw8

def k1_chk9 (v17 : IVec S16 32) (v454 : IVec S16 32) : Prop :=
  (∀ a x, ((![v454, v17] : Fin 2 → IVec S16 32) a x).toNat < S64x512.size a)
theorem k1_idx9_inb : ∀ (v17 : IVec S16 32) (v454 : IVec S16 32) (k1_hw9 : k1_chk9 v17 v454), ∀ a x, ((![v454, v17] : Fin 2 → IVec S16 32) a x).toNat < S64x512.size a := fun v17 v454 k1_hw9 => k1_hw9

def k1_chk10 (v17 : IVec S16 32) (v457 : IVec S16 32) : Prop :=
  (∀ a x, ((![v457, v17] : Fin 2 → IVec S16 32) a x).toNat < S64x512.size a)
theorem k1_idx10_inb : ∀ (v17 : IVec S16 32) (v457 : IVec S16 32) (k1_hw10 : k1_chk10 v17 v457), ∀ a x, ((![v457, v17] : Fin 2 → IVec S16 32) a x).toNat < S64x512.size a := fun v17 v457 k1_hw10 => k1_hw10

def k1_chk11 (v17 : IVec S16 32) (v460 : IVec S16 32) : Prop :=
  (∀ a x, ((![v460, v17] : Fin 2 → IVec S16 32) a x).toNat < S64x512.size a)
theorem k1_idx11_inb : ∀ (v17 : IVec S16 32) (v460 : IVec S16 32) (k1_hw11 : k1_chk11 v17 v460), ∀ a x, ((![v460, v17] : Fin 2 → IVec S16 32) a x).toNat < S64x512.size a := fun v17 v460 k1_hw11 => k1_hw11

def k1_chk12 (v17 : IVec S16 32) (v463 : IVec S16 32) : Prop :=
  (∀ a x, ((![v463, v17] : Fin 2 → IVec S16 32) a x).toNat < S64x512.size a)
theorem k1_idx12_inb : ∀ (v17 : IVec S16 32) (v463 : IVec S16 32) (k1_hw12 : k1_chk12 v17 v463), ∀ a x, ((![v463, v17] : Fin 2 → IVec S16 32) a x).toNat < S64x512.size a := fun v17 v463 k1_hw12 => k1_hw12

def k1_chk13 (v17 : IVec S16 32) (v466 : IVec S16 32) : Prop :=
  (∀ a x, ((![v466, v17] : Fin 2 → IVec S16 32) a x).toNat < S64x512.size a)
theorem k1_idx13_inb : ∀ (v17 : IVec S16 32) (v466 : IVec S16 32) (k1_hw13 : k1_chk13 v17 v466), ∀ a x, ((![v466, v17] : Fin 2 → IVec S16 32) a x).toNat < S64x512.size a := fun v17 v466 k1_hw13 => k1_hw13

def k1_chk14 (v17 : IVec S16 32) (v469 : IVec S16 32) : Prop :=
  (∀ a x, ((![v469, v17] : Fin 2 → IVec S16 32) a x).toNat < S64x512.size a)
theorem k1_idx14_inb : ∀ (v17 : IVec S16 32) (v469 : IVec S16 32) (k1_hw14 : k1_chk14 v17 v469), ∀ a x, ((![v469, v17] : Fin 2 → IVec S16 32) a x).toNat < S64x512.size a := fun v17 v469 k1_hw14 => k1_hw14

def k1_chk15 (v17 : IVec S16 32) (v472 : IVec S16 32) : Prop :=
  (∀ a x, ((![v472, v17] : Fin 2 → IVec S16 32) a x).toNat < S64x512.size a)
theorem k1_idx15_inb : ∀ (v17 : IVec S16 32) (v472 : IVec S16 32) (k1_hw15 : k1_chk15 v17 v472), ∀ a x, ((![v472, v17] : Fin 2 → IVec S16 32) a x).toNat < S64x512.size a := fun v17 v472 k1_hw15 => k1_hw15

def k1_chk16 (v17 : IVec S16 32) (v475 : IVec S16 32) : Prop :=
  (∀ a x, ((![v475, v17] : Fin 2 → IVec S16 32) a x).toNat < S64x512.size a)
theorem k1_idx16_inb : ∀ (v17 : IVec S16 32) (v475 : IVec S16 32) (k1_hw16 : k1_chk16 v17 v475), ∀ a x, ((![v475, v17] : Fin 2 → IVec S16 32) a x).toNat < S64x512.size a := fun v17 v475 k1_hw16 => k1_hw16

def k1_chk17 (v17 : IVec S16 32) (v480 : IVec S16 32) : Prop :=
  (∀ a x, ((![v480, v17] : Fin 2 → IVec S16 32) a x).toNat < S64x512.size a)
theorem k1_idx17_inb : ∀ (v17 : IVec S16 32) (v480 : IVec S16 32) (k1_hw17 : k1_chk17 v17 v480), ∀ a x, ((![v480, v17] : Fin 2 → IVec S16 32) a x).toNat < S64x512.size a := fun v17 v480 k1_hw17 => k1_hw17

def k1_chk18 (v17 : IVec S16 32) (v483 : IVec S16 32) : Prop :=
  (∀ a x, ((![v483, v17] : Fin 2 → IVec S16 32) a x).toNat < S64x512.size a)
theorem k1_idx18_inb : ∀ (v17 : IVec S16 32) (v483 : IVec S16 32) (k1_hw18 : k1_chk18 v17 v483), ∀ a x, ((![v483, v17] : Fin 2 → IVec S16 32) a x).toNat < S64x512.size a := fun v17 v483 k1_hw18 => k1_hw18

def k1_chk19 (v17 : IVec S16 32) (v486 : IVec S16 32) : Prop :=
  (∀ a x, ((![v486, v17] : Fin 2 → IVec S16 32) a x).toNat < S64x512.size a)
theorem k1_idx19_inb : ∀ (v17 : IVec S16 32) (v486 : IVec S16 32) (k1_hw19 : k1_chk19 v17 v486), ∀ a x, ((![v486, v17] : Fin 2 → IVec S16 32) a x).toNat < S64x512.size a := fun v17 v486 k1_hw19 => k1_hw19

def k1_chk20 (v17 : IVec S16 32) (v489 : IVec S16 32) : Prop :=
  (∀ a x, ((![v489, v17] : Fin 2 → IVec S16 32) a x).toNat < S64x512.size a)
theorem k1_idx20_inb : ∀ (v17 : IVec S16 32) (v489 : IVec S16 32) (k1_hw20 : k1_chk20 v17 v489), ∀ a x, ((![v489, v17] : Fin 2 → IVec S16 32) a x).toNat < S64x512.size a := fun v17 v489 k1_hw20 => k1_hw20

def k1_chk21 (v17 : IVec S16 32) (v492 : IVec S16 32) : Prop :=
  (∀ a x, ((![v492, v17] : Fin 2 → IVec S16 32) a x).toNat < S64x512.size a)
theorem k1_idx21_inb : ∀ (v17 : IVec S16 32) (v492 : IVec S16 32) (k1_hw21 : k1_chk21 v17 v492), ∀ a x, ((![v492, v17] : Fin 2 → IVec S16 32) a x).toNat < S64x512.size a := fun v17 v492 k1_hw21 => k1_hw21

def k1_chk22 (v17 : IVec S16 32) (v495 : IVec S16 32) : Prop :=
  (∀ a x, ((![v495, v17] : Fin 2 → IVec S16 32) a x).toNat < S64x512.size a)
theorem k1_idx22_inb : ∀ (v17 : IVec S16 32) (v495 : IVec S16 32) (k1_hw22 : k1_chk22 v17 v495), ∀ a x, ((![v495, v17] : Fin 2 → IVec S16 32) a x).toNat < S64x512.size a := fun v17 v495 k1_hw22 => k1_hw22

def k1_chk23 (v17 : IVec S16 32) (v498 : IVec S16 32) : Prop :=
  (∀ a x, ((![v498, v17] : Fin 2 → IVec S16 32) a x).toNat < S64x512.size a)
theorem k1_idx23_inb : ∀ (v17 : IVec S16 32) (v498 : IVec S16 32) (k1_hw23 : k1_chk23 v17 v498), ∀ a x, ((![v498, v17] : Fin 2 → IVec S16 32) a x).toNat < S64x512.size a := fun v17 v498 k1_hw23 => k1_hw23

def k1_chk24 (v17 : IVec S16 32) (v501 : IVec S16 32) : Prop :=
  (∀ a x, ((![v501, v17] : Fin 2 → IVec S16 32) a x).toNat < S64x512.size a)
theorem k1_idx24_inb : ∀ (v17 : IVec S16 32) (v501 : IVec S16 32) (k1_hw24 : k1_chk24 v17 v501), ∀ a x, ((![v501, v17] : Fin 2 → IVec S16 32) a x).toNat < S64x512.size a := fun v17 v501 k1_hw24 => k1_hw24
def k1_off66 (k1_t1 : Fin k1_t1_loop.trips) : Fin 2 → Nat :=
  let c0_i32_108 : BitVec 32 := 0#32
  let v966 : Index := Scalar.indexCast c0_i32_108
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_107 : BitVec 32 := 16#32
  let v965 : BitVec 32 := Scalar.muli v14 c16_i32_107
  let v967 : Index := Scalar.indexCast v965
  ![0, v967.toNat]
def k1_off67 (k1_t1 : Fin k1_t1_loop.trips) : Fin 2 → Nat :=
  let c1_i32_112 : BitVec 32 := 1#32
  let v975 : Index := Scalar.indexCast c1_i32_112
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_111 : BitVec 32 := 16#32
  let v974 : BitVec 32 := Scalar.muli v14 c16_i32_111
  let v976 : Index := Scalar.indexCast v974
  ![1, v976.toNat]
def k1_off68 (k1_t1 : Fin k1_t1_loop.trips) : Fin 2 → Nat :=
  let c2_i32_116 : BitVec 32 := 2#32
  let v984 : Index := Scalar.indexCast c2_i32_116
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_115 : BitVec 32 := 16#32
  let v983 : BitVec 32 := Scalar.muli v14 c16_i32_115
  let v985 : Index := Scalar.indexCast v983
  ![2, v985.toNat]
def k1_off69 (k1_t1 : Fin k1_t1_loop.trips) : Fin 2 → Nat :=
  let c3_i32_120 : BitVec 32 := 3#32
  let v993 : Index := Scalar.indexCast c3_i32_120
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_119 : BitVec 32 := 16#32
  let v992 : BitVec 32 := Scalar.muli v14 c16_i32_119
  let v994 : Index := Scalar.indexCast v992
  ![3, v994.toNat]
def k1_off70 (k1_t1 : Fin k1_t1_loop.trips) : Fin 2 → Nat :=
  let c4_i32_124 : BitVec 32 := 4#32
  let v1002 : Index := Scalar.indexCast c4_i32_124
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_123 : BitVec 32 := 16#32
  let v1001 : BitVec 32 := Scalar.muli v14 c16_i32_123
  let v1003 : Index := Scalar.indexCast v1001
  ![4, v1003.toNat]
def k1_off71 (k1_t1 : Fin k1_t1_loop.trips) : Fin 2 → Nat :=
  let c5_i32_128 : BitVec 32 := 5#32
  let v1011 : Index := Scalar.indexCast c5_i32_128
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_127 : BitVec 32 := 16#32
  let v1010 : BitVec 32 := Scalar.muli v14 c16_i32_127
  let v1012 : Index := Scalar.indexCast v1010
  ![5, v1012.toNat]
def k1_off72 (k1_t1 : Fin k1_t1_loop.trips) : Fin 2 → Nat :=
  let c6_i32_132 : BitVec 32 := 6#32
  let v1020 : Index := Scalar.indexCast c6_i32_132
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_131 : BitVec 32 := 16#32
  let v1019 : BitVec 32 := Scalar.muli v14 c16_i32_131
  let v1021 : Index := Scalar.indexCast v1019
  ![6, v1021.toNat]
def k1_off73 (k1_t1 : Fin k1_t1_loop.trips) : Fin 2 → Nat :=
  let c7_i32_136 : BitVec 32 := 7#32
  let v1029 : Index := Scalar.indexCast c7_i32_136
  let c0_i32_5 : BitVec 32 := 0#32
  let c0_i32_1 : BitVec 32 := 0#32
  let c1_i32_2 : BitVec 32 := 1#32
  let arg8 : BitVec 32 := Scf.iv c0_i32_1 c1_i32_2 k1_t1
  let c1_i32_4 : BitVec 32 := 1#32
  let v13 : BitVec 32 := Scalar.muli arg8 c1_i32_4
  let v14 : BitVec 32 := Scalar.addi c0_i32_5 v13
  let c16_i32_135 : BitVec 32 := 16#32
  let v1028 : BitVec 32 := Scalar.muli v14 c16_i32_135
  let v1030 : Index := Scalar.indexCast v1028
  ![7, v1030.toNat]
def k1_off74 (i : grid1.Coords) : Fin 2 → Nat :=
  let c0_i32_4_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096x2048 : Shape := ⟨3, ![4, 4096, 2048]⟩
abbrev S64x2048 : Shape := ⟨2, ![64, 2048]⟩
abbrev S16384x2048 : Shape := ⟨2, ![16384, 2048]⟩
abbrev S2048x64 : Shape := ⟨2, ![2048, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S16384x8x8 : Shape := ⟨3, ![16384, 8, 8]⟩
abbrev S16384x8 : Shape := ⟨2, ![16384, 8]⟩
abbrev S16384x3 : Shape := ⟨2, ![16384, 3]⟩
abbrev S16384x3x1 : Shape := ⟨3, ![16384, 3, 1]⟩
abbrev S16384x3x2 : Shape := ⟨3, ![16384, 3, 2]⟩

abbrev nBuf : Space → Nat
  | .hbm => 69
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S16384x2048, .f32⟩
  | .hbm, ⟨3, _⟩ => ⟨S2048x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S16384x1, .f32⟩
  | .hbm, ⟨11, _⟩ => ⟨S16384x64, .f32⟩
  | .hbm, ⟨12, _⟩ => ⟨S16384x64, .f32⟩
  | .hbm, ⟨13, _⟩ => ⟨S16384x64, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S16384x64, .f32⟩
  | .hbm, ⟨18, _⟩ => ⟨S16384x64, .f32⟩
  | .hbm, ⟨19, _⟩ => ⟨S16384x8x8, .f32⟩
  | .hbm, ⟨20, _⟩ => ⟨S_, .f32⟩
  | .hbm, ⟨21, _⟩ => ⟨S16384x8, .f32⟩
  | .hbm, ⟨22, _⟩ => ⟨S16384x3, .f32⟩
  | .hbm, ⟨23, _⟩ => ⟨S16384x3, .i32⟩
  | .hbm, ⟨24, _⟩ => ⟨S_, .f32⟩
  | .hbm, ⟨25, _⟩ => ⟨S16384x8, .f32⟩
  | .hbm, ⟨26, _⟩ => ⟨S16384, .i32⟩
  | .hbm, ⟨27, _⟩ => ⟨S16384x1, .i32⟩
  | .hbm, ⟨28, _⟩ => ⟨S_, .i32⟩
  | .hbm, ⟨29, _⟩ => ⟨S16384x1, .i32⟩
  | .hbm, ⟨30, _⟩ => ⟨S16384x1, .i1⟩
  | .hbm, ⟨31, _⟩ => ⟨S_, .i32⟩
  | .hbm, ⟨32, _⟩ => ⟨S16384x1, .i32⟩
  | .hbm, ⟨33, _⟩ => ⟨S16384x1, .i32⟩
  | .hbm, ⟨34, _⟩ => ⟨S16384x1, .i32⟩
  | .hbm, ⟨35, _⟩ => ⟨S_, .i32⟩
  | .hbm, ⟨36, _⟩ => ⟨S16384x3, .i32⟩
  | .hbm, ⟨37, _⟩ => ⟨S16384x3, .i1⟩
  | .hbm, ⟨38, _⟩ => ⟨S_, .i32⟩
  | .hbm, ⟨39, _⟩ => ⟨S16384x3, .i32⟩
  | .hbm, ⟨40, _⟩ => ⟨S16384x3, .i32⟩
  | .hbm, ⟨41, _⟩ => ⟨S16384x3, .i32⟩
  | .hbm, ⟨42, _⟩ => ⟨S16384x3, .i32⟩
  | .hbm, ⟨43, _⟩ => ⟨S16384x3x1, .i32⟩
  | .hbm, ⟨44, _⟩ => ⟨S16384x3x1, .i32⟩
  | .hbm, ⟨45, _⟩ => ⟨S16384x3x2, .i32⟩
  | .hbm, ⟨46, _⟩ => ⟨S_, .f32⟩
  | .hbm, ⟨47, _⟩ => ⟨S16384x3, .f32⟩
  | .hbm, ⟨48, _⟩ => ⟨S16384x8, .f32⟩
  | .hbm, ⟨49, _⟩ => ⟨S16384x8x8, .f32⟩
  | .hbm, ⟨50, _⟩ => ⟨S16384x64, .f32⟩
  | .hbm, ⟨51, _⟩ => ⟨S_, .f32⟩
  | .hbm, ⟨52, _⟩ => ⟨S16384x64, .f32⟩
  | .hbm, ⟨53, _⟩ => ⟨S16384x64, .i1⟩
  | .hbm, ⟨54, _⟩ => ⟨S16384x64, .i1⟩
  | .hbm, ⟨55, _⟩ => ⟨S_, .f32⟩
  | .hbm, ⟨56, _⟩ => ⟨S_, .f32⟩
  | .hbm, ⟨57, _⟩ => ⟨S16384x64, .f32⟩
  | .hbm, ⟨58, _⟩ => ⟨S16384x64, .f32⟩
  | .hbm, ⟨59, _⟩ => ⟨S16384x8, .f32⟩
  | .hbm, ⟨60, _⟩ => ⟨S16384x8, .i32⟩
  | .hbm, ⟨61, _⟩ => ⟨S_, .f32⟩
  | .hbm, ⟨62, _⟩ => ⟨S16384, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S16384x8, .f32⟩
  | .hbm, ⟨68, _⟩ => ⟨S16384x8, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_values : Ref sig .tc := ⟨.hbm, 22, rfl⟩
abbrev main_indices : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_c_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_call0_v0 : Ref sig .tc := ⟨.hbm, 56, rfl⟩
abbrev main_call0_v1 : Ref sig .tc := ⟨.hbm, 57, rfl⟩
abbrev main_v40 : Ref sig .tc := ⟨.hbm, 58, rfl⟩
abbrev main_values_10 : Ref sig .tc := ⟨.hbm, 59, rfl⟩
abbrev main_indices_11 : Ref sig .tc := ⟨.hbm, 60, rfl⟩
abbrev main_cst_12 : Ref sig .tc := ⟨.hbm, 61, rfl⟩
abbrev main_v41 : Ref sig .tc := ⟨.hbm, 62, rfl⟩
abbrev main_v42 : Ref sig .tc := ⟨.hbm, 63, rfl⟩
abbrev main_cst_13 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩

abbrev nD : Nat := 1
abbrev τ : Topo := Topo.v7x

variable {F : FTy → Type} [FloatOps F]
-- ==== Proof.Net.lean ====
/-
  The two sorting networks of the routing kernel as functions of eight (key, index) pairs.

  A compare-exchange `ce` keeps the pair of the greater key first (the first of two equal keys stays first). `sort8` is the
  19-exchange network on eight pairs, `merge8` keeps the eight greater of two sorted octets and sorts them by the bitonic
  network. For any comparison at all the outputs are inputs, each taken once (`sort8_perm`); for the comparison of a linear
  order `sort8` and `merge8` leave a `TopOf`: the greatest keys of the candidates, in descending order, each with its index.
-/
module

public import Idealize.ShloMosaic.Lib.SortNet.Basic
public import Mathlib.Data.Fin.VecNotation
public import Mathlib.Data.Fintype.Pi
public import Mathlib.Tactic.FinCases

@[expose] public section

namespace Cert.Route

open Idealize.ShloMosaic

variable {α β : Type}

/-- One compare-exchange of two pairs by their keys. -/
def ce (ge : α → α → Bool) (p q : α × β) : (α × β) × (α × β) := if ge p.1 q.1 = true then (p, q) else (q, p)

/-- Positions `a` and `b` of an octet compared and exchanged: the greater key at `a`. -/
def step (ge : α → α → Bool) (v : Fin 8 → α × β) (a b : Fin 8) : Fin 8 → α × β := fun k =>
  if k = a then (ce ge (v a) (v b)).1 else if k = b then (ce ge (v a) (v b)).2 else v k

/-- The exchanges of a network, first to last. -/
def net (ge : α → α → Bool) (N : List (Fin 8 × Fin 8)) (v : Fin 8 → α × β) : Fin 8 → α × β :=
  N.foldl (fun v c => step ge v c.1 c.2) v

/-- The sorting network on eight positions. -/
def sortList : List (Fin 8 × Fin 8) :=
  [(0, 1), (2, 3), (4, 5), (6, 7), (0, 2), (1, 3), (4, 6), (5, 7), (1, 2), (5, 6), (0, 4), (1, 5), (2, 6), (3, 7),
   (2, 4), (3, 5), (1, 2), (3, 4), (5, 6)]

/-- The bitonic network on eight positions. -/
def bitonicList : List (Fin 8 × Fin 8) :=
  [(0, 4), (1, 5), (2, 6), (3, 7), (0, 2), (1, 3), (4, 6), (5, 7), (0, 1), (2, 3), (4, 5), (6, 7)]

/-- An octet sorted. -/
def sort8 (ge : α → α → Bool) (v : Fin 8 → α × β) : Fin 8 → α × β := net ge sortList v

/-- The greater of each pair of opposite positions of two octets. -/
def half (ge : α → α → Bool) (v w : Fin 8 → α × β) : Fin 8 → α × β := fun j => (ce ge (v j) (w j.rev)).1

/-- Two sorted octets merged to the eight greater of their sixteen entries. -/
def merge8 (ge : α → α → Bool) (v w : Fin 8 → α × β) : Fin 8 → α × β := net ge bitonicList (half ge v w)

/-! ### Any comparison: the outputs are inputs, each once -/

theorem ce_cases (ge : α → α → Bool) (p q : α × β) : ce ge p q = (p, q) ∨ ce ge p q = (q, p) := by
  unfold ce; split
  · exact .inl rfl
  · exact .inr rfl

theorem step_perm (ge : α → α → Bool) (v : Fin 8 → α × β) {a b : Fin 8} (hab : a ≠ b) :
    ∃ σ : Equiv.Perm (Fin 8), step ge v a b = v ∘ σ := by
  rcases ce_cases ge (v a) (v b) with h | h
  · refine ⟨Equiv.refl _, funext fun k => ?_⟩
    simp only [step, h, Function.comp_apply, Equiv.refl_apply]
    split
    · subst k; rfl
    · split
      · subst k; rfl
      · rfl
  · refine ⟨Equiv.swap a b, funext fun k => ?_⟩
    simp only [step, h, Function.comp_apply]
    by_cases h1 : k = a
    · subst h1; rw [if_pos rfl, Equiv.swap_apply_left]
    · by_cases h2 : k = b
      · subst h2; rw [if_neg h1, if_pos rfl, Equiv.swap_apply_right]
      · rw [if_neg h1, if_neg h2, Equiv.swap_apply_of_ne_of_ne h1 h2]

theorem net_perm (ge : α → α → Bool) : ∀ (N : List (Fin 8 × Fin 8)) (_ : ∀ c ∈ N, c.1 ≠ c.2) (v : Fin 8 → α × β),
    ∃ σ : Equiv.Perm (Fin 8), net ge N v = v ∘ σ
  | [], _, v => ⟨Equiv.refl _, rfl⟩
  | c :: N, hN, v => by
    obtain ⟨σ, hσ⟩ := step_perm ge v (hN c (List.mem_cons_self ..))
    obtain ⟨τ, hτ⟩ := net_perm ge N (fun d hd => hN d (List.mem_cons_of_mem _ hd)) (step ge v c.1 c.2)
    refine ⟨τ.trans σ, ?_⟩
    show net ge N (step ge v c.1 c.2) = _
    rw [hτ, hσ]; rfl

theorem sortList_ne : ∀ c ∈ sortList, c.1 ≠ c.2 := by decide
theorem bitonicList_ne : ∀ c ∈ bitonicList, c.1 ≠ c.2 := by decide

theorem sort8_perm (ge : α → α → Bool) (v : Fin 8 → α × β) : ∃ σ : Equiv.Perm (Fin 8), sort8 ge v = v ∘ σ :=
  net_perm ge _ sortList_ne v

/-! ### The comparison of a linear order -/

section Order

variable [LinearOrder α]

/-- `≥` of a linear order, decided. -/
def geB (a b : α) : Bool := decide (b ≤ a)

theorem ce_fst_key (p q : α × β) : (ce geB p q).1.1 = max p.1 q.1 := by
  unfold ce geB
  by_cases h : q.1 ≤ p.1
  · rw [if_pos (decide_eq_true h), max_eq_left h]
  · rw [if_neg (by simpa using h), max_eq_right (le_of_lt (not_le.mp h))]

theorem ce_snd_key (p q : α × β) : (ce geB p q).2.1 = min p.1 q.1 := by
  unfold ce geB
  by_cases h : q.1 ≤ p.1
  · rw [if_pos (decide_eq_true h), min_eq_right h]
  · rw [if_neg (by simpa using h), min_eq_left (le_of_lt (not_le.mp h))]

/-- An exchange list as a network of the library (the lesser entry's position first). -/
def toNet : (N : List (Fin 8 × Fin 8)) → (∀ c ∈ N, c.1 ≠ c.2) → SortNet.Network 8
  | [], _ => []
  | c :: N, h => ⟨c.2, c.1, (h c (List.mem_cons_self ..)).symm⟩ :: toNet N fun d hd => h d (List.mem_cons_of_mem _ hd)

theorem step_key (v : Fin 8 → α × β) {a b : Fin 8} (hab : a ≠ b) :
    (fun k => (step geB v a b k).1) = SortNet.Cmpx.apply ⟨b, a, hab.symm⟩ fun k => (v k).1 := by
  funext k
  unfold SortNet.Cmpx.apply step
  by_cases h1 : k = a
  · subst h1
    rw [if_pos rfl, if_neg hab, if_pos rfl, ce_fst_key, max_comm]
  · by_cases h2 : k = b
    · subst h2
      rw [if_neg h1, if_pos rfl, if_pos rfl, ce_snd_key, min_comm]
    · rw [if_neg h1, if_neg h2, if_neg h2, if_neg h1]

theorem net_key : ∀ (N : List (Fin 8 × Fin 8)) (hN : ∀ c ∈ N, c.1 ≠ c.2) (v : Fin 8 → α × β),
    (fun k => (net geB N v k).1) = SortNet.Network.apply (toNet N hN) fun k => (v k).1
  | [], _, _ => rfl
  | c :: N, hN, v => by
    have h := net_key N (fun d hd => hN d (List.mem_cons_of_mem _ hd)) (step geB v c.1 c.2)
    rw [step_key v (hN c (List.mem_cons_self ..))] at h
    exact h

/-- A Boolean octet by its eight entries: what deciding over all octets walks. -/
def ofBits (n : Fin 256) : Fin 8 → Bool := fun i => n.val.testBit i.val

theorem exists_ofBits (b : Fin 8 → Bool) : ∃ n, ofBits n = b := by
  revert b; decide +kernel

theorem sortNet_bool : ∀ n : Fin 256, ∀ i j : Fin 8, i ≤ j →
    SortNet.Network.apply (toNet sortList sortList_ne) (ofBits n) j ≤ SortNet.Network.apply (toNet sortList sortList_ne) (ofBits n) i := by
  decide +kernel

theorem sort8_antitone (v : Fin 8 → α × β) : Antitone fun k => (sort8 geB v k).1 := by
  unfold sort8
  rw [net_key sortList sortList_ne v]
  refine SortNet.Network.zero_one_on_antitone _ (fun _ => True) (fun b _ => ?_) _ fun _ => trivial
  obtain ⟨n, rfl⟩ := exists_ofBits b
  exact fun i j hij => sortNet_bool n i j hij

/-- The Boolean octet that is true at its first `n` positions. -/
def firsts (n : Fin 9) : Fin 8 → Bool := fun i => decide (i.val < n.val)

theorem exists_firsts : ∀ b : Fin 8 → Bool, Antitone b → ∃ n, firsts n = b := by
  have h : ∀ k : Fin 256, (∀ i j : Fin 8, i ≤ j → ofBits k j ≤ ofBits k i) → ∃ n, firsts n = ofBits k := by decide +kernel
  intro b hb
  obtain ⟨k, rfl⟩ := exists_ofBits b
  exact h k fun i j hij => hb hij

theorem bitonicNet_bool : ∀ n m : Fin 9, ∀ i j : Fin 8, i ≤ j →
    SortNet.Network.apply (toNet bitonicList bitonicList_ne) (fun k => firsts n k || firsts m k.rev) j
      ≤ SortNet.Network.apply (toNet bitonicList bitonicList_ne) (fun k => firsts n k || firsts m k.rev) i := by
  decide +kernel

theorem merge8_antitone (v w : Fin 8 → α × β) (hv : Antitone fun k => (v k).1) (hw : Antitone fun k => (w k).1) :
    Antitone fun k => (merge8 geB v w k).1 := by
  unfold merge8
  rw [net_key bitonicList bitonicList_ne]
  refine SortNet.Network.zero_one_on_antitone _ (fun b => ∃ n m, b = fun k => firsts n k || firsts m k.rev) ?_ _ ?_
  · rintro _ ⟨n, m, rfl⟩
    exact fun i j hij => bitonicNet_bool n m i j hij
  · intro a
    have thr : ∀ f : Fin 8 → α, Antitone f → ∃ n, firsts n = fun k => decide (a < f k) := fun f hf =>
      exists_firsts _ fun i j hij => by
        by_cases h : a < f j
        · simp [h, lt_of_lt_of_le h (hf hij)]
        · simp [h]
    obtain ⟨n, hn⟩ := thr _ hv
    obtain ⟨m, hm⟩ := thr _ hw
    refine ⟨n, m, funext fun k => ?_⟩
    rw [hn, hm]
    show decide (a < (half geB v w k).1) = _
    unfold half
    rw [ce_fst_key]
    simp [lt_max_iff]

/-- `out` is the eight greatest of the candidates by key, in descending order, each candidate once. -/
def TopOf {ι : Type} (cand : ι → α × β) (out : Fin 8 → α × β) : Prop :=
  ∃ σ : Fin 8 → ι, Function.Injective σ ∧ (∀ j, out j = cand (σ j)) ∧ (Antitone fun k => (out k).1)
    ∧ ∀ c, (∀ j, σ j ≠ c) → ∀ j, (cand c).1 ≤ (out j).1

theorem topOf_sort8 (v : Fin 8 → α × β) : TopOf v (sort8 geB v) := by
  obtain ⟨σ, hσ⟩ := sort8_perm geB v
  refine ⟨σ, σ.injective, fun j => congrFun hσ j, sort8_antitone v, fun c hc => ?_⟩
  exact absurd (σ.apply_symm_apply c) (hc _)

theorem topOf_merge8 {ι κ : Type} {c₁ : ι → α × β} {c₂ : κ → α × β} {v w : Fin 8 → α × β} (h₁ : TopOf c₁ v) (h₂ : TopOf c₂ w) :
    TopOf (Sum.elim c₁ c₂) (merge8 geB v w) := by
  obtain ⟨σ₁, inj₁, eq₁, anti₁, top₁⟩ := h₁
  obtain ⟨σ₂, inj₂, eq₂, anti₂, top₂⟩ := h₂
  obtain ⟨ρ, hρ⟩ := net_perm geB bitonicList bitonicList_ne (half geB v w)
  have hρ' : merge8 geB v w = half geB v w ∘ ρ := hρ
  -- which of the two octets position `j` keeps
  let src : Fin 8 → ι ⊕ κ := fun j => if (w j.rev).1 ≤ (v j).1 then .inl (σ₁ j) else .inr (σ₂ j.rev)
  have hsrc : ∀ j, half geB v w j = Sum.elim c₁ c₂ (src j) := by
    intro j
    simp only [src]
    by_cases h : (w j.rev).1 ≤ (v j).1
    · have hg : geB (v j).1 (w j.rev).1 = true := decide_eq_true h
      unfold half ce
      rw [if_pos hg, if_pos h]; exact eq₁ j
    · have hg : ¬ geB (v j).1 (w j.rev).1 = true := fun e => h (of_decide_eq_true e)
      unfold half ce
      rw [if_neg hg, if_neg h]; exact eq₂ _
  have hkey : ∀ j, (half geB v w j).1 = max (v j).1 (w j.rev).1 := fun j => ce_fst_key _ _
  have inj : Function.Injective src := by
    intro i j hij
    simp only [src] at hij
    by_cases hi : (w i.rev).1 ≤ (v i).1 <;> by_cases hj : (w j.rev).1 ≤ (v j).1
    · rw [if_pos hi, if_pos hj] at hij; exact inj₁ (Sum.inl.inj hij)
    · rw [if_pos hi, if_neg hj] at hij; cases hij
    · rw [if_neg hi, if_pos hj] at hij; cases hij
    · rw [if_neg hi, if_neg hj] at hij; exact Fin.rev_injective (inj₂ (Sum.inr.inj hij))
  refine ⟨src ∘ ρ, inj.comp ρ.injective, fun j => ?_, merge8_antitone v w anti₁ anti₂, fun c hc j => ?_⟩
  · rw [hρ']; exact hsrc _
  have hc' : ∀ j, src j ≠ c := fun j h => hc (ρ.symm j) (by simpa using h)
  rw [hρ', Function.comp_apply, hkey]
  generalize ρ j = i
  have a₁ : ∀ {x y : Fin 8}, x ≤ y → (v y).1 ≤ (v x).1 := fun h => anti₁ h
  have a₂ : ∀ {x y : Fin 8}, x ≤ y → (w y).1 ≤ (w x).1 := fun h => anti₂ h
  rcases c with c | c
  · -- a candidate of the first octet's that was not kept
    by_cases hx : ∃ l, σ₁ l = c
    · obtain ⟨l, rfl⟩ := hx
      have hl : ¬ (w l.rev).1 ≤ (v l).1 := fun h => hc' l (if_pos h)
      have hl' : (v l).1 ≤ (w l.rev).1 := le_of_lt (not_le.mp hl)
      show (c₁ (σ₁ l)).1 ≤ _
      rw [← eq₁ l]
      rcases le_total i l with h | h
      · exact le_trans (a₁ h) (le_max_left _ _)
      · exact le_trans hl' (le_trans (a₂ (Fin.rev_le_rev.mpr h)) (le_max_right _ _))
    · exact le_trans (top₁ c (fun l h => hx ⟨l, h⟩) i) (le_max_left _ _)
  · by_cases hx : ∃ l, σ₂ l = c
    · obtain ⟨l', rfl⟩ := hx
      obtain ⟨l, rfl⟩ : ∃ l : Fin 8, l.rev = l' := ⟨l'.rev, Fin.rev_rev _⟩
      have hl : (w l.rev).1 ≤ (v l).1 := by
        by_contra h
        exact hc' l (if_neg h)
      show (c₂ (σ₂ l.rev)).1 ≤ _
      rw [← eq₂]
      rcases le_total i l with h | h
      · exact le_trans hl (le_trans (a₁ h) (le_max_left _ _))
      · exact le_trans (a₂ (Fin.rev_le_rev.mpr h)) (le_max_right _ _)
    · exact le_trans (top₂ c (fun l h => hx ⟨l, h⟩) i.rev) (le_max_right _ _)

end Order

end Cert.Route
-- ==== Proof.Lane.lean ====
/-
  What the loop body's straight-line comparator code computes, read one lane at a time.

  The printed body is a list of selects under a compare; each group of four selects on one compare is a compare-exchange (`CE`) of
  two (key, index) pairs of vectors. Chained in the order the program runs them they are, at each lane, the networks of Net.lean:
  the eight group maxima through `sort8` (`groups_sorted`), the three octets of candidates through `sort8` (`sorted_0`, `sorted_1`,
  `sorted_2`), and the two merges (`merged_0`, `merged_1`). Everything here holds over any floats.
-/
module

public import proofs.«01_k».proof.Proof.Net
public import proofs.«01_k».proof.Proof.Gen.KernelIdeal.Skeleton

@[expose] public section

noncomputable section

namespace Cert.Route

open Idealize.ShloMosaic Cert.KernelIdeal Cert.KernelIdeal.Gen

variable {α β : Type}

/-- The sorting network run exchange by exchange: each hypothesis is one exchange. -/
theorem net_sortList (ge : α → α → Bool) {p0 p1 p2 p3 p4 p5 p6 p7 u0 w0 u1 w1 u2 w2 u3 w3 u4 w4 u5 w5 u6 w6 u7 w7 u8 w8 u9 w9 u10 w10 u11 w11 u12 w12 u13 w13 u14 w14 u15 w15 u16 w16 u17 w17 u18 w18 : α × β}
    (h0 : (u0, w0) = ce ge p0 p1)
    (h1 : (u1, w1) = ce ge p2 p3)
    (h2 : (u2, w2) = ce ge p4 p5)
    (h3 : (u3, w3) = ce ge p6 p7)
    (h4 : (u4, w4) = ce ge u0 u1)
    (h5 : (u5, w5) = ce ge w0 w1)
    (h6 : (u6, w6) = ce ge u2 u3)
    (h7 : (u7, w7) = ce ge w2 w3)
    (h8 : (u8, w8) = ce ge u5 w4)
    (h9 : (u9, w9) = ce ge u7 w6)
    (h10 : (u10, w10) = ce ge u4 u6)
    (h11 : (u11, w11) = ce ge u8 u9)
    (h12 : (u12, w12) = ce ge w8 w9)
    (h13 : (u13, w13) = ce ge w5 w7)
    (h14 : (u14, w14) = ce ge u12 w10)
    (h15 : (u15, w15) = ce ge u13 w11)
    (h16 : (u16, w16) = ce ge u11 u14)
    (h17 : (u17, w17) = ce ge u15 w14)
    (h18 : (u18, w18) = ce ge w15 w12)
    : net ge sortList ![p0, p1, p2, p3, p4, p5, p6, p7] = ![u10, u16, w16, u17, w17, u18, w18, w13] := by
  have s0 : step ge ![p0, p1, p2, p3, p4, p5, p6, p7] 0 1 = ![u0, w0, p2, p3, p4, p5, p6, p7] := by
    funext k; fin_cases k <;> first | exact (congrArg Prod.fst h0).symm | exact (congrArg Prod.snd h0).symm | rfl
  have s1 : step ge ![u0, w0, p2, p3, p4, p5, p6, p7] 2 3 = ![u0, w0, u1, w1, p4, p5, p6, p7] := by
    funext k; fin_cases k <;> first | exact (congrArg Prod.fst h1).symm | exact (congrArg Prod.snd h1).symm | rfl
  have s2 : step ge ![u0, w0, u1, w1, p4, p5, p6, p7] 4 5 = ![u0, w0, u1, w1, u2, w2, p6, p7] := by
    funext k; fin_cases k <;> first | exact (congrArg Prod.fst h2).symm | exact (congrArg Prod.snd h2).symm | rfl
  have s3 : step ge ![u0, w0, u1, w1, u2, w2, p6, p7] 6 7 = ![u0, w0, u1, w1, u2, w2, u3, w3] := by
    funext k; fin_cases k <;> first | exact (congrArg Prod.fst h3).symm | exact (congrArg Prod.snd h3).symm | rfl
  have s4 : step ge ![u0, w0, u1, w1, u2, w2, u3, w3] 0 2 = ![u4, w0, w4, w1, u2, w2, u3, w3] := by
    funext k; fin_cases k <;> first | exact (congrArg Prod.fst h4).symm | exact (congrArg Prod.snd h4).symm | rfl
  have s5 : step ge ![u4, w0, w4, w1, u2, w2, u3, w3] 1 3 = ![u4, u5, w4, w5, u2, w2, u3, w3] := by
    funext k; fin_cases k <;> first | exact (congrArg Prod.fst h5).symm | exact (congrArg Prod.snd h5).symm | rfl
  have s6 : step ge ![u4, u5, w4, w5, u2, w2, u3, w3] 4 6 = ![u4, u5, w4, w5, u6, w2, w6, w3] := by
    funext k; fin_cases k <;> first | exact (congrArg Prod.fst h6).symm | exact (congrArg Prod.snd h6).symm | rfl
  have s7 : step ge ![u4, u5, w4, w5, u6, w2, w6, w3] 5 7 = ![u4, u5, w4, w5, u6, u7, w6, w7] := by
    funext k; fin_cases k <;> first | exact (congrArg Prod.fst h7).symm | exact (congrArg Prod.snd h7).symm | rfl
  have s8 : step ge ![u4, u5, w4, w5, u6, u7, w6, w7] 1 2 = ![u4, u8, w8, w5, u6, u7, w6, w7] := by
    funext k; fin_cases k <;> first | exact (congrArg Prod.fst h8).symm | exact (congrArg Prod.snd h8).symm | rfl
  have s9 : step ge ![u4, u8, w8, w5, u6, u7, w6, w7] 5 6 = ![u4, u8, w8, w5, u6, u9, w9, w7] := by
    funext k; fin_cases k <;> first | exact (congrArg Prod.fst h9).symm | exact (congrArg Prod.snd h9).symm | rfl
  have s10 : step ge ![u4, u8, w8, w5, u6, u9, w9, w7] 0 4 = ![u10, u8, w8, w5, w10, u9, w9, w7] := by
    funext k; fin_cases k <;> first | exact (congrArg Prod.fst h10).symm | exact (congrArg Prod.snd h10).symm | rfl
  have s11 : step ge ![u10, u8, w8, w5, w10, u9, w9, w7] 1 5 = ![u10, u11, w8, w5, w10, w11, w9, w7] := by
    funext k; fin_cases k <;> first | exact (congrArg Prod.fst h11).symm | exact (congrArg Prod.snd h11).symm | rfl
  have s12 : step ge ![u10, u11, w8, w5, w10, w11, w9, w7] 2 6 = ![u10, u11, u12, w5, w10, w11, w12, w7] := by
    funext k; fin_cases k <;> first | exact (congrArg Prod.fst h12).symm | exact (congrArg Prod.snd h12).symm | rfl
  have s13 : step ge ![u10, u11, u12, w5, w10, w11, w12, w7] 3 7 = ![u10, u11, u12, u13, w10, w11, w12, w13] := by
    funext k; fin_cases k <;> first | exact (congrArg Prod.fst h13).symm | exact (congrArg Prod.snd h13).symm | rfl
  have s14 : step ge ![u10, u11, u12, u13, w10, w11, w12, w13] 2 4 = ![u10, u11, u14, u13, w14, w11, w12, w13] := by
    funext k; fin_cases k <;> first | exact (congrArg Prod.fst h14).symm | exact (congrArg Prod.snd h14).symm | rfl
  have s15 : step ge ![u10, u11, u14, u13, w14, w11, w12, w13] 3 5 = ![u10, u11, u14, u15, w14, w15, w12, w13] := by
    funext k; fin_cases k <;> first | exact (congrArg Prod.fst h15).symm | exact (congrArg Prod.snd h15).symm | rfl
  have s16 : step ge ![u10, u11, u14, u15, w14, w15, w12, w13] 1 2 = ![u10, u16, w16, u15, w14, w15, w12, w13] := by
    funext k; fin_cases k <;> first | exact (congrArg Prod.fst h16).symm | exact (congrArg Prod.snd h16).symm | rfl
  have s17 : step ge ![u10, u16, w16, u15, w14, w15, w12, w13] 3 4 = ![u10, u16, w16, u17, w17, w15, w12, w13] := by
    funext k; fin_cases k <;> first | exact (congrArg Prod.fst h17).symm | exact (congrArg Prod.snd h17).symm | rfl
  have s18 : step ge ![u10, u16, w16, u17, w17, w15, w12, w13] 5 6 = ![u10, u16, w16, u17, w17, u18, w18, w13] := by
    funext k; fin_cases k <;> first | exact (congrArg Prod.fst h18).symm | exact (congrArg Prod.snd h18).symm | rfl
  unfold net sortList
  simp only [List.foldl_cons, List.foldl_nil]
  rw [s0, s1, s2, s3, s4, s5, s6, s7, s8, s9, s10, s11, s12, s13, s14, s15, s16, s17, s18]

/-- The bitonic network run exchange by exchange. -/
theorem net_bitonicList (ge : α → α → Bool) {p0 p1 p2 p3 p4 p5 p6 p7 u0 w0 u1 w1 u2 w2 u3 w3 u4 w4 u5 w5 u6 w6 u7 w7 u8 w8 u9 w9 u10 w10 u11 w11 : α × β}
    (h0 : (u0, w0) = ce ge p0 p4)
    (h1 : (u1, w1) = ce ge p1 p5)
    (h2 : (u2, w2) = ce ge p2 p6)
    (h3 : (u3, w3) = ce ge p3 p7)
    (h4 : (u4, w4) = ce ge u0 u2)
    (h5 : (u5, w5) = ce ge u1 u3)
    (h6 : (u6, w6) = ce ge w0 w2)
    (h7 : (u7, w7) = ce ge w1 w3)
    (h8 : (u8, w8) = ce ge u4 u5)
    (h9 : (u9, w9) = ce ge w4 w5)
    (h10 : (u10, w10) = ce ge u6 u7)
    (h11 : (u11, w11) = ce ge w6 w7)
    : net ge bitonicList ![p0, p1, p2, p3, p4, p5, p6, p7] = ![u8, w8, u9, w9, u10, w10, u11, w11] := by
  have s0 : step ge ![p0, p1, p2, p3, p4, p5, p6, p7] 0 4 = ![u0, p1, p2, p3, w0, p5, p6, p7] := by
    funext k; fin_cases k <;> first | exact (congrArg Prod.fst h0).symm | exact (congrArg Prod.snd h0).symm | rfl
  have s1 : step ge ![u0, p1, p2, p3, w0, p5, p6, p7] 1 5 = ![u0, u1, p2, p3, w0, w1, p6, p7] := by
    funext k; fin_cases k <;> first | exact (congrArg Prod.fst h1).symm | exact (congrArg Prod.snd h1).symm | rfl
  have s2 : step ge ![u0, u1, p2, p3, w0, w1, p6, p7] 2 6 = ![u0, u1, u2, p3, w0, w1, w2, p7] := by
    funext k; fin_cases k <;> first | exact (congrArg Prod.fst h2).symm | exact (congrArg Prod.snd h2).symm | rfl
  have s3 : step ge ![u0, u1, u2, p3, w0, w1, w2, p7] 3 7 = ![u0, u1, u2, u3, w0, w1, w2, w3] := by
    funext k; fin_cases k <;> first | exact (congrArg Prod.fst h3).symm | exact (congrArg Prod.snd h3).symm | rfl
  have s4 : step ge ![u0, u1, u2, u3, w0, w1, w2, w3] 0 2 = ![u4, u1, w4, u3, w0, w1, w2, w3] := by
    funext k; fin_cases k <;> first | exact (congrArg Prod.fst h4).symm | exact (congrArg Prod.snd h4).symm | rfl
  have s5 : step ge ![u4, u1, w4, u3, w0, w1, w2, w3] 1 3 = ![u4, u5, w4, w5, w0, w1, w2, w3] := by
    funext k; fin_cases k <;> first | exact (congrArg Prod.fst h5).symm | exact (congrArg Prod.snd h5).symm | rfl
  have s6 : step ge ![u4, u5, w4, w5, w0, w1, w2, w3] 4 6 = ![u4, u5, w4, w5, u6, w1, w6, w3] := by
    funext k; fin_cases k <;> first | exact (congrArg Prod.fst h6).symm | exact (congrArg Prod.snd h6).symm | rfl
  have s7 : step ge ![u4, u5, w4, w5, u6, w1, w6, w3] 5 7 = ![u4, u5, w4, w5, u6, u7, w6, w7] := by
    funext k; fin_cases k <;> first | exact (congrArg Prod.fst h7).symm | exact (congrArg Prod.snd h7).symm | rfl
  have s8 : step ge ![u4, u5, w4, w5, u6, u7, w6, w7] 0 1 = ![u8, w8, w4, w5, u6, u7, w6, w7] := by
    funext k; fin_cases k <;> first | exact (congrArg Prod.fst h8).symm | exact (congrArg Prod.snd h8).symm | rfl
  have s9 : step ge ![u8, w8, w4, w5, u6, u7, w6, w7] 2 3 = ![u8, w8, u9, w9, u6, u7, w6, w7] := by
    funext k; fin_cases k <;> first | exact (congrArg Prod.fst h9).symm | exact (congrArg Prod.snd h9).symm | rfl
  have s10 : step ge ![u8, w8, u9, w9, u6, u7, w6, w7] 4 5 = ![u8, w8, u9, w9, u10, w10, w6, w7] := by
    funext k; fin_cases k <;> first | exact (congrArg Prod.fst h10).symm | exact (congrArg Prod.snd h10).symm | rfl
  have s11 : step ge ![u8, w8, u9, w9, u10, w10, w6, w7] 6 7 = ![u8, w8, u9, w9, u10, w10, u11, w11] := by
    funext k; fin_cases k <;> first | exact (congrArg Prod.fst h11).symm | exact (congrArg Prod.snd h11).symm | rfl
  unfold net bitonicList
  simp only [List.foldl_cons, List.foldl_nil]
  rw [s0, s1, s2, s3, s4, s5, s6, s7, s8, s9, s10, s11]

variable {F : FTy → Type} [FloatOps F]

/-- The program's compare `≥` of two lanes. -/
def geF (a b : F .f32) : Bool := decide (FloatOps.cmpf .oge a b = 1)

/-- One compare-exchange of vectors: the greater keys `kh` with their indices `ih`, the lesser `kl` with `il`. -/
structure CE (ka kb : FVec F S16 .f32) (ia ib : IVec S16 32) (kh kl : FVec F S16 .f32) (ih il : IVec S16 32) : Prop where
  kh_eq : kh = select (cmpf .oge ka kb) ka kb
  kl_eq : kl = select (cmpf .oge ka kb) kb ka
  ih_eq : ih = select (cmpf .oge ka kb) ia ib
  il_eq : il = select (cmpf .oge ka kb) ib ia

/-- The first half of one: the greater keys and their indices. -/
structure HF (ka kb : FVec F S16 .f32) (ia ib : IVec S16 32) (kh : FVec F S16 .f32) (ih : IVec S16 32) : Prop where
  kh_eq : kh = select (cmpf .oge ka kb) ka kb
  ih_eq : ih = select (cmpf .oge ka kb) ia ib

theorem select_lane {γ : Type} (ka kb : FVec F S16 .f32) (a b : S16.Idx → γ) (x : S16.Idx) :
    select (cmpf .oge ka kb) a b x = if geF (ka x) (kb x) = true then a x else b x := by
  show (if FloatOps.cmpf .oge (ka x) (kb x) = 1 then a x else b x) = _
  unfold geF
  by_cases h : FloatOps.cmpf .oge (ka x) (kb x) = 1
  · rw [if_pos h, if_pos (decide_eq_true h)]
  · rw [if_neg h, if_neg (fun e => h (of_decide_eq_true e))]

theorem CE.lane {ka kb kh kl : FVec F S16 .f32} {ia ib ih il : IVec S16 32} (h : CE ka kb ia ib kh kl ih il) (x : S16.Idx) :
    ((kh x, ih x), (kl x, il x)) = ce geF (ka x, ia x) (kb x, ib x) := by
  rw [h.kh_eq, h.kl_eq, h.ih_eq, h.il_eq]
  simp only [select_lane, ce]
  split <;> rfl

theorem HF.lane {ka kb kh : FVec F S16 .f32} {ia ib ih : IVec S16 32} (h : HF ka kb ia ib kh ih) (x : S16.Idx) :
    (ce geF (ka x, ia x) (kb x, ib x)).1 = (kh x, ih x) := by
  rw [h.kh_eq, h.ih_eq]
  simp only [select_lane, ce]
  split <;> rfl

/-- Eight keys and eight indices at one lane, as an octet of pairs. -/
def oct (k0 k1 k2 k3 k4 k5 k6 k7 : FVec F S16 .f32) (i0 i1 i2 i3 i4 i5 i6 i7 : IVec S16 32) (x : S16.Idx) :
    Fin 8 → F .f32 × BitVec 32 :=
  ![(k0 x, i0 x), (k1 x, i1 x), (k2 x, i2 x), (k3 x, i3 x), (k4 x, i4 x), (k5 x, i5 x), (k6 x, i6 x), (k7 x, i7 x)]

/-- Nineteen vector exchanges are the sorting network at each lane. -/
theorem sort8_oct (x : S16.Idx) {kp0 kp1 kp2 kp3 kp4 kp5 kp6 kp7 ku0 kw0 ku1 kw1 ku2 kw2 ku3 kw3 ku4 kw4 ku5 kw5 ku6 kw6 ku7 kw7 ku8 kw8 ku9 kw9 ku10 kw10 ku11 kw11 ku12 kw12 ku13 kw13 ku14 kw14 ku15 kw15 ku16 kw16 ku17 kw17 ku18 kw18 : FVec F S16 .f32} {ip0 ip1 ip2 ip3 ip4 ip5 ip6 ip7 iu0 iw0 iu1 iw1 iu2 iw2 iu3 iw3 iu4 iw4 iu5 iw5 iu6 iw6 iu7 iw7 iu8 iw8 iu9 iw9 iu10 iw10 iu11 iw11 iu12 iw12 iu13 iw13 iu14 iw14 iu15 iw15 iu16 iw16 iu17 iw17 iu18 iw18 : IVec S16 32}
    (h0 : CE kp0 kp1 ip0 ip1 ku0 kw0 iu0 iw0)
    (h1 : CE kp2 kp3 ip2 ip3 ku1 kw1 iu1 iw1)
    (h2 : CE kp4 kp5 ip4 ip5 ku2 kw2 iu2 iw2)
    (h3 : CE kp6 kp7 ip6 ip7 ku3 kw3 iu3 iw3)
    (h4 : CE ku0 ku1 iu0 iu1 ku4 kw4 iu4 iw4)
    (h5 : CE kw0 kw1 iw0 iw1 ku5 kw5 iu5 iw5)
    (h6 : CE ku2 ku3 iu2 iu3 ku6 kw6 iu6 iw6)
    (h7 : CE kw2 kw3 iw2 iw3 ku7 kw7 iu7 iw7)
    (h8 : CE ku5 kw4 iu5 iw4 ku8 kw8 iu8 iw8)
    (h9 : CE ku7 kw6 iu7 iw6 ku9 kw9 iu9 iw9)
    (h10 : CE ku4 ku6 iu4 iu6 ku10 kw10 iu10 iw10)
    (h11 : CE ku8 ku9 iu8 iu9 ku11 kw11 iu11 iw11)
    (h12 : CE kw8 kw9 iw8 iw9 ku12 kw12 iu12 iw12)
    (h13 : CE kw5 kw7 iw5 iw7 ku13 kw13 iu13 iw13)
    (h14 : CE ku12 kw10 iu12 iw10 ku14 kw14 iu14 iw14)
    (h15 : CE ku13 kw11 iu13 iw11 ku15 kw15 iu15 iw15)
    (h16 : CE ku11 ku14 iu11 iu14 ku16 kw16 iu16 iw16)
    (h17 : CE ku15 kw14 iu15 iw14 ku17 kw17 iu17 iw17)
    (h18 : CE kw15 kw12 iw15 iw12 ku18 kw18 iu18 iw18)
    : sort8 geF (oct kp0 kp1 kp2 kp3 kp4 kp5 kp6 kp7 ip0 ip1 ip2 ip3 ip4 ip5 ip6 ip7 x) = oct ku10 ku16 kw16 ku17 kw17 ku18 kw18 kw13 iu10 iu16 iw16 iu17 iw17 iu18 iw18 iw13 x :=
  net_sortList geF (h0.lane x) (h1.lane x) (h2.lane x) (h3.lane x) (h4.lane x) (h5.lane x) (h6.lane x) (h7.lane x) (h8.lane x) (h9.lane x) (h10.lane x) (h11.lane x) (h12.lane x) (h13.lane x) (h14.lane x) (h15.lane x) (h16.lane x) (h17.lane x) (h18.lane x)

/-- The first three indices the sorting network leaves. -/
theorem sort8_three (x : S16.Idx) {kp0 kp1 kp2 kp3 kp4 kp5 kp6 kp7 ku0 kw0 ku1 kw1 ku2 kw2 ku3 kw3 ku4 kw4 ku5 kw5 ku6 kw6 ku7 kw7 ku8 kw8 ku9 kw9 ku10 kw10 ku11 kw11 ku12 kw12 ku13 kw13 ku14 kw14 ku15 kw15 ku16 kw16 ku17 kw17 ku18 kw18 : FVec F S16 .f32} {ip0 ip1 ip2 ip3 ip4 ip5 ip6 ip7 iu0 iw0 iu1 iw1 iu2 iw2 iu3 iw3 iu4 iw4 iu5 iw5 iu6 iw6 iu7 iw7 iu8 iw8 iu9 iw9 iu10 iw10 iu11 iw11 iu12 iw12 iu13 iw13 iu14 iw14 iu15 iw15 iu16 iw16 iu17 iw17 iu18 iw18 : IVec S16 32}
    (h0 : CE kp0 kp1 ip0 ip1 ku0 kw0 iu0 iw0)
    (h1 : CE kp2 kp3 ip2 ip3 ku1 kw1 iu1 iw1)
    (h2 : CE kp4 kp5 ip4 ip5 ku2 kw2 iu2 iw2)
    (h3 : CE kp6 kp7 ip6 ip7 ku3 kw3 iu3 iw3)
    (h4 : CE ku0 ku1 iu0 iu1 ku4 kw4 iu4 iw4)
    (h5 : CE kw0 kw1 iw0 iw1 ku5 kw5 iu5 iw5)
    (h6 : CE ku2 ku3 iu2 iu3 ku6 kw6 iu6 iw6)
    (h7 : CE kw2 kw3 iw2 iw3 ku7 kw7 iu7 iw7)
    (h8 : CE ku5 kw4 iu5 iw4 ku8 kw8 iu8 iw8)
    (h9 : CE ku7 kw6 iu7 iw6 ku9 kw9 iu9 iw9)
    (h10 : CE ku4 ku6 iu4 iu6 ku10 kw10 iu10 iw10)
    (h11 : CE ku8 ku9 iu8 iu9 ku11 kw11 iu11 iw11)
    (h12 : CE kw8 kw9 iw8 iw9 ku12 kw12 iu12 iw12)
    (h13 : CE kw5 kw7 iw5 iw7 ku13 kw13 iu13 iw13)
    (h14 : CE ku12 kw10 iu12 iw10 ku14 kw14 iu14 iw14)
    (h15 : CE ku13 kw11 iu13 iw11 ku15 kw15 iu15 iw15)
    (h16 : CE ku11 ku14 iu11 iu14 ku16 kw16 iu16 iw16)
    (h17 : CE ku15 kw14 iu15 iw14 ku17 kw17 iu17 iw17)
    (h18 : CE kw15 kw12 iw15 iw12 ku18 kw18 iu18 iw18)
    : (sort8 geF (oct kp0 kp1 kp2 kp3 kp4 kp5 kp6 kp7 ip0 ip1 ip2 ip3 ip4 ip5 ip6 ip7 x) 0).2 = iu10 x ∧ (sort8 geF (oct kp0 kp1 kp2 kp3 kp4 kp5 kp6 kp7 ip0 ip1 ip2 ip3 ip4 ip5 ip6 ip7 x) 1).2 = iu16 x ∧ (sort8 geF (oct kp0 kp1 kp2 kp3 kp4 kp5 kp6 kp7 ip0 ip1 ip2 ip3 ip4 ip5 ip6 ip7 x) 2).2 = iw16 x := by
  rw [sort8_oct x h0 h1 h2 h3 h4 h5 h6 h7 h8 h9 h10 h11 h12 h13 h14 h15 h16 h17 h18]
  exact ⟨rfl, rfl, rfl⟩

/-- Eight first halves and twelve exchanges are a merge at each lane. -/
theorem merge8_oct (x : S16.Idx) {ka0 ka1 ka2 ka3 ka4 ka5 ka6 ka7 kb0 kb1 kb2 kb3 kb4 kb5 kb6 kb7 : FVec F S16 .f32} {ia0 ia1 ia2 ia3 ia4 ia5 ia6 ia7 ib0 ib1 ib2 ib3 ib4 ib5 ib6 ib7 : IVec S16 32} {kp0 kp1 kp2 kp3 kp4 kp5 kp6 kp7 ku0 kw0 ku1 kw1 ku2 kw2 ku3 kw3 ku4 kw4 ku5 kw5 ku6 kw6 ku7 kw7 ku8 kw8 ku9 kw9 ku10 kw10 ku11 kw11 : FVec F S16 .f32} {ip0 ip1 ip2 ip3 ip4 ip5 ip6 ip7 iu0 iw0 iu1 iw1 iu2 iw2 iu3 iw3 iu4 iw4 iu5 iw5 iu6 iw6 iu7 iw7 iu8 iw8 iu9 iw9 iu10 iw10 iu11 iw11 : IVec S16 32}
    (g0 : HF ka0 kb7 ia0 ib7 kp0 ip0)
    (g1 : HF ka1 kb6 ia1 ib6 kp1 ip1)
    (g2 : HF ka2 kb5 ia2 ib5 kp2 ip2)
    (g3 : HF ka3 kb4 ia3 ib4 kp3 ip3)
    (g4 : HF ka4 kb3 ia4 ib3 kp4 ip4)
    (g5 : HF ka5 kb2 ia5 ib2 kp5 ip5)
    (g6 : HF ka6 kb1 ia6 ib1 kp6 ip6)
    (g7 : HF ka7 kb0 ia7 ib0 kp7 ip7)
    (h0 : CE kp0 kp4 ip0 ip4 ku0 kw0 iu0 iw0)
    (h1 : CE kp1 kp5 ip1 ip5 ku1 kw1 iu1 iw1)
    (h2 : CE kp2 kp6 ip2 ip6 ku2 kw2 iu2 iw2)
    (h3 : CE kp3 kp7 ip3 ip7 ku3 kw3 iu3 iw3)
    (h4 : CE ku0 ku2 iu0 iu2 ku4 kw4 iu4 iw4)
    (h5 : CE ku1 ku3 iu1 iu3 ku5 kw5 iu5 iw5)
    (h6 : CE kw0 kw2 iw0 iw2 ku6 kw6 iu6 iw6)
    (h7 : CE kw1 kw3 iw1 iw3 ku7 kw7 iu7 iw7)
    (h8 : CE ku4 ku5 iu4 iu5 ku8 kw8 iu8 iw8)
    (h9 : CE kw4 kw5 iw4 iw5 ku9 kw9 iu9 iw9)
    (h10 : CE ku6 ku7 iu6 iu7 ku10 kw10 iu10 iw10)
    (h11 : CE kw6 kw7 iw6 iw7 ku11 kw11 iu11 iw11)
    : merge8 geF (oct ka0 ka1 ka2 ka3 ka4 ka5 ka6 ka7 ia0 ia1 ia2 ia3 ia4 ia5 ia6 ia7 x) (oct kb0 kb1 kb2 kb3 kb4 kb5 kb6 kb7 ib0 ib1 ib2 ib3 ib4 ib5 ib6 ib7 x) = oct ku8 kw8 ku9 kw9 ku10 kw10 ku11 kw11 iu8 iw8 iu9 iw9 iu10 iw10 iu11 iw11 x := by
  have hh : half geF (oct ka0 ka1 ka2 ka3 ka4 ka5 ka6 ka7 ia0 ia1 ia2 ia3 ia4 ia5 ia6 ia7 x) (oct kb0 kb1 kb2 kb3 kb4 kb5 kb6 kb7 ib0 ib1 ib2 ib3 ib4 ib5 ib6 ib7 x) = oct kp0 kp1 kp2 kp3 kp4 kp5 kp6 kp7 ip0 ip1 ip2 ip3 ip4 ip5 ip6 ip7 x := by
    funext k; fin_cases k
    · exact g0.lane x
    · exact g1.lane x
    · exact g2.lane x
    · exact g3.lane x
    · exact g4.lane x
    · exact g5.lane x
    · exact g6.lane x
    · exact g7.lane x
  unfold merge8
  rw [hh]
  exact net_bitonicList geF (h0.lane x) (h1.lane x) (h2.lane x) (h3.lane x) (h4.lane x) (h5.lane x) (h6.lane x) (h7.lane x) (h8.lane x) (h9.lane x) (h10.lane x) (h11.lane x)

end Cert.Route
-- ==== Proof.Sorts.lean ====
/-
  The networks of the loop body over the printed payloads: the values a part of the body hands to the next are variables with the
  equations the run gives them, and each exchange is read off the payloads that compute it (see Lane.lean).
-/
module

public import proofs.«01_k».proof.Proof.Lane

@[expose] public section

noncomputable section

namespace Cert.Route

open Idealize.ShloMosaic Cert.KernelIdeal Cert.KernelIdeal.Gen

variable {F : FTy → Type} [FloatOps F]

set_option maxHeartbeats 4000000 in
/-- The eight (group maximum, group) pairs through the first network: the groups the kernel takes are the first three. -/
theorem groups_sorted {v4 v5 v6 v7 v8 v9 v10 v11 v334 v339 v343 v344 v348 v349 v353 v354 v383 v394 v404 v408 v409 v413 v414 : IVec S16 32} {v56 v95 v134 v173 v212 v251 v290 v304 v308 v332 v337 v341 v342 v346 v347 v351 v352 v356 v392 v402 v406 v407 : FVec F S16 .f32} {v313_ld v318_ld v323_ld v328_ld : Vec F S1x16 .f32} {v355 : IVec S16 1}
    (h332 : v332 = k1_pay21 v56 v95)
    (h334 : v334 = k1_pay23 v4 v5 v56 v95)
    (h337 : v337 = k1_pay26 v134 v173)
    (h339 : v339 = k1_pay28 v6 v7 v134 v173)
    (h341 : v341 = k1_pay30 v212 v251)
    (h342 : v342 = k1_pay31 v212 v251)
    (h343 : v343 = k1_pay32 v8 v9 v212 v251)
    (h344 : v344 = k1_pay33 v8 v9 v212 v251)
    (h346 : v346 = k1_pay35 v290 v304 v308 v313_ld v318_ld v323_ld v328_ld)
    (h347 : v347 = k1_pay36 v290 v304 v308 v313_ld v318_ld v323_ld v328_ld)
    (h348 : v348 = k1_pay37 v10 v11 v290 v304 v308 v313_ld v318_ld v323_ld v328_ld)
    (h349 : v349 = k1_pay38 v10 v11 v290 v304 v308 v313_ld v318_ld v323_ld v328_ld)
    (h351 : v351 = k1_pay40 v56 v95 v134 v173)
    (h352 : v352 = k1_pay41 v56 v95 v134 v173)
    (h353 : v353 = k1_pay42 v4 v5 v6 v7 v56 v95 v134 v173)
    (h354 : v354 = k1_pay43 v4 v5 v6 v7 v56 v95 v134 v173)
    (h355 : v355 = k1_pay44 v56 v95 v134 v173)
    (h356 : v356 = k1_pay45 v56 v95 v134 v173)
    (h383 : v383 = k1_pay71 v341 v343 v346 v348 v351 v353)
    (h392 : v392 = k1_pay80 v341 v342 v346 v347 v352 v356)
    (h394 : v394 = k1_pay82 v334 v339 v341 v342 v343 v344 v346 v347 v348 v349 v352 v354 v355 v356)
    (h402 : v402 = k1_pay88 v341 v342 v346 v347 v351 v352 v356)
    (h404 : v404 = k1_pay90 v334 v339 v341 v342 v343 v344 v346 v347 v348 v349 v351 v352 v353 v354 v355 v356)
    (h406 : v406 = k1_pay92 v332 v337 v341 v342 v346 v347 v352 v355 v356)
    (h407 : v407 = k1_pay93 v332 v337 v341 v342 v346 v347 v352 v355 v356)
    (h408 : v408 = k1_pay94 v332 v334 v337 v339 v341 v342 v343 v344 v346 v347 v348 v349 v352 v354 v355 v356)
    (h409 : v409 = k1_pay95 v332 v334 v337 v339 v341 v342 v343 v344 v346 v347 v348 v349 v352 v354 v355 v356)
    (h413 : v413 = k1_pay97 v334 v339 v341 v342 v343 v344 v346 v347 v348 v349 v351 v352 v353 v354 v355 v356)
    (h414 : v414 = k1_pay98 v334 v339 v341 v342 v343 v344 v346 v347 v348 v349 v351 v352 v353 v354 v355 v356)
    (x : S16.Idx) : (sort8 geF (oct v56 v95 v134 v173 v212 v251 v290 (k1_pay18 v304 v308 v313_ld v318_ld v323_ld v328_ld) v4 v5 v6 v7 v8 v9 v10 v11 x) 0).2 = v383 x ∧ (sort8 geF (oct v56 v95 v134 v173 v212 v251 v290 (k1_pay18 v304 v308 v313_ld v318_ld v323_ld v328_ld) v4 v5 v6 v7 v8 v9 v10 v11 x) 1).2 = v413 x ∧ (sort8 geF (oct v56 v95 v134 v173 v212 v251 v290 (k1_pay18 v304 v308 v313_ld v318_ld v323_ld v328_ld) v4 v5 v6 v7 v8 v9 v10 v11 x) 2).2 = v414 x :=
  sort8_three x
    (⟨rfl, (by simp only [h332] <;> rfl), rfl, (by simp only [h334] <;> rfl)⟩ : CE v56 v95 v4 v5 (k1_pay20 v56 v95) v332 (k1_pay22 v4 v5 v56 v95) v334)
    (⟨rfl, (by simp only [h337] <;> rfl), rfl, (by simp only [h339] <;> rfl)⟩ : CE v134 v173 v6 v7 (k1_pay25 v134 v173) v337 (k1_pay27 v6 v7 v134 v173) v339)
    (⟨(by simp only [h341] <;> rfl), (by simp only [h342] <;> rfl), (by simp only [h343] <;> rfl), (by simp only [h344] <;> rfl)⟩ : CE v212 v251 v8 v9 v341 v342 v343 v344)
    (⟨(by simp only [h346] <;> rfl), (by simp only [h347] <;> rfl), (by simp only [h348] <;> rfl), (by simp only [h349] <;> rfl)⟩ : CE v290 (k1_pay18 v304 v308 v313_ld v318_ld v323_ld v328_ld) v10 v11 v346 v347 v348 v349)
    (⟨(by simp only [h351] <;> rfl), (by simp only [h352] <;> rfl), (by simp only [h353] <;> rfl), (by simp only [h354] <;> rfl)⟩ : CE (k1_pay20 v56 v95) (k1_pay25 v134 v173) (k1_pay22 v4 v5 v56 v95) (k1_pay27 v6 v7 v134 v173) v351 v352 v353 v354)
    (⟨(by simp only [h356, h355, h332, h337, h334, h339] <;> rfl), (by simp only [h355, h332, h337, h334, h339] <;> rfl), (by simp only [h355, h332, h337, h334, h339] <;> rfl), (by simp only [h355, h332, h337, h334, h339] <;> rfl)⟩ : CE v332 v337 v334 v339 v356 (k1_pay46 v332 v337 v355) (k1_pay47 v334 v339 v355) (k1_pay48 v334 v339 v355))
    (⟨rfl, rfl, rfl, rfl⟩ : CE v341 v346 v343 v348 (k1_pay50 v341 v346) (k1_pay51 v341 v346) (k1_pay52 v341 v343 v346 v348) (k1_pay53 v341 v343 v346 v348))
    (⟨rfl, rfl, rfl, rfl⟩ : CE v342 v347 v344 v349 (k1_pay55 v342 v347) (k1_pay56 v342 v347) (k1_pay57 v342 v344 v347 v349) (k1_pay58 v342 v344 v347 v349))
    (⟨rfl, rfl, rfl, rfl⟩ : CE v356 v352 (k1_pay47 v334 v339 v355) v354 (k1_pay60 v352 v356) (k1_pay61 v352 v356) (k1_pay62 v334 v339 v352 v354 v355 v356) (k1_pay63 v334 v339 v352 v354 v355 v356))
    (⟨rfl, rfl, rfl, rfl⟩ : CE (k1_pay55 v342 v347) (k1_pay51 v341 v346) (k1_pay57 v342 v344 v347 v349) (k1_pay53 v341 v343 v346 v348) (k1_pay65 v341 v342 v346 v347) (k1_pay66 v341 v342 v346 v347) (k1_pay67 v341 v342 v343 v344 v346 v347 v348 v349) (k1_pay68 v341 v342 v343 v344 v346 v347 v348 v349))
    (⟨rfl, rfl, (by simp only [h383] <;> rfl), rfl⟩ : CE v351 (k1_pay50 v341 v346) v353 (k1_pay52 v341 v343 v346 v348) (select (cmpf .oge v351 (k1_pay50 v341 v346)) v351 (k1_pay50 v341 v346)) (k1_pay70 v341 v346 v351) v383 (k1_pay72 v341 v343 v346 v348 v351 v353))
    (⟨rfl, rfl, rfl, rfl⟩ : CE (k1_pay60 v352 v356) (k1_pay65 v341 v342 v346 v347) (k1_pay62 v334 v339 v352 v354 v355 v356) (k1_pay67 v341 v342 v343 v344 v346 v347 v348 v349) (k1_pay74 v341 v342 v346 v347 v352 v356) (k1_pay75 v341 v342 v346 v347 v352 v356) (k1_pay76 v334 v339 v341 v342 v343 v344 v346 v347 v348 v349 v352 v354 v355 v356) (k1_pay77 v334 v339 v341 v342 v343 v344 v346 v347 v348 v349 v352 v354 v355 v356))
    (⟨rfl, (by simp only [h392] <;> rfl), rfl, (by simp only [h394] <;> rfl)⟩ : CE (k1_pay61 v352 v356) (k1_pay66 v341 v342 v346 v347) (k1_pay63 v334 v339 v352 v354 v355 v356) (k1_pay68 v341 v342 v343 v344 v346 v347 v348 v349) (k1_pay79 v341 v342 v346 v347 v352 v356) v392 (k1_pay81 v334 v339 v341 v342 v343 v344 v346 v347 v348 v349 v352 v354 v355 v356) v394)
    (⟨rfl, rfl, rfl, rfl⟩ : CE (k1_pay46 v332 v337 v355) (k1_pay56 v342 v347) (k1_pay48 v334 v339 v355) (k1_pay58 v342 v344 v347 v349) (k1_pay84 v332 v337 v342 v347 v355) (select (cmpf .oge (k1_pay46 v332 v337 v355) (k1_pay56 v342 v347)) (k1_pay56 v342 v347) (k1_pay46 v332 v337 v355)) (k1_pay85 v332 v334 v337 v339 v342 v344 v347 v349 v355) (select (cmpf .oge (k1_pay46 v332 v337 v355) (k1_pay56 v342 v347)) (k1_pay58 v342 v344 v347 v349) (k1_pay48 v334 v339 v355)))
    (⟨rfl, (by simp only [h402] <;> rfl), rfl, (by simp only [h404] <;> rfl)⟩ : CE (k1_pay79 v341 v342 v346 v347 v352 v356) (k1_pay70 v341 v346 v351) (k1_pay81 v334 v339 v341 v342 v343 v344 v346 v347 v348 v349 v352 v354 v355 v356) (k1_pay72 v341 v343 v346 v348 v351 v353) (k1_pay87 v341 v342 v346 v347 v351 v352 v356) v402 (k1_pay89 v334 v339 v341 v342 v343 v344 v346 v347 v348 v349 v351 v352 v353 v354 v355 v356) v404)
    (⟨(by simp only [h406] <;> rfl), (by simp only [h407] <;> rfl), (by simp only [h408] <;> rfl), (by simp only [h409] <;> rfl)⟩ : CE (k1_pay84 v332 v337 v342 v347 v355) (k1_pay75 v341 v342 v346 v347 v352 v356) (k1_pay85 v332 v334 v337 v339 v342 v344 v347 v349 v355) (k1_pay77 v334 v339 v341 v342 v343 v344 v346 v347 v348 v349 v352 v354 v355 v356) v406 v407 v408 v409)
    (⟨rfl, rfl, (by simp only [h413] <;> rfl), (by simp only [h414] <;> rfl)⟩ : CE (k1_pay74 v341 v342 v346 v347 v352 v356) (k1_pay87 v341 v342 v346 v347 v351 v352 v356) (k1_pay76 v334 v339 v341 v342 v343 v344 v346 v347 v348 v349 v352 v354 v355 v356) (k1_pay89 v334 v339 v341 v342 v343 v344 v346 v347 v348 v349 v351 v352 v353 v354 v355 v356) (select (cmpf .oge (k1_pay74 v341 v342 v346 v347 v352 v356) (k1_pay87 v341 v342 v346 v347 v351 v352 v356)) (k1_pay74 v341 v342 v346 v347 v352 v356) (k1_pay87 v341 v342 v346 v347 v351 v352 v356)) (select (cmpf .oge (k1_pay74 v341 v342 v346 v347 v352 v356) (k1_pay87 v341 v342 v346 v347 v351 v352 v356)) (k1_pay87 v341 v342 v346 v347 v351 v352 v356) (k1_pay74 v341 v342 v346 v347 v352 v356)) v413 v414)
    (⟨rfl, rfl, rfl, rfl⟩ : CE v406 v402 v408 v404 (select (cmpf .oge v406 v402) v406 v402) (select (cmpf .oge v406 v402) v402 v406) (select (cmpf .oge v406 v402) v408 v404) (select (cmpf .oge v406 v402) v404 v408))
    (⟨rfl, rfl, rfl, rfl⟩ : CE v407 v392 v409 v394 _ _ _ _)

set_option maxHeartbeats 4000000 in
/-- Candidates of group slot 0 through the sorting network. -/
theorem sorted_0 {v428 v431 v434 v437 v440 v443 v446 v449 v526 v527 v531 v532 v536 v537 v541 v542 v556 v572 v586 v587 v591 v592 v596 v597 : IVec S16 32} {v429 v432 v435 v438 v441 v444 v447 v450 v524 v530 v534 v535 v539 v540 v544 v545 v554 v570 v584 v585 v589 v590 v594 v595 : FVec F S16 .f32} {v543 : IVec S16 1}
    (h524 : v524 = k1_pay148 v429 v432 v435 v438)
    (h526 : v526 = k1_pay150 v428 v429 v431 v432 v434 v435 v437 v438)
    (h527 : v527 = k1_pay151 v428 v429 v431 v432 v434 v435 v437 v438)
    (h530 : v530 = k1_pay154 v429 v432 v435 v438)
    (h531 : v531 = k1_pay155 v428 v429 v431 v432 v434 v435 v437 v438)
    (h532 : v532 = k1_pay156 v428 v429 v431 v432 v434 v435 v437 v438)
    (h534 : v534 = k1_pay158 v441 v444 v447 v450)
    (h535 : v535 = k1_pay159 v441 v444 v447 v450)
    (h536 : v536 = k1_pay160 v440 v441 v443 v444 v446 v447 v449 v450)
    (h537 : v537 = k1_pay161 v440 v441 v443 v444 v446 v447 v449 v450)
    (h539 : v539 = k1_pay163 v441 v444 v447 v450)
    (h540 : v540 = k1_pay164 v441 v444 v447 v450)
    (h541 : v541 = k1_pay165 v440 v441 v443 v444 v446 v447 v449 v450)
    (h542 : v542 = k1_pay166 v440 v441 v443 v444 v446 v447 v449 v450)
    (h543 : v543 = k1_pay167 v429 v432 v435 v438)
    (h544 : v544 = k1_pay168 v429 v432 v435 v438)
    (h545 : v545 = k1_pay169 v429 v432 v435 v438)
    (h554 : v554 = k1_pay178 v524 v534)
    (h556 : v556 = k1_pay180 v524 v526 v534 v536)
    (h570 : v570 = k1_pay194 v530 v540)
    (h572 : v572 = k1_pay196 v530 v532 v540 v542)
    (h584 : v584 = k1_pay208 v524 v534 v535 v539 v544 v545)
    (h585 : v585 = k1_pay209 v524 v534 v535 v539 v544 v545)
    (h586 : v586 = k1_pay210 v524 v526 v527 v531 v534 v535 v536 v537 v539 v541 v543 v544 v545)
    (h587 : v587 = k1_pay211 v524 v526 v527 v531 v534 v535 v536 v537 v539 v541 v543 v544 v545)
    (h589 : v589 = k1_pay213 v524 v530 v534 v535 v539 v540 v544 v545)
    (h590 : v590 = k1_pay214 v524 v530 v534 v535 v539 v540 v544 v545)
    (h591 : v591 = k1_pay215 v524 v526 v527 v530 v531 v532 v534 v535 v536 v537 v539 v540 v541 v542 v543 v544 v545)
    (h592 : v592 = k1_pay216 v524 v526 v527 v530 v531 v532 v534 v535 v536 v537 v539 v540 v541 v542 v543 v544 v545)
    (h594 : v594 = k1_pay218 v530 v535 v539 v540 v544 v545)
    (h595 : v595 = k1_pay219 v530 v535 v539 v540 v544 v545)
    (h596 : v596 = k1_pay220 v527 v530 v531 v532 v535 v537 v539 v540 v541 v542 v543 v544 v545)
    (h597 : v597 = k1_pay221 v527 v530 v531 v532 v535 v537 v539 v540 v541 v542 v543 v544 v545)
    (x : S16.Idx) : sort8 geF (oct v429 v432 v435 v438 v441 v444 v447 v450 v428 v431 v434 v437 v440 v443 v446 v449 x) = oct v554 v584 v585 v589 v590 v594 v595 v570 v556 v586 v587 v591 v592 v596 v597 v572 x :=
  sort8_oct x
    (⟨rfl, rfl, rfl, rfl⟩ : CE v429 v432 v428 v431 (k1_pay128 v429 v432) (k1_pay129 v429 v432) (k1_pay130 v428 v429 v431 v432) (k1_pay131 v428 v429 v431 v432))
    (⟨rfl, rfl, rfl, rfl⟩ : CE v435 v438 v434 v437 (k1_pay133 v435 v438) (k1_pay134 v435 v438) (k1_pay135 v434 v435 v437 v438) (k1_pay136 v434 v435 v437 v438))
    (⟨rfl, rfl, rfl, rfl⟩ : CE v441 v444 v440 v443 (k1_pay138 v441 v444) (k1_pay139 v441 v444) (k1_pay140 v440 v441 v443 v444) (k1_pay141 v440 v441 v443 v444))
    (⟨rfl, rfl, rfl, rfl⟩ : CE v447 v450 v446 v449 (k1_pay143 v447 v450) (k1_pay144 v447 v450) (k1_pay145 v446 v447 v449 v450) (k1_pay146 v446 v447 v449 v450))
    (⟨(by simp only [h524] <;> rfl), rfl, (by simp only [h526] <;> rfl), (by simp only [h527] <;> rfl)⟩ : CE (k1_pay128 v429 v432) (k1_pay133 v435 v438) (k1_pay130 v428 v429 v431 v432) (k1_pay135 v434 v435 v437 v438) v524 (k1_pay149 v429 v432 v435 v438) v526 v527)
    (⟨rfl, (by simp only [h530] <;> rfl), (by simp only [h531] <;> rfl), (by simp only [h532] <;> rfl)⟩ : CE (k1_pay129 v429 v432) (k1_pay134 v435 v438) (k1_pay131 v428 v429 v431 v432) (k1_pay136 v434 v435 v437 v438) (k1_pay153 v429 v432 v435 v438) v530 v531 v532)
    (⟨(by simp only [h534] <;> rfl), (by simp only [h535] <;> rfl), (by simp only [h536] <;> rfl), (by simp only [h537] <;> rfl)⟩ : CE (k1_pay138 v441 v444) (k1_pay143 v447 v450) (k1_pay140 v440 v441 v443 v444) (k1_pay145 v446 v447 v449 v450) v534 v535 v536 v537)
    (⟨(by simp only [h539] <;> rfl), (by simp only [h540] <;> rfl), (by simp only [h541] <;> rfl), (by simp only [h542] <;> rfl)⟩ : CE (k1_pay139 v441 v444) (k1_pay144 v447 v450) (k1_pay141 v440 v441 v443 v444) (k1_pay146 v446 v447 v449 v450) v539 v540 v541 v542)
    (⟨(by simp only [h544, h543, h531, h527] <;> rfl), (by simp only [h545, h543, h531, h527] <;> rfl), (by simp only [h543, h531, h527] <;> rfl), (by simp only [h543, h531, h527] <;> rfl)⟩ : CE (k1_pay153 v429 v432 v435 v438) (k1_pay149 v429 v432 v435 v438) v531 v527 v544 v545 (k1_pay170 v527 v531 v543) (k1_pay171 v527 v531 v543))
    (⟨rfl, rfl, rfl, rfl⟩ : CE v539 v535 v541 v537 (k1_pay173 v535 v539) (k1_pay174 v535 v539) (k1_pay175 v535 v537 v539 v541) (k1_pay176 v535 v537 v539 v541))
    (⟨(by simp only [h554] <;> rfl), rfl, (by simp only [h556] <;> rfl), rfl⟩ : CE v524 v534 v526 v536 v554 (k1_pay179 v524 v534) v556 (k1_pay181 v524 v526 v534 v536))
    (⟨rfl, rfl, rfl, rfl⟩ : CE v544 (k1_pay173 v535 v539) (k1_pay170 v527 v531 v543) (k1_pay175 v535 v537 v539 v541) (k1_pay183 v535 v539 v544) (k1_pay184 v535 v539 v544) (k1_pay185 v527 v531 v535 v537 v539 v541 v543 v544) (k1_pay186 v527 v531 v535 v537 v539 v541 v543 v544))
    (⟨rfl, rfl, rfl, rfl⟩ : CE v545 (k1_pay174 v535 v539) (k1_pay171 v527 v531 v543) (k1_pay176 v535 v537 v539 v541) (k1_pay188 v535 v539 v545) (k1_pay189 v535 v539 v545) (k1_pay190 v527 v531 v535 v537 v539 v541 v543 v545) (k1_pay191 v527 v531 v535 v537 v539 v541 v543 v545))
    (⟨rfl, (by simp only [h570] <;> rfl), rfl, (by simp only [h572] <;> rfl)⟩ : CE v530 v540 v532 v542 (k1_pay193 v530 v540) v570 (k1_pay195 v530 v532 v540 v542) v572)
    (⟨rfl, rfl, rfl, rfl⟩ : CE (k1_pay188 v535 v539 v545) (k1_pay179 v524 v534) (k1_pay190 v527 v531 v535 v537 v539 v541 v543 v545) (k1_pay181 v524 v526 v534 v536) (k1_pay198 v524 v534 v535 v539 v545) (k1_pay199 v524 v534 v535 v539 v545) (k1_pay200 v524 v526 v527 v531 v534 v535 v536 v537 v539 v541 v543 v545) (k1_pay201 v524 v526 v527 v531 v534 v535 v536 v537 v539 v541 v543 v545))
    (⟨rfl, rfl, rfl, rfl⟩ : CE (k1_pay193 v530 v540) (k1_pay184 v535 v539 v544) (k1_pay195 v530 v532 v540 v542) (k1_pay186 v527 v531 v535 v537 v539 v541 v543 v544) (k1_pay203 v530 v535 v539 v540 v544) (k1_pay204 v530 v535 v539 v540 v544) (k1_pay205 v527 v530 v531 v532 v535 v537 v539 v540 v541 v542 v543 v544) (k1_pay206 v527 v530 v531 v532 v535 v537 v539 v540 v541 v542 v543 v544))
    (⟨(by simp only [h584] <;> rfl), (by simp only [h585] <;> rfl), (by simp only [h586] <;> rfl), (by simp only [h587] <;> rfl)⟩ : CE (k1_pay183 v535 v539 v544) (k1_pay198 v524 v534 v535 v539 v545) (k1_pay185 v527 v531 v535 v537 v539 v541 v543 v544) (k1_pay200 v524 v526 v527 v531 v534 v535 v536 v537 v539 v541 v543 v545) v584 v585 v586 v587)
    (⟨(by simp only [h589] <;> rfl), (by simp only [h590] <;> rfl), (by simp only [h591] <;> rfl), (by simp only [h592] <;> rfl)⟩ : CE (k1_pay203 v530 v535 v539 v540 v544) (k1_pay199 v524 v534 v535 v539 v545) (k1_pay205 v527 v530 v531 v532 v535 v537 v539 v540 v541 v542 v543 v544) (k1_pay201 v524 v526 v527 v531 v534 v535 v536 v537 v539 v541 v543 v545) v589 v590 v591 v592)
    (⟨(by simp only [h594] <;> rfl), (by simp only [h595] <;> rfl), (by simp only [h596] <;> rfl), (by simp only [h597] <;> rfl)⟩ : CE (k1_pay204 v530 v535 v539 v540 v544) (k1_pay189 v535 v539 v545) (k1_pay206 v527 v530 v531 v532 v535 v537 v539 v540 v541 v542 v543 v544) (k1_pay191 v527 v531 v535 v537 v539 v541 v543 v545) v594 v595 v596 v597)

set_option maxHeartbeats 4000000 in
/-- Candidates of group slot 1 through the sorting network. -/
theorem sorted_1 {v454 v457 v460 v463 v466 v469 v472 v475 v601 v602 v627 v637 v651 v652 v656 v657 v661 v662 v667 v681 v682 v686 v687 v691 v692 : IVec S16 32} {v455 v458 v461 v464 v467 v470 v473 v476 v599 v600 v604 v605 v649 v650 v654 v655 v659 v660 v664 v665 v679 v680 v684 v685 v689 v690 : FVec F S16 .f32} {v603 v663 : IVec S16 1}
    (h599 : v599 = k1_pay223 v455 v458)
    (h600 : v600 = k1_pay224 v455 v458)
    (h601 : v601 = k1_pay225 v454 v455 v457 v458)
    (h602 : v602 = k1_pay226 v454 v455 v457 v458)
    (h603 : v603 = k1_pay227 v461 v464)
    (h604 : v604 = k1_pay228 v461 v464)
    (h605 : v605 = k1_pay229 v461 v464)
    (h627 : v627 = k1_pay251 v460 v463 v600 v602 v603 v605)
    (h637 : v637 = k1_pay261 v466 v467 v469 v470 v472 v473 v475 v476)
    (h649 : v649 = k1_pay273 v467 v470 v473 v476 v599 v604)
    (h650 : v650 = k1_pay274 v467 v470 v473 v476 v599 v604)
    (h651 : v651 = k1_pay275 v460 v463 v466 v467 v469 v470 v472 v473 v475 v476 v599 v601 v603 v604)
    (h652 : v652 = k1_pay276 v460 v463 v466 v467 v469 v470 v472 v473 v475 v476 v599 v601 v603 v604)
    (h654 : v654 = k1_pay278 v467 v470 v473 v476 v599 v600 v604 v605)
    (h655 : v655 = k1_pay279 v467 v470 v473 v476 v599 v600 v604 v605)
    (h656 : v656 = k1_pay280 v460 v463 v466 v467 v469 v470 v472 v473 v475 v476 v599 v600 v601 v602 v603 v604 v605)
    (h657 : v657 = k1_pay281 v460 v463 v466 v467 v469 v470 v472 v473 v475 v476 v599 v600 v601 v602 v603 v604 v605)
    (h659 : v659 = k1_pay283 v467 v470 v473 v476 v599 v600 v604 v605)
    (h660 : v660 = k1_pay284 v467 v470 v473 v476 v599 v600 v604 v605)
    (h661 : v661 = k1_pay285 v460 v463 v466 v467 v469 v470 v472 v473 v475 v476 v599 v600 v601 v602 v603 v604 v605)
    (h662 : v662 = k1_pay286 v460 v463 v466 v467 v469 v470 v472 v473 v475 v476 v599 v600 v601 v602 v603 v604 v605)
    (h663 : v663 = k1_pay287 v467 v470 v473 v476 v600 v605)
    (h664 : v664 = k1_pay288 v467 v470 v473 v476 v600 v605)
    (h665 : v665 = k1_pay289 v467 v470 v473 v476 v600 v605)
    (h667 : v667 = k1_pay291 v627 v637 v663)
    (h679 : v679 = k1_pay303 v650 v654 v659)
    (h680 : v680 = k1_pay304 v650 v654 v659)
    (h681 : v681 = k1_pay305 v650 v652 v654 v656 v659 v661)
    (h682 : v682 = k1_pay306 v650 v652 v654 v656 v659 v661)
    (h684 : v684 = k1_pay308 v650 v655 v659 v664)
    (h685 : v685 = k1_pay309 v650 v655 v659 v664)
    (h686 : v686 = k1_pay310 v627 v637 v650 v652 v655 v657 v659 v661 v663 v664)
    (h687 : v687 = k1_pay311 v627 v637 v650 v652 v655 v657 v659 v661 v663 v664)
    (h689 : v689 = k1_pay313 v655 v660 v664)
    (h690 : v690 = k1_pay314 v655 v660 v664)
    (h691 : v691 = k1_pay315 v627 v637 v655 v657 v660 v662 v663 v664)
    (h692 : v692 = k1_pay316 v627 v637 v655 v657 v660 v662 v663 v664)
    (x : S16.Idx) : sort8 geF (oct v455 v458 v461 v464 v467 v470 v473 v476 v454 v457 v460 v463 v466 v469 v472 v475 x) = oct v649 v679 v680 v684 v685 v689 v690 v665 v651 v681 v682 v686 v687 v691 v692 v667 x :=
  sort8_oct x
    (⟨(by simp only [h599] <;> rfl), (by simp only [h600] <;> rfl), (by simp only [h601] <;> rfl), (by simp only [h602] <;> rfl)⟩ : CE v455 v458 v454 v457 v599 v600 v601 v602)
    (⟨(by simp only [h604, h603] <;> rfl), (by simp only [h605, h603] <;> rfl), (by simp only [h603] <;> rfl), (by simp only [h603] <;> rfl)⟩ : CE v461 v464 v460 v463 v604 v605 (k1_pay230 v460 v463 v603) (k1_pay231 v460 v463 v603))
    (⟨rfl, rfl, rfl, rfl⟩ : CE v467 v470 v466 v469 (k1_pay233 v467 v470) (k1_pay234 v467 v470) (k1_pay235 v466 v467 v469 v470) (k1_pay236 v466 v467 v469 v470))
    (⟨rfl, rfl, rfl, rfl⟩ : CE v473 v476 v472 v475 (k1_pay238 v473 v476) (k1_pay239 v473 v476) (k1_pay240 v472 v473 v475 v476) (k1_pay241 v472 v473 v475 v476))
    (⟨rfl, rfl, rfl, rfl⟩ : CE v599 v604 v601 (k1_pay230 v460 v463 v603) (k1_pay243 v599 v604) (k1_pay244 v599 v604) (k1_pay245 v460 v463 v599 v601 v603 v604) (k1_pay246 v460 v463 v599 v601 v603 v604))
    (⟨rfl, rfl, rfl, (by simp only [h627] <;> rfl)⟩ : CE v600 v605 v602 (k1_pay231 v460 v463 v603) (k1_pay248 v600 v605) (k1_pay249 v600 v605) (k1_pay250 v460 v463 v600 v602 v603 v605) v627)
    (⟨rfl, rfl, rfl, rfl⟩ : CE (k1_pay233 v467 v470) (k1_pay238 v473 v476) (k1_pay235 v466 v467 v469 v470) (k1_pay240 v472 v473 v475 v476) (k1_pay253 v467 v470 v473 v476) (k1_pay254 v467 v470 v473 v476) (k1_pay255 v466 v467 v469 v470 v472 v473 v475 v476) (k1_pay256 v466 v467 v469 v470 v472 v473 v475 v476))
    (⟨rfl, rfl, rfl, (by simp only [h637] <;> rfl)⟩ : CE (k1_pay234 v467 v470) (k1_pay239 v473 v476) (k1_pay236 v466 v467 v469 v470) (k1_pay241 v472 v473 v475 v476) (k1_pay258 v467 v470 v473 v476) (k1_pay259 v467 v470 v473 v476) (k1_pay260 v466 v467 v469 v470 v472 v473 v475 v476) v637)
    (⟨rfl, rfl, rfl, rfl⟩ : CE (k1_pay248 v600 v605) (k1_pay244 v599 v604) (k1_pay250 v460 v463 v600 v602 v603 v605) (k1_pay246 v460 v463 v599 v601 v603 v604) (k1_pay263 v599 v600 v604 v605) (k1_pay264 v599 v600 v604 v605) (k1_pay265 v460 v463 v599 v600 v601 v602 v603 v604 v605) (k1_pay266 v460 v463 v599 v600 v601 v602 v603 v604 v605))
    (⟨rfl, rfl, rfl, rfl⟩ : CE (k1_pay258 v467 v470 v473 v476) (k1_pay254 v467 v470 v473 v476) (k1_pay260 v466 v467 v469 v470 v472 v473 v475 v476) (k1_pay256 v466 v467 v469 v470 v472 v473 v475 v476) (k1_pay268 v467 v470 v473 v476) (k1_pay269 v467 v470 v473 v476) (k1_pay270 v466 v467 v469 v470 v472 v473 v475 v476) (k1_pay271 v466 v467 v469 v470 v472 v473 v475 v476))
    (⟨(by simp only [h649] <;> rfl), (by simp only [h650] <;> rfl), (by simp only [h651] <;> rfl), (by simp only [h652] <;> rfl)⟩ : CE (k1_pay243 v599 v604) (k1_pay253 v467 v470 v473 v476) (k1_pay245 v460 v463 v599 v601 v603 v604) (k1_pay255 v466 v467 v469 v470 v472 v473 v475 v476) v649 v650 v651 v652)
    (⟨(by simp only [h654] <;> rfl), (by simp only [h655] <;> rfl), (by simp only [h656] <;> rfl), (by simp only [h657] <;> rfl)⟩ : CE (k1_pay263 v599 v600 v604 v605) (k1_pay268 v467 v470 v473 v476) (k1_pay265 v460 v463 v599 v600 v601 v602 v603 v604 v605) (k1_pay270 v466 v467 v469 v470 v472 v473 v475 v476) v654 v655 v656 v657)
    (⟨(by simp only [h659] <;> rfl), (by simp only [h660] <;> rfl), (by simp only [h661] <;> rfl), (by simp only [h662] <;> rfl)⟩ : CE (k1_pay264 v599 v600 v604 v605) (k1_pay269 v467 v470 v473 v476) (k1_pay266 v460 v463 v599 v600 v601 v602 v603 v604 v605) (k1_pay271 v466 v467 v469 v470 v472 v473 v475 v476) v659 v660 v661 v662)
    (⟨(by simp only [h664, h663, h627, h637] <;> rfl), (by simp only [h665, h663, h627, h637] <;> rfl), (by simp only [h663, h627, h637] <;> rfl), (by simp only [h667, h663, h627, h637] <;> rfl)⟩ : CE (k1_pay249 v600 v605) (k1_pay259 v467 v470 v473 v476) v627 v637 v664 v665 (k1_pay290 v627 v637 v663) v667)
    (⟨rfl, rfl, rfl, rfl⟩ : CE v659 v650 v661 v652 (k1_pay293 v650 v659) (k1_pay294 v650 v659) (k1_pay295 v650 v652 v659 v661) (k1_pay296 v650 v652 v659 v661))
    (⟨rfl, rfl, rfl, rfl⟩ : CE v664 v655 (k1_pay290 v627 v637 v663) v657 (k1_pay298 v655 v664) (k1_pay299 v655 v664) (k1_pay300 v627 v637 v655 v657 v663 v664) (k1_pay301 v627 v637 v655 v657 v663 v664))
    (⟨(by simp only [h679] <;> rfl), (by simp only [h680] <;> rfl), (by simp only [h681] <;> rfl), (by simp only [h682] <;> rfl)⟩ : CE v654 (k1_pay293 v650 v659) v656 (k1_pay295 v650 v652 v659 v661) v679 v680 v681 v682)
    (⟨(by simp only [h684] <;> rfl), (by simp only [h685] <;> rfl), (by simp only [h686] <;> rfl), (by simp only [h687] <;> rfl)⟩ : CE (k1_pay298 v655 v664) (k1_pay294 v650 v659) (k1_pay300 v627 v637 v655 v657 v663 v664) (k1_pay296 v650 v652 v659 v661) v684 v685 v686 v687)
    (⟨(by simp only [h689] <;> rfl), (by simp only [h690] <;> rfl), (by simp only [h691] <;> rfl), (by simp only [h692] <;> rfl)⟩ : CE (k1_pay299 v655 v664) v660 (k1_pay301 v627 v637 v655 v657 v663 v664) v662 v689 v690 v691 v692)

set_option maxHeartbeats 4000000 in
/-- Candidates of group slot 2 through the sorting network. -/
theorem sorted_2 {v480 v483 v486 v489 v492 v495 v498 v501 v706 v707 v711 v712 v716 v717 v721 v722 v746 v757 v762 v772 v776 v777 v781 v782 v786 v787 : IVec S16 32} {v481 v484 v487 v490 v493 v496 v499 v502 v705 v710 v714 v715 v719 v720 v724 v725 v744 v760 v774 v775 v779 v780 v784 v785 : FVec F S16 .f32} {v723 v783 : IVec S16 1}
    (h705 : v705 = k1_pay329 v493 v496)
    (h706 : v706 = k1_pay330 v492 v493 v495 v496)
    (h707 : v707 = k1_pay331 v492 v493 v495 v496)
    (h710 : v710 = k1_pay334 v499 v502)
    (h711 : v711 = k1_pay335 v498 v499 v501 v502)
    (h712 : v712 = k1_pay336 v498 v499 v501 v502)
    (h714 : v714 = k1_pay338 v481 v484 v487 v490)
    (h715 : v715 = k1_pay339 v481 v484 v487 v490)
    (h716 : v716 = k1_pay340 v480 v481 v483 v484 v486 v487 v489 v490)
    (h717 : v717 = k1_pay341 v480 v481 v483 v484 v486 v487 v489 v490)
    (h719 : v719 = k1_pay343 v481 v484 v487 v490)
    (h720 : v720 = k1_pay344 v481 v484 v487 v490)
    (h721 : v721 = k1_pay345 v480 v481 v483 v484 v486 v487 v489 v490)
    (h722 : v722 = k1_pay346 v480 v481 v483 v484 v486 v487 v489 v490)
    (h723 : v723 = k1_pay347 v493 v496 v499 v502)
    (h724 : v724 = k1_pay348 v493 v496 v499 v502)
    (h725 : v725 = k1_pay349 v493 v496 v499 v502)
    (h744 : v744 = k1_pay368 v714 v724)
    (h746 : v746 = k1_pay370 v706 v711 v714 v716 v723 v724)
    (h757 : v757 = k1_pay381 v705 v706 v707 v710 v711 v712 v715 v717 v719 v721 v723 v725)
    (h760 : v760 = k1_pay384 v705 v710 v720)
    (h762 : v762 = k1_pay386 v705 v707 v710 v712 v720 v722)
    (h772 : v772 = k1_pay396 v705 v706 v707 v710 v711 v712 v715 v717 v719 v720 v721 v722 v723 v725)
    (h774 : v774 = k1_pay398 v705 v710 v714 v715 v719 v724 v725)
    (h775 : v775 = k1_pay399 v705 v710 v714 v715 v719 v724 v725)
    (h776 : v776 = k1_pay400 v705 v706 v707 v710 v711 v712 v714 v715 v716 v717 v719 v721 v723 v724 v725)
    (h777 : v777 = k1_pay401 v705 v706 v707 v710 v711 v712 v714 v715 v716 v717 v719 v721 v723 v724 v725)
    (h779 : v779 = k1_pay403 v705 v710 v714 v715 v719 v720 v724 v725)
    (h780 : v780 = k1_pay404 v705 v710 v714 v715 v719 v720 v724 v725)
    (h781 : v781 = k1_pay405 v705 v706 v707 v710 v711 v712 v714 v715 v716 v717 v719 v720 v721 v722 v723 v724 v725)
    (h782 : v782 = k1_pay406 v705 v706 v707 v710 v711 v712 v714 v715 v716 v717 v719 v720 v721 v722 v723 v724 v725)
    (h783 : v783 = k1_pay407 v705 v710 v715 v719 v720 v725)
    (h784 : v784 = k1_pay408 v705 v710 v715 v719 v720 v725)
    (h785 : v785 = k1_pay409 v705 v710 v715 v719 v720 v725)
    (h786 : v786 = k1_pay410 v757 v772 v783)
    (h787 : v787 = k1_pay411 v757 v772 v783)
    (x : S16.Idx) : sort8 geF (oct v481 v484 v487 v490 v493 v496 v499 v502 v480 v483 v486 v489 v492 v495 v498 v501 x) = oct v744 v774 v775 v779 v780 v784 v785 v760 v746 v776 v777 v781 v782 v786 v787 v762 x :=
  sort8_oct x
    (⟨rfl, rfl, rfl, rfl⟩ : CE v481 v484 v480 v483 (k1_pay318 v481 v484) (k1_pay319 v481 v484) (k1_pay320 v480 v481 v483 v484) (k1_pay321 v480 v481 v483 v484))
    (⟨rfl, rfl, rfl, rfl⟩ : CE v487 v490 v486 v489 (k1_pay323 v487 v490) (k1_pay324 v487 v490) (k1_pay325 v486 v487 v489 v490) (k1_pay326 v486 v487 v489 v490))
    (⟨rfl, (by simp only [h705] <;> rfl), (by simp only [h706] <;> rfl), (by simp only [h707] <;> rfl)⟩ : CE v493 v496 v492 v495 (k1_pay328 v493 v496) v705 v706 v707)
    (⟨rfl, (by simp only [h710] <;> rfl), (by simp only [h711] <;> rfl), (by simp only [h712] <;> rfl)⟩ : CE v499 v502 v498 v501 (k1_pay333 v499 v502) v710 v711 v712)
    (⟨(by simp only [h714] <;> rfl), (by simp only [h715] <;> rfl), (by simp only [h716] <;> rfl), (by simp only [h717] <;> rfl)⟩ : CE (k1_pay318 v481 v484) (k1_pay323 v487 v490) (k1_pay320 v480 v481 v483 v484) (k1_pay325 v486 v487 v489 v490) v714 v715 v716 v717)
    (⟨(by simp only [h719] <;> rfl), (by simp only [h720] <;> rfl), (by simp only [h721] <;> rfl), (by simp only [h722] <;> rfl)⟩ : CE (k1_pay319 v481 v484) (k1_pay324 v487 v490) (k1_pay321 v480 v481 v483 v484) (k1_pay326 v486 v487 v489 v490) v719 v720 v721 v722)
    (⟨(by simp only [h724, h723, h706, h711] <;> rfl), (by simp only [h725, h723, h706, h711] <;> rfl), (by simp only [h723, h706, h711] <;> rfl), (by simp only [h723, h706, h711] <;> rfl)⟩ : CE (k1_pay328 v493 v496) (k1_pay333 v499 v502) v706 v711 v724 v725 (k1_pay350 v706 v711 v723) (k1_pay351 v706 v711 v723))
    (⟨rfl, rfl, rfl, rfl⟩ : CE v705 v710 v707 v712 (k1_pay353 v705 v710) (k1_pay354 v705 v710) (k1_pay355 v705 v707 v710 v712) (k1_pay356 v705 v707 v710 v712))
    (⟨rfl, rfl, rfl, rfl⟩ : CE v719 v715 v721 v717 (k1_pay358 v715 v719) (k1_pay359 v715 v719) (k1_pay360 v715 v717 v719 v721) (k1_pay361 v715 v717 v719 v721))
    (⟨rfl, rfl, rfl, rfl⟩ : CE (k1_pay353 v705 v710) v725 (k1_pay355 v705 v707 v710 v712) (k1_pay351 v706 v711 v723) (k1_pay363 v705 v710 v725) (k1_pay364 v705 v710 v725) (k1_pay365 v705 v706 v707 v710 v711 v712 v723 v725) (k1_pay366 v705 v706 v707 v710 v711 v712 v723 v725))
    (⟨(by simp only [h744] <;> rfl), rfl, (by simp only [h746] <;> rfl), rfl⟩ : CE v714 v724 v716 (k1_pay350 v706 v711 v723) v744 (k1_pay369 v714 v724) v746 (k1_pay371 v706 v711 v714 v716 v723 v724))
    (⟨rfl, rfl, rfl, rfl⟩ : CE (k1_pay358 v715 v719) (k1_pay363 v705 v710 v725) (k1_pay360 v715 v717 v719 v721) (k1_pay365 v705 v706 v707 v710 v711 v712 v723 v725) (k1_pay373 v705 v710 v715 v719 v725) (k1_pay374 v705 v710 v715 v719 v725) (k1_pay375 v705 v706 v707 v710 v711 v712 v715 v717 v719 v721 v723 v725) (k1_pay376 v705 v706 v707 v710 v711 v712 v715 v717 v719 v721 v723 v725))
    (⟨rfl, rfl, rfl, (by simp only [h757] <;> rfl)⟩ : CE (k1_pay359 v715 v719) (k1_pay364 v705 v710 v725) (k1_pay361 v715 v717 v719 v721) (k1_pay366 v705 v706 v707 v710 v711 v712 v723 v725) (k1_pay378 v705 v710 v715 v719 v725) (k1_pay379 v705 v710 v715 v719 v725) (k1_pay380 v705 v706 v707 v710 v711 v712 v715 v717 v719 v721 v723 v725) v757)
    (⟨rfl, (by simp only [h760] <;> rfl), rfl, (by simp only [h762] <;> rfl)⟩ : CE v720 (k1_pay354 v705 v710) v722 (k1_pay356 v705 v707 v710 v712) (k1_pay383 v705 v710 v720) v760 (k1_pay385 v705 v707 v710 v712 v720 v722) v762)
    (⟨rfl, rfl, rfl, rfl⟩ : CE (k1_pay378 v705 v710 v715 v719 v725) (k1_pay369 v714 v724) (k1_pay380 v705 v706 v707 v710 v711 v712 v715 v717 v719 v721 v723 v725) (k1_pay371 v706 v711 v714 v716 v723 v724) (k1_pay388 v705 v710 v714 v715 v719 v724 v725) (k1_pay389 v705 v710 v714 v715 v719 v724 v725) (k1_pay390 v705 v706 v707 v710 v711 v712 v714 v715 v716 v717 v719 v721 v723 v724 v725) (k1_pay391 v705 v706 v707 v710 v711 v712 v714 v715 v716 v717 v719 v721 v723 v724 v725))
    (⟨rfl, rfl, rfl, (by simp only [h772] <;> rfl)⟩ : CE (k1_pay383 v705 v710 v720) (k1_pay374 v705 v710 v715 v719 v725) (k1_pay385 v705 v707 v710 v712 v720 v722) (k1_pay376 v705 v706 v707 v710 v711 v712 v715 v717 v719 v721 v723 v725) (k1_pay393 v705 v710 v715 v719 v720 v725) (k1_pay394 v705 v710 v715 v719 v720 v725) (k1_pay395 v705 v706 v707 v710 v711 v712 v715 v717 v719 v720 v721 v722 v723 v725) v772)
    (⟨(by simp only [h774] <;> rfl), (by simp only [h775] <;> rfl), (by simp only [h776] <;> rfl), (by simp only [h777] <;> rfl)⟩ : CE (k1_pay373 v705 v710 v715 v719 v725) (k1_pay388 v705 v710 v714 v715 v719 v724 v725) (k1_pay375 v705 v706 v707 v710 v711 v712 v715 v717 v719 v721 v723 v725) (k1_pay390 v705 v706 v707 v710 v711 v712 v714 v715 v716 v717 v719 v721 v723 v724 v725) v774 v775 v776 v777)
    (⟨(by simp only [h779] <;> rfl), (by simp only [h780] <;> rfl), (by simp only [h781] <;> rfl), (by simp only [h782] <;> rfl)⟩ : CE (k1_pay393 v705 v710 v715 v719 v720 v725) (k1_pay389 v705 v710 v714 v715 v719 v724 v725) (k1_pay395 v705 v706 v707 v710 v711 v712 v715 v717 v719 v720 v721 v722 v723 v725) (k1_pay391 v705 v706 v707 v710 v711 v712 v714 v715 v716 v717 v719 v721 v723 v724 v725) v779 v780 v781 v782)
    (⟨(by simp only [h784, h783, h772, h757] <;> rfl), (by simp only [h785, h783, h772, h757] <;> rfl), (by simp only [h786, h783, h772, h757] <;> rfl), (by simp only [h787, h783, h772, h757] <;> rfl)⟩ : CE (k1_pay394 v705 v710 v715 v719 v720 v725) (k1_pay379 v705 v710 v715 v719 v725) v772 v757 v784 v785 v786 v787)

set_option maxHeartbeats 4000000 in
/-- The first two sorted octets merged. -/
theorem merged_0 {v554 v570 v584 v585 v589 v590 v594 v595 v649 v665 v679 v680 v684 v685 v689 v690 v819 v829 v833 v834 v838 v839 v843 v844 : FVec F S16 .f32} {v556 v572 v586 v587 v591 v592 v596 v597 v651 v667 v681 v682 v686 v687 v691 v692 v816 v821 v826 v831 v835 v836 v840 v841 v845 : IVec S16 32} {v842 : IVec S16 1}
    (h816 : v816 = k1_pay440 v554 v556 v590 v592 v665 v667 v684 v686)
    (h819 : v819 = k1_pay443 v584 v594 v680 v690)
    (h821 : v821 = k1_pay445 v584 v586 v594 v596 v680 v682 v690 v692)
    (h826 : v826 = k1_pay450 v585 v587 v595 v597 v679 v681 v689 v691)
    (h829 : v829 = k1_pay453 v570 v589 v649 v685)
    (h831 : v831 = k1_pay455 v570 v572 v589 v591 v649 v651 v685 v687)
    (h833 : v833 = k1_pay457 v554 v585 v590 v595 v665 v679 v684 v689)
    (h834 : v834 = k1_pay458 v554 v585 v590 v595 v665 v679 v684 v689)
    (h835 : v835 = k1_pay459 v554 v556 v585 v587 v590 v592 v595 v597 v665 v667 v679 v681 v684 v686 v689 v691)
    (h836 : v836 = k1_pay460 v554 v556 v585 v587 v590 v592 v595 v597 v665 v667 v679 v681 v684 v686 v689 v691)
    (h838 : v838 = k1_pay462 v570 v584 v589 v594 v649 v680 v685 v690)
    (h839 : v839 = k1_pay463 v570 v584 v589 v594 v649 v680 v685 v690)
    (h840 : v840 = k1_pay464 v570 v572 v584 v586 v589 v591 v594 v596 v649 v651 v680 v682 v685 v687 v690 v692)
    (h841 : v841 = k1_pay465 v570 v572 v584 v586 v589 v591 v594 v596 v649 v651 v680 v682 v685 v687 v690 v692)
    (h842 : v842 = k1_pay466 v554 v585 v590 v595 v665 v679 v684 v689)
    (h843 : v843 = k1_pay467 v554 v585 v590 v595 v665 v679 v684 v689)
    (h844 : v844 = k1_pay468 v554 v585 v590 v595 v665 v679 v684 v689)
    (h845 : v845 = k1_pay469 v554 v556 v585 v587 v590 v592 v595 v597 v665 v667 v679 v681 v684 v686 v689 v691)
    (x : S16.Idx) : merge8 geF (oct v554 v584 v585 v589 v590 v594 v595 v570 v556 v586 v587 v591 v592 v596 v597 v572 x) (oct v649 v679 v680 v684 v685 v689 v690 v665 v651 v681 v682 v686 v687 v691 v692 v667 x) = oct (k1_pay477 v833 v838) (k1_pay478 v833 v838) (k1_pay480 v834 v839) (k1_pay481 v834 v839) (k1_pay483 v819 v829 v843) (k1_pay484 v819 v829 v843) (k1_pay486 v819 v829 v844) (k1_pay487 v819 v829 v844) (select (k1_pay476 v833 v838) v835 v840) (select (k1_pay476 v833 v838) v840 v835) (select (k1_pay479 v834 v839) v836 v841) (select (k1_pay479 v834 v839) v841 v836) (select (k1_pay482 v819 v829 v843) v845 (k1_pay474 v819 v821 v829 v831)) (select (k1_pay482 v819 v829 v843) (k1_pay474 v819 v821 v829 v831) v845) (select (k1_pay485 v819 v829 v844) (k1_pay470 v816 v826 v842) (k1_pay475 v819 v821 v829 v831)) (select (k1_pay485 v819 v829 v844) (k1_pay475 v819 v821 v829 v831) (k1_pay470 v816 v826 v842)) x :=
  merge8_oct x
    (⟨rfl, rfl⟩ : HF v554 v665 v556 v667 (k1_pay413 v554 v665) (k1_pay414 v554 v556 v665 v667))
    (⟨rfl, rfl⟩ : HF v584 v690 v586 v692 (k1_pay416 v584 v690) (k1_pay417 v584 v586 v690 v692))
    (⟨rfl, rfl⟩ : HF v585 v689 v587 v691 (k1_pay419 v585 v689) (k1_pay420 v585 v587 v689 v691))
    (⟨rfl, rfl⟩ : HF v589 v685 v591 v687 (k1_pay422 v589 v685) (k1_pay423 v589 v591 v685 v687))
    (⟨rfl, rfl⟩ : HF v590 v684 v592 v686 (k1_pay425 v590 v684) (k1_pay426 v590 v592 v684 v686))
    (⟨rfl, rfl⟩ : HF v594 v680 v596 v682 (k1_pay428 v594 v680) (k1_pay429 v594 v596 v680 v682))
    (⟨rfl, rfl⟩ : HF v595 v679 v597 v681 (k1_pay431 v595 v679) (k1_pay432 v595 v597 v679 v681))
    (⟨rfl, rfl⟩ : HF v570 v649 v572 v651 (k1_pay434 v570 v649) (k1_pay435 v570 v572 v649 v651))
    (⟨rfl, rfl, rfl, (by simp only [h816] <;> rfl)⟩ : CE (k1_pay413 v554 v665) (k1_pay425 v590 v684) (k1_pay414 v554 v556 v665 v667) (k1_pay426 v590 v592 v684 v686) (k1_pay437 v554 v590 v665 v684) (k1_pay438 v554 v590 v665 v684) (k1_pay439 v554 v556 v590 v592 v665 v667 v684 v686) v816)
    (⟨rfl, (by simp only [h819] <;> rfl), rfl, (by simp only [h821] <;> rfl)⟩ : CE (k1_pay416 v584 v690) (k1_pay428 v594 v680) (k1_pay417 v584 v586 v690 v692) (k1_pay429 v594 v596 v680 v682) (k1_pay442 v584 v594 v680 v690) v819 (k1_pay444 v584 v586 v594 v596 v680 v682 v690 v692) v821)
    (⟨rfl, rfl, rfl, (by simp only [h826] <;> rfl)⟩ : CE (k1_pay419 v585 v689) (k1_pay431 v595 v679) (k1_pay420 v585 v587 v689 v691) (k1_pay432 v595 v597 v679 v681) (k1_pay447 v585 v595 v679 v689) (k1_pay448 v585 v595 v679 v689) (k1_pay449 v585 v587 v595 v597 v679 v681 v689 v691) v826)
    (⟨rfl, (by simp only [h829] <;> rfl), rfl, (by simp only [h831] <;> rfl)⟩ : CE (k1_pay422 v589 v685) (k1_pay434 v570 v649) (k1_pay423 v589 v591 v685 v687) (k1_pay435 v570 v572 v649 v651) (k1_pay452 v570 v589 v649 v685) v829 (k1_pay454 v570 v572 v589 v591 v649 v651 v685 v687) v831)
    (⟨(by simp only [h833] <;> rfl), (by simp only [h834] <;> rfl), (by simp only [h835] <;> rfl), (by simp only [h836] <;> rfl)⟩ : CE (k1_pay437 v554 v590 v665 v684) (k1_pay447 v585 v595 v679 v689) (k1_pay439 v554 v556 v590 v592 v665 v667 v684 v686) (k1_pay449 v585 v587 v595 v597 v679 v681 v689 v691) v833 v834 v835 v836)
    (⟨(by simp only [h838] <;> rfl), (by simp only [h839] <;> rfl), (by simp only [h840] <;> rfl), (by simp only [h841] <;> rfl)⟩ : CE (k1_pay442 v584 v594 v680 v690) (k1_pay452 v570 v589 v649 v685) (k1_pay444 v584 v586 v594 v596 v680 v682 v690 v692) (k1_pay454 v570 v572 v589 v591 v649 v651 v685 v687) v838 v839 v840 v841)
    (⟨(by simp only [h843, h842, h816, h826] <;> rfl), (by simp only [h844, h842, h816, h826] <;> rfl), (by simp only [h845, h842, h816, h826] <;> rfl), (by simp only [h842, h816, h826] <;> rfl)⟩ : CE (k1_pay438 v554 v590 v665 v684) (k1_pay448 v585 v595 v679 v689) v816 v826 v843 v844 v845 (k1_pay470 v816 v826 v842))
    (⟨rfl, rfl, rfl, rfl⟩ : CE v819 v829 v821 v831 (k1_pay472 v819 v829) (k1_pay473 v819 v829) (k1_pay474 v819 v821 v829 v831) (k1_pay475 v819 v821 v829 v831))
    (⟨rfl, rfl, rfl, rfl⟩ : CE v833 v838 v835 v840 (k1_pay477 v833 v838) (k1_pay478 v833 v838) (select (k1_pay476 v833 v838) v835 v840) (select (k1_pay476 v833 v838) v840 v835))
    (⟨rfl, rfl, rfl, rfl⟩ : CE v834 v839 v836 v841 (k1_pay480 v834 v839) (k1_pay481 v834 v839) (select (k1_pay479 v834 v839) v836 v841) (select (k1_pay479 v834 v839) v841 v836))
    (⟨rfl, rfl, rfl, rfl⟩ : CE v843 (k1_pay472 v819 v829) v845 (k1_pay474 v819 v821 v829 v831) (k1_pay483 v819 v829 v843) (k1_pay484 v819 v829 v843) (select (k1_pay482 v819 v829 v843) v845 (k1_pay474 v819 v821 v829 v831)) (select (k1_pay482 v819 v829 v843) (k1_pay474 v819 v821 v829 v831) v845))
    (⟨rfl, rfl, rfl, rfl⟩ : CE v844 (k1_pay473 v819 v829) (k1_pay470 v816 v826 v842) (k1_pay475 v819 v821 v829 v831) (k1_pay486 v819 v829 v844) (k1_pay487 v819 v829 v844) (select (k1_pay485 v819 v829 v844) (k1_pay470 v816 v826 v842) (k1_pay475 v819 v821 v829 v831)) (select (k1_pay485 v819 v829 v844) (k1_pay475 v819 v821 v829 v831) (k1_pay470 v816 v826 v842)))

set_option maxHeartbeats 4000000 in
/-- The third octet merged in. -/
theorem merged_1 {v744 v760 v774 v775 v779 v780 v784 v785 v819 v829 v833 v834 v838 v839 v843 v844 v879 v882 v891 v894 v897 v898 v902 v903 v937 v938 v942 v943 v947 v948 v952 v953 : FVec F S16 .f32} {v746 v762 v776 v777 v781 v782 v786 v787 v816 v821 v826 v831 v835 v836 v840 v841 v845 v880 v883 v892 v895 v899 v900 v904 v905 v939 v940 v944 v945 v949 v950 v954 v955 : IVec S16 32} {v842 : IVec S16 1}
    (h879 : v879 = k1_pay495 v784 v834 v839)
    (h880 : v880 = k1_pay496 v784 v786 v834 v836 v839 v841)
    (h882 : v882 = k1_pay498 v780 v834 v839)
    (h883 : v883 = k1_pay499 v780 v782 v834 v836 v839 v841)
    (h891 : v891 = k1_pay507 v774 v819 v829 v844)
    (h892 : v892 = k1_pay508 v774 v776 v816 v819 v821 v826 v829 v831 v842 v844)
    (h894 : v894 = k1_pay510 v744 v819 v829 v844)
    (h895 : v895 = k1_pay511 v744 v746 v816 v819 v821 v826 v829 v831 v842 v844)
    (h897 : v897 = k1_pay513 v760 v779 v819 v829 v833 v838 v843)
    (h898 : v898 = k1_pay514 v760 v779 v819 v829 v833 v838 v843)
    (h899 : v899 = k1_pay515 v760 v762 v779 v781 v819 v821 v829 v831 v833 v835 v838 v840 v843 v845)
    (h900 : v900 = k1_pay516 v760 v762 v779 v781 v819 v821 v829 v831 v833 v835 v838 v840 v843 v845)
    (h902 : v902 = k1_pay518 v775 v785 v819 v829 v833 v838 v843)
    (h903 : v903 = k1_pay519 v775 v785 v819 v829 v833 v838 v843)
    (h904 : v904 = k1_pay520 v775 v777 v785 v787 v819 v821 v829 v831 v833 v835 v838 v840 v843 v845)
    (h905 : v905 = k1_pay521 v775 v777 v785 v787 v819 v821 v829 v831 v833 v835 v838 v840 v843 v845)
    (h937 : v937 = k1_pay553 v879 v882 v891 v894 v897 v902)
    (h938 : v938 = k1_pay554 v879 v882 v891 v894 v897 v902)
    (h939 : v939 = k1_pay555 v879 v880 v882 v883 v891 v892 v894 v895 v897 v899 v902 v904)
    (h940 : v940 = k1_pay556 v879 v880 v882 v883 v891 v892 v894 v895 v897 v899 v902 v904)
    (h942 : v942 = k1_pay558 v879 v882 v891 v894 v897 v902)
    (h943 : v943 = k1_pay559 v879 v882 v891 v894 v897 v902)
    (h944 : v944 = k1_pay560 v879 v880 v882 v883 v891 v892 v894 v895 v897 v899 v902 v904)
    (h945 : v945 = k1_pay561 v879 v880 v882 v883 v891 v892 v894 v895 v897 v899 v902 v904)
    (h947 : v947 = k1_pay563 v879 v882 v891 v894 v898 v903)
    (h948 : v948 = k1_pay564 v879 v882 v891 v894 v898 v903)
    (h949 : v949 = k1_pay565 v879 v880 v882 v883 v891 v892 v894 v895 v898 v900 v903 v905)
    (h950 : v950 = k1_pay566 v879 v880 v882 v883 v891 v892 v894 v895 v898 v900 v903 v905)
    (h952 : v952 = k1_pay568 v879 v882 v891 v894 v898 v903)
    (h953 : v953 = k1_pay569 v879 v882 v891 v894 v898 v903)
    (h954 : v954 = k1_pay570 v879 v880 v882 v883 v891 v892 v894 v895 v898 v900 v903 v905)
    (h955 : v955 = k1_pay571 v879 v880 v882 v883 v891 v892 v894 v895 v898 v900 v903 v905)
    (x : S16.Idx) : merge8 geF (oct (k1_pay477 v833 v838) (k1_pay478 v833 v838) (k1_pay480 v834 v839) (k1_pay481 v834 v839) (k1_pay483 v819 v829 v843) (k1_pay484 v819 v829 v843) (k1_pay486 v819 v829 v844) (k1_pay487 v819 v829 v844) (select (k1_pay476 v833 v838) v835 v840) (select (k1_pay476 v833 v838) v840 v835) (select (k1_pay479 v834 v839) v836 v841) (select (k1_pay479 v834 v839) v841 v836) (select (k1_pay482 v819 v829 v843) v845 (k1_pay474 v819 v821 v829 v831)) (select (k1_pay482 v819 v829 v843) (k1_pay474 v819 v821 v829 v831) v845) (select (k1_pay485 v819 v829 v844) (k1_pay470 v816 v826 v842) (k1_pay475 v819 v821 v829 v831)) (select (k1_pay485 v819 v829 v844) (k1_pay475 v819 v821 v829 v831) (k1_pay470 v816 v826 v842)) x) (oct v744 v774 v775 v779 v780 v784 v785 v760 v746 v776 v777 v781 v782 v786 v787 v762 x) = oct v937 v938 v942 v943 v947 v948 v952 v953 v939 v940 v944 v945 v949 v950 v954 v955 x :=
  merge8_oct x
    (⟨rfl, rfl⟩ : HF (k1_pay477 v833 v838) v760 (select (k1_pay476 v833 v838) v835 v840) v762 (k1_pay489 v760 v833 v838) (k1_pay490 v760 v762 v833 v835 v838 v840))
    (⟨rfl, rfl⟩ : HF (k1_pay478 v833 v838) v785 (select (k1_pay476 v833 v838) v840 v835) v787 (k1_pay492 v785 v833 v838) (k1_pay493 v785 v787 v833 v835 v838 v840))
    (⟨(by simp only [h879] <;> rfl), (by simp only [h880] <;> rfl)⟩ : HF (k1_pay480 v834 v839) v784 (select (k1_pay479 v834 v839) v836 v841) v786 v879 v880)
    (⟨(by simp only [h882] <;> rfl), (by simp only [h883] <;> rfl)⟩ : HF (k1_pay481 v834 v839) v780 (select (k1_pay479 v834 v839) v841 v836) v782 v882 v883)
    (⟨rfl, rfl⟩ : HF (k1_pay483 v819 v829 v843) v779 (select (k1_pay482 v819 v829 v843) v845 (k1_pay474 v819 v821 v829 v831)) v781 (k1_pay501 v779 v819 v829 v843) (k1_pay502 v779 v781 v819 v821 v829 v831 v843 v845))
    (⟨rfl, rfl⟩ : HF (k1_pay484 v819 v829 v843) v775 (select (k1_pay482 v819 v829 v843) (k1_pay474 v819 v821 v829 v831) v845) v777 (k1_pay504 v775 v819 v829 v843) (k1_pay505 v775 v777 v819 v821 v829 v831 v843 v845))
    (⟨(by simp only [h891] <;> rfl), (by simp only [h892] <;> rfl)⟩ : HF (k1_pay486 v819 v829 v844) v774 (select (k1_pay485 v819 v829 v844) (k1_pay470 v816 v826 v842) (k1_pay475 v819 v821 v829 v831)) v776 v891 v892)
    (⟨(by simp only [h894] <;> rfl), (by simp only [h895] <;> rfl)⟩ : HF (k1_pay487 v819 v829 v844) v744 (select (k1_pay485 v819 v829 v844) (k1_pay475 v819 v821 v829 v831) (k1_pay470 v816 v826 v842)) v746 v894 v895)
    (⟨(by simp only [h897] <;> rfl), (by simp only [h898] <;> rfl), (by simp only [h899] <;> rfl), (by simp only [h900] <;> rfl)⟩ : CE (k1_pay489 v760 v833 v838) (k1_pay501 v779 v819 v829 v843) (k1_pay490 v760 v762 v833 v835 v838 v840) (k1_pay502 v779 v781 v819 v821 v829 v831 v843 v845) v897 v898 v899 v900)
    (⟨(by simp only [h902] <;> rfl), (by simp only [h903] <;> rfl), (by simp only [h904] <;> rfl), (by simp only [h905] <;> rfl)⟩ : CE (k1_pay492 v785 v833 v838) (k1_pay504 v775 v819 v829 v843) (k1_pay493 v785 v787 v833 v835 v838 v840) (k1_pay505 v775 v777 v819 v821 v829 v831 v843 v845) v902 v903 v904 v905)
    (⟨rfl, rfl, rfl, rfl⟩ : CE v879 v891 v880 v892 (k1_pay523 v879 v891) (k1_pay524 v879 v891) (k1_pay525 v879 v880 v891 v892) (k1_pay526 v879 v880 v891 v892))
    (⟨rfl, rfl, rfl, rfl⟩ : CE v882 v894 v883 v895 (k1_pay528 v882 v894) (k1_pay529 v882 v894) (k1_pay530 v882 v883 v894 v895) (k1_pay531 v882 v883 v894 v895))
    (⟨rfl, rfl, rfl, rfl⟩ : CE v897 (k1_pay523 v879 v891) v899 (k1_pay525 v879 v880 v891 v892) (k1_pay533 v879 v891 v897) (k1_pay534 v879 v891 v897) (k1_pay535 v879 v880 v891 v892 v897 v899) (k1_pay536 v879 v880 v891 v892 v897 v899))
    (⟨rfl, rfl, rfl, rfl⟩ : CE v902 (k1_pay528 v882 v894) v904 (k1_pay530 v882 v883 v894 v895) (k1_pay538 v882 v894 v902) (k1_pay539 v882 v894 v902) (k1_pay540 v882 v883 v894 v895 v902 v904) (k1_pay541 v882 v883 v894 v895 v902 v904))
    (⟨rfl, rfl, rfl, rfl⟩ : CE v898 (k1_pay524 v879 v891) v900 (k1_pay526 v879 v880 v891 v892) (k1_pay543 v879 v891 v898) (k1_pay544 v879 v891 v898) (k1_pay545 v879 v880 v891 v892 v898 v900) (k1_pay546 v879 v880 v891 v892 v898 v900))
    (⟨rfl, rfl, rfl, rfl⟩ : CE v903 (k1_pay529 v882 v894) v905 (k1_pay531 v882 v883 v894 v895) (k1_pay548 v882 v894 v903) (k1_pay549 v882 v894 v903) (k1_pay550 v882 v883 v894 v895 v903 v905) (k1_pay551 v882 v883 v894 v895 v903 v905))
    (⟨(by simp only [h937] <;> rfl), (by simp only [h938] <;> rfl), (by simp only [h939] <;> rfl), (by simp only [h940] <;> rfl)⟩ : CE (k1_pay533 v879 v891 v897) (k1_pay538 v882 v894 v902) (k1_pay535 v879 v880 v891 v892 v897 v899) (k1_pay540 v882 v883 v894 v895 v902 v904) v937 v938 v939 v940)
    (⟨(by simp only [h942] <;> rfl), (by simp only [h943] <;> rfl), (by simp only [h944] <;> rfl), (by simp only [h945] <;> rfl)⟩ : CE (k1_pay534 v879 v891 v897) (k1_pay539 v882 v894 v902) (k1_pay536 v879 v880 v891 v892 v897 v899) (k1_pay541 v882 v883 v894 v895 v902 v904) v942 v943 v944 v945)
    (⟨(by simp only [h947] <;> rfl), (by simp only [h948] <;> rfl), (by simp only [h949] <;> rfl), (by simp only [h950] <;> rfl)⟩ : CE (k1_pay543 v879 v891 v898) (k1_pay548 v882 v894 v903) (k1_pay545 v879 v880 v891 v892 v898 v900) (k1_pay550 v882 v883 v894 v895 v903 v905) v947 v948 v949 v950)
    (⟨(by simp only [h952] <;> rfl), (by simp only [h953] <;> rfl), (by simp only [h954] <;> rfl), (by simp only [h955] <;> rfl)⟩ : CE (k1_pay544 v879 v891 v898) (k1_pay549 v882 v894 v903) (k1_pay546 v879 v880 v891 v892 v898 v900) (k1_pay551 v882 v883 v894 v895 v903 v905) v952 v953 v954 v955)

/-- The sum of the eight keys and the small constant, as the kernel adds them. -/
def total8 (k : Fin 8 → F .f32) : F .f32 :=
  FloatOps.addf (FloatOps.addf (FloatOps.addf (FloatOps.addf (FloatOps.addf (FloatOps.addf (FloatOps.addf (FloatOps.addf (k 0) (k 1)) (k 2)) (k 3))
    (k 4)) (k 5)) (k 6)) (k 7)) (Scalar.ofBits .f32 0x1E3CE508#32)

theorem total_eq {v937 v879 v882 v891 v894 v897 v902 v938 v942 v943 v947 v898 v903 v948 v952 v953 v964 : FVec F S16 .f32}
    (h937 : v937 = k1_pay553 v879 v882 v891 v894 v897 v902)
    (h938 : v938 = k1_pay554 v879 v882 v891 v894 v897 v902)
    (h942 : v942 = k1_pay558 v879 v882 v891 v894 v897 v902)
    (h943 : v943 = k1_pay559 v879 v882 v891 v894 v897 v902)
    (h947 : v947 = k1_pay563 v879 v882 v891 v894 v898 v903)
    (h948 : v948 = k1_pay564 v879 v882 v891 v894 v898 v903)
    (h952 : v952 = k1_pay568 v879 v882 v891 v894 v898 v903)
    (h953 : v953 = k1_pay569 v879 v882 v891 v894 v898 v903)
    (h964 : v964 = k1_pay572 v879 v882 v891 v894 v897 v898 v902 v903)
    (x : S16.Idx) : v964 x = total8 ![v937 x, v938 x, v942 x, v943 x, v947 x, v948 x, v952 x, v953 x] := by
  rw [h964, h937, h938, h942, h943, h947, h948, h952, h953]; rfl

end Cert.Route
-- ==== Proof.Setup.lean ====
/-
  The program as the launch theorem sees it, its buffers, what the routing leaves of the scores, and what the handshakes carry.

  The scores are a 64 × 16384 array, one column a token. Each of the 32 tiles takes 512 columns; SparseCore `c`'s tile `s` takes
  block `2 s + c`. Of a column the routing is `winners`: the eight groups' maxima sorted, the best three groups' elements gathered
  and sorted, the three octets merged; `routeI` and `routeW` are what it writes of it.
-/
module

public import proofs.«01_k».proof.Proof.Sorts
public import proofs.«01_k».proof.Proof.Gen.KernelIdeal
public import proofs.«01_k».proof.Proof.Gen.KernelIdeal.Launch
public import Idealize.ShloMosaic.Lib.SparseCore.Quiescent
public import Idealize.ShloMosaic.Lib.SparseCore.Ops
public import Idealize.ShloMosaic.Lib.StableHlo.Run
public import Idealize.ShloMosaic.Lib.Pipeline.Regions
public import Idealize.ShloMosaic.Lib.Pipeline.Kit
public import Idealize.ShloMosaic.Lib.ValueIdx
public import Idealize.ShloMosaic.Lib.Tactic

@[expose] public section

noncomputable section

namespace Cert.Route

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type}

/-! ## What the routing computes of one column of scores -/

section Route

variable [FloatOps F]

/-- The maximum of eight, in the order the program takes it. -/
def max8 (a : Fin 8 → F .f32) : F .f32 :=
  FloatOps.maximumf (FloatOps.maximumf (FloatOps.maximumf (FloatOps.maximumf (FloatOps.maximumf (FloatOps.maximumf (FloatOps.maximumf
    (a 0) (a 1)) (a 2)) (a 3)) (a 4)) (a 5)) (a 6)) (a 7)

/-- Expert `o` of group `g`. -/
def expert (g o : Fin 8) : Fin 64 := ⟨8 * g.val + o.val, by omega⟩

/-- The eight groups' (maximum, group) pairs, sorted. -/
def ranked (k : Fin 64 → F .f32) : Fin 8 → F .f32 × BitVec 32 :=
  sort8 geF fun g => (max8 fun o => k (expert g o), BitVec.ofNat 32 g.val)

/-- The word of expert `o` of group `g`, as the program computes it. -/
def eidW (g : BitVec 32) (o : Fin 8) : BitVec 32 := g * 8#32 + BitVec.ofNat 32 o.val

/-- The experts of the group ranked `s`, sorted by score. -/
def octet (k : Fin 64 → F .f32) (s : Fin 8) : Fin 8 → F .f32 × BitVec 32 :=
  sort8 geF fun o => (k (Fin.ofNat 64 (eidW (ranked k s).2 o).toNat), eidW (ranked k s).2 o)

/-- The eight best of the three best groups' experts, best first. -/
def winners (k : Fin 64 → F .f32) : Fin 8 → F .f32 × BitVec 32 :=
  merge8 geF (merge8 geF (octet k 0) (octet k 1)) (octet k 2)

/-- The index the routing writes in row `j`; -/
def routeI (k : Fin 64 → F .f32) (j : Fin 8) : BitVec 32 := (winners k j).2
/-- and the weight. -/
def routeW (k : Fin 64 → F .f32) (j : Fin 8) : F .f32 := FloatOps.divf (winners k j).1 (total8 fun i => (winners k i).1)

end Route

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the tiles' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## The buffers -/

variable (m : (ℓ : Loc nD τ sig) → Buf (Elt F) ℓ)

abbrev sLoc (d : Dev nD) : Loc nD τ sig := (SparseCore.T d).loc main_v1
abbrev iLoc (d : Dev nD) : Loc nD τ sig := (SparseCore.T d).loc main_v2_0
abbrev wLoc (d : Dev nD) : Loc nD τ sig := (SparseCore.T d).loc main_v2_1

local notation "sV" => (Memref.whole Cert.KernelIdeal.main_v1_scv : Memref Cert.KernelIdeal.sig Kind.scVector Space.hbm Cert.KernelIdeal.S64x16384 EltTy.f32)
local notation "iV" => (Memref.whole Cert.KernelIdeal.main_v2_0_scv : Memref Cert.KernelIdeal.sig Kind.scVector Space.hbm Cert.KernelIdeal.S8x16384 EltTy.i32)
local notation "wV" => (Memref.whole Cert.KernelIdeal.main_v2_1_scv : Memref Cert.KernelIdeal.sig Kind.scVector Space.hbm Cert.KernelIdeal.S8x16384 EltTy.f32)

theorem sdiv : 32 ∣ S64x16384.size 1 := ⟨512, rfl⟩
theorem odiv : 32 ∣ S8x16384.size 1 := ⟨512, rfl⟩
/-- Block `i` of the scores' columns; of the outputs'. -/
abbrev scol (i : Fin 32) : Rect S64x16384 := Rect.part (s := S64x16384) (a₀ := 1) sdiv i
abbrev ocol (i : Fin 32) : Rect S8x16384 := Rect.part (s := S8x16384) (a₀ := 1) odiv i
abbrev sSet (i : Fin 32) : Finset S64x16384.Idx := ((sV).view.slice (scol i)).set
abbrev iSet (i : Fin 32) : Finset S8x16384.Idx := ((iV).view.slice (ocol i)).set
abbrev wSet (i : Fin 32) : Finset S8x16384.Idx := ((wV).view.slice (ocol i)).set

/-- The block of SparseCore `c`'s tile `s`. -/
def blk (c : Fin 2) (s : Fin 16) : Fin 32 := ⟨2 * s.val + c.val, by omega⟩

/-- One column of an array of scores. -/
def column {n : ℕ} {α : Type} (f : (⟨2, ![64, n]⟩ : Shape).Idx → α) (c : Fin n) : Fin 64 → α := fun r => f (ix2 r c)

/-- The indices the routing leaves of an array of scores; the weights. -/
def outI [FloatOps F] {n : ℕ} (f : (⟨2, ![64, n]⟩ : Shape).Idx → F .f32) : (⟨2, ![8, n]⟩ : Shape).Idx → BitVec 32 := fun x => routeI (column f (x 1)) (x 0)
def outW [FloatOps F] {n : ℕ} (f : (⟨2, ![64, n]⟩ : Shape).Idx → F .f32) : (⟨2, ![8, n]⟩ : Shape).Idx → F .f32 := fun x => routeW (column f (x 1)) (x 0)

end Cert.Route

end
-- ==== Proof.Row.lean ====
/-
  The loop body's single accesses, as the tile's program makes them: the load of 16 columns of a row of scores, the indexed load of
  the scores of one expert a lane, the store of 16 columns of a row of an output.
-/
module

public import proofs.«01_k».proof.Proof.Setup
public import Idealize.ShloMosaic.Lib.Pipeline.Value

@[expose] public section

noncomputable section

namespace Cert.Route

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

abbrev cV (L : grid1.Coords) : Fin τ.nSC := (L 0).castLE hcore1
abbrev jV (L : grid1.Coords) : Fin τ.nSub := (L 1).castLE hsub1

/-- The tile's scratch: its 512 columns of scores, its indices, its weights. -/
abbrev bS : Memref sig .scVector .vmem S64x512 .f32 := Memref.whole cc1_scratch0
abbrev bI : Memref sig .scVector .vmem S8x512 .i32 := Memref.whole cc1_scratch1
abbrev bW : Memref sig .scVector .vmem S8x512 .f32 := Memref.whole cc1_scratch2

/-- The scores the scratch holds, and the other two buffers, whole. -/
abbrev ptS (d : Dev nD) (L : grid1.Coords) (f : S64x512.Idx → F .f32) : sProp 𝕄 :=
  ((V d (cV L) (jV L)).loc cc1_scratch0) ↦{fullShare} f
abbrev ptI (d : Dev nD) (L : grid1.Coords) (f : S8x512.Idx → BitVec 32) : sProp 𝕄 :=
  ((V d (cV L) (jV L)).loc cc1_scratch1) ↦{fullShare} f
abbrev ptW (d : Dev nD) (L : grid1.Coords) (f : S8x512.Idx → F .f32) : sProp 𝕄 :=
  ((V d (cV L) (jV L)).loc cc1_scratch2) ↦{fullShare} f

/-- Lane `x` of trip `t`, as a column of the tile's block. -/
def lane (t : Fin k1_t1_loop.trips) (x : Fin 16) : Fin 512 :=
  ⟨16 * t.val + x.val, by have h : t.val < 32 := t.isLt; omega⟩

/-- Sixteen columns of row `r`, as a load at trip `t` returns them. -/
def rowVec {α : Type} (f : S64x512.Idx → α) (r : Fin 64) (t : Fin k1_t1_loop.trips) : S1x16.Idx → α := fun x => f (ix2 r (lane t (x 1)))

variable [FloatOps F]

theorem wp_row (d : Dev nD) (L : grid1.Coords) {R : sProp 𝕄} {f : S64x512.Idx → F .f32} (r : Fin 64) (t : Fin k1_t1_loop.trips)
    {off : Fin 2 → ℕ} (hoff : off = ![r.val, 16 * t.val]) {inb : ∀ a, off a + S1x16.size a ≤ S64x512.size a}
    {hl : bS.view.LoadsAt (Rect.unit (s := S64x512) off S1x16.size inb).toLoadRect} {Q : Vec F S1x16 .f32 → sProp 𝕄}
    (hQ : iprop(R ∗ ptS d L f) ⊢ Q (rowVec f r t)) :
    iprop(R ∗ ptS d L f) ⊢ wp frame (wpE (defs₀ (F := F)) 𝒱₀ (V d (cV L) (jV L)) none) Set.univ
      (Prog.lift (.load bS (Rect.unit (s := S64x512) off S1x16.size inb).toLoadRect hl)) Q := by
  subst hoff
  have e : bS.view.readAt (Elt F) (Rect.unit (s := S64x512) ![r.val, 16 * t.val] S1x16.size inb).toLoadRect f = rowVec f r t := by
    funext x
    show f _ = f _
    congr 1
    funext a
    match a with
    | 0 => exact Fin.ext (show r.val + 1 * (x 0).val = r.val by have h : (x 0).val < 1 := (x 0).isLt; omega)
    | 1 => exact Fin.ext (show 16 * t.val + 1 * (x 1).val = 16 * t.val + (x 1).val by omega)
  iintro ⟨HR, H⟩
  iapply (wp_load 𝒱₀ (V d (cV L) (jV L)) none Set.univ (m := bS) (S := Finset.univ) (q := fullShare) (f := f) (Finset.subset_univ _)) $$ H
  iintro H
  rw [wp_ret, e]
  imodintro
  iapply hQ
  isplitl [HR] <;> iassumption

/-- One expert's score a lane, as the indexed load at trip `t` returns them. -/
def pick {α : Type} (f : S64x512.Idx → α) (t : Fin k1_t1_loop.trips) (e : IVec S16 32) : S16.Idx → α :=
  fun x => f (ix2 (Fin.ofNat 64 (e x).toNat) (lane t (x 0)))

omit [FloatOps F] in
/-- The lanes' columns are in range, and the experts' rows where every word is below 64: the check of an indexed load. -/
theorem chk_of (t : Fin k1_t1_loop.trips) {v17 e : IVec S16 32} (h17 : ∀ x, (v17 x).toNat = (lane t (x 0)).val) (he : ∀ x, (e x).toNat < 64) :
    ∀ a x, ((![e, v17] : Fin 2 → IVec S16 32) a x).toNat < S64x512.size a := fun a x => match a with
  | 0 => he x
  | 1 => (h17 x).trans_lt (lane t (x 0)).isLt

theorem wp_check (d : Dev nD) (L : grid1.Coords) {G : sProp 𝕄} {P : Prop} (h : P) {dec : Decidable P} {Q : PLift P → sProp 𝕄} (hQ : G ⊢ Q ⟨h⟩) :
    G ⊢ wp frame (wpE (defs₀ (F := F)) 𝒱₀ (V d (cV L) (jV L)) none) Set.univ (Prog.lift (.assume P dec)) Q := by
  have e := wp_assume_of (d := dec) (k := .ret) (Q := Q) 𝒱₀ (V d (cV L) (jV L)) none Set.univ h (defs := defs₀ (F := F)) (Ix := HIx 1) (Name := ℕ) (U := UU) (Lvl := ℕ)
  rw [wp_ret] at e
  rw [show (Prog.lift (.assume P dec) : Prog (TpuEff nD τ sig (Elt F) Λ₀ (V d (cV L) (jV L)).2) (PLift P)) = .op (.assume P dec) .ret from rfl, e]
  iintro HG; imodintro; iapply hQ; iexact HG

theorem wp_pick (d : Dev nD) (L : grid1.Coords) {R : sProp 𝕄} {f : S64x512.Idx → F .f32} (t : Fin k1_t1_loop.trips)
    {v17 e : IVec S16 32} (h17 : ∀ x, (v17 x).toNat = (lane t (x 0)).val) (he : ∀ x, (e x).toNat < 64)
    {h : ∀ a x, ((![e, v17] : Fin 2 → IVec S16 32) a x).toNat < S64x512.size a} {hl : bS.view.Loads} {Q : Vec F S16 .f32 → sProp 𝕄}
    (hQ : iprop(R ∗ ptS d L f) ⊢ Q (pick f t e)) :
    iprop(R ∗ ptS d L f) ⊢ wp frame (wpE (defs₀ (F := F)) 𝒱₀ (V d (cV L) (jV L)) none) Set.univ
      (SparseCore.vectorLoadIdx bS ![e, v17] h hl) Q := by
  have e' : loadIdx ((bS.access (.whole S64x512)).read (Elt F) f) ![e, v17] h = pick f t e := by
    funext x
    show f _ = f _
    congr 1
    funext a
    match a with
    | 0 => exact Fin.ext (show 0 + 1 * (e x).toNat = (e x).toNat % 64 by rw [Nat.mod_eq_of_lt (he x)]; omega)
    | 1 => exact Fin.ext (show 0 + 1 * (v17 x).toNat = (lane t (x 0)).val by rw [h17]; omega)
  iintro ⟨HR, H⟩
  iapply (wp_load_rect 𝒱₀ (V d (cV L) (jV L)) none Set.univ (m := bS) (r := .whole S64x512) (S := Finset.univ) (q := fullShare) (f := f) (Finset.subset_univ _)) $$ H
  iintro H
  rw [wp_ret, e']
  imodintro
  iapply hQ
  isplitl [HR] <;> iassumption

/-- A row's sixteen columns at trip `t` overwritten. -/
def putRow {α : Type} (f : S8x512.Idx → α) (j : Fin 8) (t : Fin k1_t1_loop.trips) (v : S16.Idx → α) : S8x512.Idx → α :=
  fun y => if h : (y 0).val = j.val ∧ 16 * t.val ≤ (y 1).val ∧ (y 1).val < 16 * t.val + 16 then v (ix1 ⟨(y 1).val - 16 * t.val, by omega⟩) else f y

omit [FloatOps F] in
theorem row_cast {α : Type} (v : S16.Idx → α) (h : S16.ShapeCasts S1x16) (x : S1x16.Idx) : shapeCast S1x16 v h x = v (ix1 (x 1)) := by
  refine shapeCast_apply v h x (ix1 (x 1)) ?_
  rw [Shape.rowMajor_val_one, Shape.rowMajor_val_two]
  have h0 : (x 0).val < 1 := (x 0).isLt
  show (x 1).val = (x 0).val * 16 + (x 1).val
  omega

omit [FloatOps F] in
theorem row_uncast {α : Type} (v : S1x16.Idx → α) (h : S1x16.ShapeCasts S16) (x : S16.Idx) : shapeCast S16 v h x = v (ix2 0 (x 0)) := by
  refine shapeCast_apply v h x (ix2 0 (x 0)) ?_
  rw [Shape.rowMajor_val_one, Shape.rowMajor_val_two]
  show 0 * 16 + (x 0).val = (x 0).val
  omega

theorem wp_putI (d : Dev nD) (L : grid1.Coords) {R : sProp 𝕄} {f : S8x512.Idx → BitVec 32} {g : S8x512.Idx → F .f32} (j : Fin 8) (t : Fin k1_t1_loop.trips)
    {off : Fin 2 → ℕ} (hoff : off = ![j.val, 16 * t.val]) {inb : ∀ a, off a + S1x16.size a ≤ S8x512.size a} {v : S16.Idx → BitVec 32} {hc : S16.ShapeCasts S1x16}
    {hx : (bI.access (Rect.unit (s := S8x512) off S1x16.size inb)).Stores Finset.univ}
    {hm : (Finset.univ : Finset S1x16.Idx) = Finset.univ ∨ ∀ a, (Rect.unit (s := S8x512) off S1x16.size inb).stride a = 1} {Q : PUnit → sProp 𝕄}
    (hQ : iprop(R ∗ ptI d L (putRow f j t v) ∗ ptW d L g) ⊢ Q ⟨⟩) :
    iprop(R ∗ ptI d L f ∗ ptW d L g) ⊢ wp frame (wpE (defs₀ (F := F)) 𝒱₀ (V d (cV L) (jV L)) none) Set.univ
      (Prog.lift (.store bI (Rect.unit (s := S8x512) off S1x16.size inb) (shapeCast S1x16 v hc) Finset.univ hx hm)) Q := by
  subst hoff
  have e : (bI.access (Rect.unit (s := S8x512) ![j.val, 16 * t.val] S1x16.size inb)).write (Elt F) f (shapeCast S1x16 v hc) Finset.univ = putRow f j t v := by
    funext y
    unfold putRow
    split
    · next h =>
      have hy : y = (bI.access (Rect.unit (s := S8x512) ![j.val, 16 * t.val] S1x16.size inb)).emb (ix2 0 ⟨(y 1).val - 16 * t.val, by omega⟩) := by
        funext a
        match a with
        | 0 => exact Fin.ext (show (y 0).val = j.val + 1 * 0 by omega)
        | 1 => exact Fin.ext (show (y 1).val = 16 * t.val + 1 * ((y 1).val - 16 * t.val) by omega)
      refine (congrArg _ hy).trans ((View.write_emb_of_mem _ _ (Finset.mem_univ _)).trans ?_)
      exact (cast_eq _ _).trans (row_cast v hc _)
    · next h =>
      refine View.write_of_not_mem _ _ _ fun hy => h ?_
      obtain ⟨x, -, rfl⟩ := Finset.mem_map.mp hy
      have h0 : (x 0).val < 1 := (x 0).isLt
      have h1 : (x 1).val < 16 := (x 1).isLt
      refine ⟨?_, ?_, ?_⟩
      · show j.val + 1 * (x 0).val = j.val
        omega
      · show 16 * t.val ≤ 16 * t.val + 1 * (x 1).val
        omega
      · show 16 * t.val + 1 * (x 1).val < 16 * t.val + 16
        omega
  iintro ⟨HR, H, HW⟩
  iapply (wp_store 𝒱₀ (V d (cV L) (jV L)) none Set.univ (m := bI) (r := Rect.unit (s := S8x512) ![j.val, 16 * t.val] S1x16.size inb) (Mk := Finset.univ)
    (S := Finset.univ) (f := f) (Finset.subset_univ _)) $$ H
  iintro H
  rw [wp_ret, e]
  imodintro
  iapply hQ
  isplitl [HR]; · iexact HR
  isplitl [H] <;> iassumption

theorem wp_putW (d : Dev nD) (L : grid1.Coords) {R : sProp 𝕄} {f : S8x512.Idx → F .f32} {g : S8x512.Idx → BitVec 32} (j : Fin 8) (t : Fin k1_t1_loop.trips)
    {off : Fin 2 → ℕ} (hoff : off = ![j.val, 16 * t.val]) {inb : ∀ a, off a + S1x16.size a ≤ S8x512.size a} {v : S16.Idx → F .f32} {hc : S16.ShapeCasts S1x16}
    {hx : (bW.access (Rect.unit (s := S8x512) off S1x16.size inb)).Stores Finset.univ}
    {hm : (Finset.univ : Finset S1x16.Idx) = Finset.univ ∨ ∀ a, (Rect.unit (s := S8x512) off S1x16.size inb).stride a = 1} {Q : PUnit → sProp 𝕄}
    (hQ : iprop(R ∗ ptI d L g ∗ ptW d L (putRow f j t v)) ⊢ Q ⟨⟩) :
    iprop(R ∗ ptI d L g ∗ ptW d L f) ⊢ wp frame (wpE (defs₀ (F := F)) 𝒱₀ (V d (cV L) (jV L)) none) Set.univ
      (Prog.lift (.store bW (Rect.unit (s := S8x512) off S1x16.size inb) (shapeCast S1x16 v hc) Finset.univ hx hm)) Q := by
  subst hoff
  have e : (bW.access (Rect.unit (s := S8x512) ![j.val, 16 * t.val] S1x16.size inb)).write (Elt F) f (shapeCast S1x16 v hc) Finset.univ = putRow f j t v := by
    funext y
    unfold putRow
    split
    · next h =>
      have hy : y = (bW.access (Rect.unit (s := S8x512) ![j.val, 16 * t.val] S1x16.size inb)).emb (ix2 0 ⟨(y 1).val - 16 * t.val, by omega⟩) := by
        funext a
        match a with
        | 0 => exact Fin.ext (show (y 0).val = j.val + 1 * 0 by omega)
        | 1 => exact Fin.ext (show (y 1).val = 16 * t.val + 1 * ((y 1).val - 16 * t.val) by omega)
      refine (congrArg _ hy).trans ((View.write_emb_of_mem _ _ (Finset.mem_univ _)).trans ?_)
      exact (cast_eq _ _).trans (row_cast v hc _)
    · next h =>
      refine View.write_of_not_mem _ _ _ fun hy => h ?_
      obtain ⟨x, -, rfl⟩ := Finset.mem_map.mp hy
      have h0 : (x 0).val < 1 := (x 0).isLt
      have h1 : (x 1).val < 16 := (x 1).isLt
      refine ⟨?_, ?_, ?_⟩
      · show j.val + 1 * (x 0).val = j.val
        omega
      · show 16 * t.val ≤ 16 * t.val + 1 * (x 1).val
        omega
      · show 16 * t.val + 1 * (x 1).val < 16 * t.val + 16
        omega
  iintro ⟨HR, HI, H⟩
  iapply (wp_store 𝒱₀ (V d (cV L) (jV L)) none Set.univ (m := bW) (r := Rect.unit (s := S8x512) ![j.val, 16 * t.val] S1x16.size inb) (Mk := Finset.univ)
    (S := Finset.univ) (f := f) (Finset.subset_univ _)) $$ H
  iintro H
  rw [wp_ret, e]
  imodintro
  iapply hQ
  isplitl [HR]; · iexact HR
  isplitl [HI] <;> iassumption

/-- A load whose value nothing uses. -/
theorem wp_peekI (d : Dev nD) (L : grid1.Coords) {R : sProp 𝕄} {f : S8x512.Idx → BitVec 32} {g : S8x512.Idx → F .f32} {r : LoadRect S8x512} {hl : bI.view.LoadsAt r}
    {Q : (r.shape.Idx → Elt F .i32) → sProp 𝕄} (hQ : ∀ v, iprop(R ∗ ptI d L f ∗ ptW d L g) ⊢ Q v) :
    iprop(R ∗ ptI d L f ∗ ptW d L g) ⊢ wp frame (wpE (defs₀ (F := F)) 𝒱₀ (V d (cV L) (jV L)) none) Set.univ (Prog.lift (.load bI r hl)) Q := by
  iintro ⟨HR, HI, HW⟩
  iapply (wp_load 𝒱₀ (V d (cV L) (jV L)) none Set.univ (m := bI) (S := Finset.univ) (q := fullShare) (f := f) (Finset.subset_univ _)) $$ HI
  iintro HI
  rw [wp_ret]
  imodintro
  iapply (hQ _)
  isplitl [HR]; · iexact HR
  isplitl [HI] <;> iassumption

/-- A load whose value nothing uses. -/
theorem wp_peekW (d : Dev nD) (L : grid1.Coords) {R : sProp 𝕄} {f : S8x512.Idx → BitVec 32} {g : S8x512.Idx → F .f32} {r : LoadRect S8x512} {hl : bW.view.LoadsAt r}
    {Q : (r.shape.Idx → Elt F .f32) → sProp 𝕄} (hQ : ∀ v, iprop(R ∗ ptI d L f ∗ ptW d L g) ⊢ Q v) :
    iprop(R ∗ ptI d L f ∗ ptW d L g) ⊢ wp frame (wpE (defs₀ (F := F)) 𝒱₀ (V d (cV L) (jV L)) none) Set.univ (Prog.lift (.load bW r hl)) Q := by
  iintro ⟨HR, HI, HW⟩
  iapply (wp_load 𝒱₀ (V d (cV L) (jV L)) none Set.univ (m := bW) (S := Finset.univ) (q := fullShare) (f := g) (Finset.subset_univ _)) $$ HW
  iintro HW
  rw [wp_ret]
  imodintro
  iapply (hQ _)
  isplitl [HR]; · iexact HR
  isplitl [HI] <;> iassumption

theorem wp_done (d : Dev nD) (L : grid1.Coords) {G : sProp 𝕄} {α : Type} {x : α} {Q : α → sProp 𝕄} (hQ : G ⊢ Q x) :
    G ⊢ wp frame (wpE (defs₀ (F := F)) 𝒱₀ (V d (cV L) (jV L)) none) Set.univ (pure x) Q := by
  rw [show (pure x : Prog (TpuEff nD τ sig (Elt F) Λ₀ (V d (cV L) (jV L)).2) α) = .ret x from rfl, wp_ret]
  iintro HG; imodintro; iapply hQ; iexact HG

end Cert.Route

end
-- ==== Proof.Parts.lean ====
/-
  What each stretch of the loop body does, as a rule for running it: from the scores' scratch (`ptS`) and whatever else is held, the
  stretch's results, each with the equation that gives it, are handed on. Loads read rows (`rowVec`), indexed loads one expert a lane
  (`pick`); the last two stretches store.
-/
module

public import proofs.«01_k».proof.Proof.Row

@[expose] public section

noncomputable section

namespace Cert.Route

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

/-! ## The offsets: row and first column -/

theorem col_toNat : ∀ t : Fin k1_t1_loop.trips, (k1_off2 t) 1 = 16 * t.val := by decide

theorem off2_eq (t : Fin k1_t1_loop.trips) : k1_off2 t = ![(0 : Fin 64).val, 16 * t.val] :=
  funext fun a => match a with
    | 0 => rfl
    | 1 => col_toNat t
theorem off3_eq (t : Fin k1_t1_loop.trips) : k1_off3 t = ![(1 : Fin 64).val, 16 * t.val] :=
  funext fun a => match a with
    | 0 => rfl
    | 1 => col_toNat t
theorem off4_eq (t : Fin k1_t1_loop.trips) : k1_off4 t = ![(2 : Fin 64).val, 16 * t.val] :=
  funext fun a => match a with
    | 0 => rfl
    | 1 => col_toNat t
theorem off5_eq (t : Fin k1_t1_loop.trips) : k1_off5 t = ![(3 : Fin 64).val, 16 * t.val] :=
  funext fun a => match a with
    | 0 => rfl
    | 1 => col_toNat t
theorem off6_eq (t : Fin k1_t1_loop.trips) : k1_off6 t = ![(4 : Fin 64).val, 16 * t.val] :=
  funext fun a => match a with
    | 0 => rfl
    | 1 => col_toNat t
theorem off7_eq (t : Fin k1_t1_loop.trips) : k1_off7 t = ![(5 : Fin 64).val, 16 * t.val] :=
  funext fun a => match a with
    | 0 => rfl
    | 1 => col_toNat t
theorem off8_eq (t : Fin k1_t1_loop.trips) : k1_off8 t = ![(6 : Fin 64).val, 16 * t.val] :=
  funext fun a => match a with
    | 0 => rfl
    | 1 => col_toNat t
theorem off9_eq (t : Fin k1_t1_loop.trips) : k1_off9 t = ![(7 : Fin 64).val, 16 * t.val] :=
  funext fun a => match a with
    | 0 => rfl
    | 1 => col_toNat t
theorem off10_eq (t : Fin k1_t1_loop.trips) : k1_off10 t = ![(8 : Fin 64).val, 16 * t.val] :=
  funext fun a => match a with
    | 0 => rfl
    | 1 => col_toNat t
theorem off11_eq (t : Fin k1_t1_loop.trips) : k1_off11 t = ![(9 : Fin 64).val, 16 * t.val] :=
  funext fun a => match a with
    | 0 => rfl
    | 1 => col_toNat t
theorem off12_eq (t : Fin k1_t1_loop.trips) : k1_off12 t = ![(10 : Fin 64).val, 16 * t.val] :=
  funext fun a => match a with
    | 0 => rfl
    | 1 => col_toNat t
theorem off13_eq (t : Fin k1_t1_loop.trips) : k1_off13 t = ![(11 : Fin 64).val, 16 * t.val] :=
  funext fun a => match a with
    | 0 => rfl
    | 1 => col_toNat t
theorem off14_eq (t : Fin k1_t1_loop.trips) : k1_off14 t = ![(12 : Fin 64).val, 16 * t.val] :=
  funext fun a => match a with
    | 0 => rfl
    | 1 => col_toNat t
theorem off15_eq (t : Fin k1_t1_loop.trips) : k1_off15 t = ![(13 : Fin 64).val, 16 * t.val] :=
  funext fun a => match a with
    | 0 => rfl
    | 1 => col_toNat t
theorem off16_eq (t : Fin k1_t1_loop.trips) : k1_off16 t = ![(14 : Fin 64).val, 16 * t.val] :=
  funext fun a => match a with
    | 0 => rfl
    | 1 => col_toNat t
theorem off17_eq (t : Fin k1_t1_loop.trips) : k1_off17 t = ![(15 : Fin 64).val, 16 * t.val] :=
  funext fun a => match a with
    | 0 => rfl
    | 1 => col_toNat t
theorem off18_eq (t : Fin k1_t1_loop.trips) : k1_off18 t = ![(16 : Fin 64).val, 16 * t.val] :=
  funext fun a => match a with
    | 0 => rfl
    | 1 => col_toNat t
theorem off19_eq (t : Fin k1_t1_loop.trips) : k1_off19 t = ![(17 : Fin 64).val, 16 * t.val] :=
  funext fun a => match a with
    | 0 => rfl
    | 1 => col_toNat t
theorem off20_eq (t : Fin k1_t1_loop.trips) : k1_off20 t = ![(18 : Fin 64).val, 16 * t.val] :=
  funext fun a => match a with
    | 0 => rfl
    | 1 => col_toNat t
theorem off21_eq (t : Fin k1_t1_loop.trips) : k1_off21 t = ![(19 : Fin 64).val, 16 * t.val] :=
  funext fun a => match a with
    | 0 => rfl
    | 1 => col_toNat t
theorem off22_eq (t : Fin k1_t1_loop.trips) : k1_off22 t = ![(20 : Fin 64).val, 16 * t.val] :=
  funext fun a => match a with
    | 0 => rfl
    | 1 => col_toNat t
theorem off23_eq (t : Fin k1_t1_loop.trips) : k1_off23 t = ![(21 : Fin 64).val, 16 * t.val] :=
  funext fun a => match a with
    | 0 => rfl
    | 1 => col_toNat t
theorem off24_eq (t : Fin k1_t1_loop.trips) : k1_off24 t = ![(22 : Fin 64).val, 16 * t.val] :=
  funext fun a => match a with
    | 0 => rfl
    | 1 => col_toNat t
theorem off25_eq (t : Fin k1_t1_loop.trips) : k1_off25 t = ![(23 : Fin 64).val, 16 * t.val] :=
  funext fun a => match a with
    | 0 => rfl
    | 1 => col_toNat t
theorem off26_eq (t : Fin k1_t1_loop.trips) : k1_off26 t = ![(24 : Fin 64).val, 16 * t.val] :=
  funext fun a => match a with
    | 0 => rfl
    | 1 => col_toNat t
theorem off27_eq (t : Fin k1_t1_loop.trips) : k1_off27 t = ![(25 : Fin 64).val, 16 * t.val] :=
  funext fun a => match a with
    | 0 => rfl
    | 1 => col_toNat t
theorem off28_eq (t : Fin k1_t1_loop.trips) : k1_off28 t = ![(26 : Fin 64).val, 16 * t.val] :=
  funext fun a => match a with
    | 0 => rfl
    | 1 => col_toNat t
theorem off29_eq (t : Fin k1_t1_loop.trips) : k1_off29 t = ![(27 : Fin 64).val, 16 * t.val] :=
  funext fun a => match a with
    | 0 => rfl
    | 1 => col_toNat t
theorem off30_eq (t : Fin k1_t1_loop.trips) : k1_off30 t = ![(28 : Fin 64).val, 16 * t.val] :=
  funext fun a => match a with
    | 0 => rfl
    | 1 => col_toNat t
theorem off31_eq (t : Fin k1_t1_loop.trips) : k1_off31 t = ![(29 : Fin 64).val, 16 * t.val] :=
  funext fun a => match a with
    | 0 => rfl
    | 1 => col_toNat t
theorem off32_eq (t : Fin k1_t1_loop.trips) : k1_off32 t = ![(30 : Fin 64).val, 16 * t.val] :=
  funext fun a => match a with
    | 0 => rfl
    | 1 => col_toNat t
theorem off33_eq (t : Fin k1_t1_loop.trips) : k1_off33 t = ![(31 : Fin 64).val, 16 * t.val] :=
  funext fun a => match a with
    | 0 => rfl
    | 1 => col_toNat t
theorem off34_eq (t : Fin k1_t1_loop.trips) : k1_off34 t = ![(32 : Fin 64).val, 16 * t.val] :=
  funext fun a => match a with
    | 0 => rfl
    | 1 => col_toNat t
theorem off35_eq (t : Fin k1_t1_loop.trips) : k1_off35 t = ![(33 : Fin 64).val, 16 * t.val] :=
  funext fun a => match a with
    | 0 => rfl
    | 1 => col_toNat t
theorem off36_eq (t : Fin k1_t1_loop.trips) : k1_off36 t = ![(34 : Fin 64).val, 16 * t.val] :=
  funext fun a => match a with
    | 0 => rfl
    | 1 => col_toNat t
theorem off37_eq (t : Fin k1_t1_loop.trips) : k1_off37 t = ![(35 : Fin 64).val, 16 * t.val] :=
  funext fun a => match a with
    | 0 => rfl
    | 1 => col_toNat t
theorem off38_eq (t : Fin k1_t1_loop.trips) : k1_off38 t = ![(36 : Fin 64).val, 16 * t.val] :=
  funext fun a => match a with
    | 0 => rfl
    | 1 => col_toNat t
theorem off39_eq (t : Fin k1_t1_loop.trips) : k1_off39 t = ![(37 : Fin 64).val, 16 * t.val] :=
  funext fun a => match a with
    | 0 => rfl
    | 1 => col_toNat t
theorem off40_eq (t : Fin k1_t1_loop.trips) : k1_off40 t = ![(38 : Fin 64).val, 16 * t.val] :=
  funext fun a => match a with
    | 0 => rfl
    | 1 => col_toNat t
theorem off41_eq (t : Fin k1_t1_loop.trips) : k1_off41 t = ![(39 : Fin 64).val, 16 * t.val] :=
  funext fun a => match a with
    | 0 => rfl
    | 1 => col_toNat t
theorem off42_eq (t : Fin k1_t1_loop.trips) : k1_off42 t = ![(40 : Fin 64).val, 16 * t.val] :=
  funext fun a => match a with
    | 0 => rfl
    | 1 => col_toNat t
theorem off43_eq (t : Fin k1_t1_loop.trips) : k1_off43 t = ![(41 : Fin 64).val, 16 * t.val] :=
  funext fun a => match a with
    | 0 => rfl
    | 1 => col_toNat t
theorem off44_eq (t : Fin k1_t1_loop.trips) : k1_off44 t = ![(42 : Fin 64).val, 16 * t.val] :=
  funext fun a => match a with
    | 0 => rfl
    | 1 => col_toNat t
theorem off45_eq (t : Fin k1_t1_loop.trips) : k1_off45 t = ![(43 : Fin 64).val, 16 * t.val] :=
  funext fun a => match a with
    | 0 => rfl
    | 1 => col_toNat t
theorem off46_eq (t : Fin k1_t1_loop.trips) : k1_off46 t = ![(44 : Fin 64).val, 16 * t.val] :=
  funext fun a => match a with
    | 0 => rfl
    | 1 => col_toNat t
theorem off47_eq (t : Fin k1_t1_loop.trips) : k1_off47 t = ![(45 : Fin 64).val, 16 * t.val] :=
  funext fun a => match a with
    | 0 => rfl
    | 1 => col_toNat t
theorem off48_eq (t : Fin k1_t1_loop.trips) : k1_off48 t = ![(46 : Fin 64).val, 16 * t.val] :=
  funext fun a => match a with
    | 0 => rfl
    | 1 => col_toNat t
theorem off49_eq (t : Fin k1_t1_loop.trips) : k1_off49 t = ![(47 : Fin 64).val, 16 * t.val] :=
  funext fun a => match a with
    | 0 => rfl
    | 1 => col_toNat t
theorem off50_eq (t : Fin k1_t1_loop.trips) : k1_off50 t = ![(48 : Fin 64).val, 16 * t.val] :=
  funext fun a => match a with
    | 0 => rfl
    | 1 => col_toNat t
theorem off51_eq (t : Fin k1_t1_loop.trips) : k1_off51 t = ![(49 : Fin 64).val, 16 * t.val] :=
  funext fun a => match a with
    | 0 => rfl
    | 1 => col_toNat t
theorem off52_eq (t : Fin k1_t1_loop.trips) : k1_off52 t = ![(50 : Fin 64).val, 16 * t.val] :=
  funext fun a => match a with
    | 0 => rfl
    | 1 => col_toNat t
theorem off53_eq (t : Fin k1_t1_loop.trips) : k1_off53 t = ![(51 : Fin 64).val, 16 * t.val] :=
  funext fun a => match a with
    | 0 => rfl
    | 1 => col_toNat t
theorem off54_eq (t : Fin k1_t1_loop.trips) : k1_off54 t = ![(52 : Fin 64).val, 16 * t.val] :=
  funext fun a => match a with
    | 0 => rfl
    | 1 => col_toNat t
theorem off55_eq (t : Fin k1_t1_loop.trips) : k1_off55 t = ![(53 : Fin 64).val, 16 * t.val] :=
  funext fun a => match a with
    | 0 => rfl
    | 1 => col_toNat t
theorem off56_eq (t : Fin k1_t1_loop.trips) : k1_off56 t = ![(54 : Fin 64).val, 16 * t.val] :=
  funext fun a => match a with
    | 0 => rfl
    | 1 => col_toNat t
theorem off57_eq (t : Fin k1_t1_loop.trips) : k1_off57 t = ![(55 : Fin 64).val, 16 * t.val] :=
  funext fun a => match a with
    | 0 => rfl
    | 1 => col_toNat t
theorem off58_eq (t : Fin k1_t1_loop.trips) : k1_off58 t = ![(56 : Fin 64).val, 16 * t.val] :=
  funext fun a => match a with
    | 0 => rfl
    | 1 => col_toNat t
theorem off59_eq (t : Fin k1_t1_loop.trips) : k1_off59 t = ![(57 : Fin 64).val, 16 * t.val] :=
  funext fun a => match a with
    | 0 => rfl
    | 1 => col_toNat t
theorem off60_eq (t : Fin k1_t1_loop.trips) : k1_off60 t = ![(58 : Fin 64).val, 16 * t.val] :=
  funext fun a => match a with
    | 0 => rfl
    | 1 => col_toNat t
theorem off61_eq (t : Fin k1_t1_loop.trips) : k1_off61 t = ![(59 : Fin 64).val, 16 * t.val] :=
  funext fun a => match a with
    | 0 => rfl
    | 1 => col_toNat t
theorem off62_eq (t : Fin k1_t1_loop.trips) : k1_off62 t = ![(60 : Fin 64).val, 16 * t.val] :=
  funext fun a => match a with
    | 0 => rfl
    | 1 => col_toNat t
theorem off63_eq (t : Fin k1_t1_loop.trips) : k1_off63 t = ![(61 : Fin 64).val, 16 * t.val] :=
  funext fun a => match a with
    | 0 => rfl
    | 1 => col_toNat t
theorem off64_eq (t : Fin k1_t1_loop.trips) : k1_off64 t = ![(62 : Fin 64).val, 16 * t.val] :=
  funext fun a => match a with
    | 0 => rfl
    | 1 => col_toNat t
theorem off65_eq (t : Fin k1_t1_loop.trips) : k1_off65 t = ![(63 : Fin 64).val, 16 * t.val] :=
  funext fun a => match a with
    | 0 => rfl
    | 1 => col_toNat t
theorem off66_eq (t : Fin k1_t1_loop.trips) : k1_off66 t = ![(0 : Fin 8).val, 16 * t.val] :=
  funext fun a => match a with
    | 0 => rfl
    | 1 => col_toNat t
theorem off67_eq (t : Fin k1_t1_loop.trips) : k1_off67 t = ![(1 : Fin 8).val, 16 * t.val] :=
  funext fun a => match a with
    | 0 => rfl
    | 1 => col_toNat t
theorem off68_eq (t : Fin k1_t1_loop.trips) : k1_off68 t = ![(2 : Fin 8).val, 16 * t.val] :=
  funext fun a => match a with
    | 0 => rfl
    | 1 => col_toNat t
theorem off69_eq (t : Fin k1_t1_loop.trips) : k1_off69 t = ![(3 : Fin 8).val, 16 * t.val] :=
  funext fun a => match a with
    | 0 => rfl
    | 1 => col_toNat t
theorem off70_eq (t : Fin k1_t1_loop.trips) : k1_off70 t = ![(4 : Fin 8).val, 16 * t.val] :=
  funext fun a => match a with
    | 0 => rfl
    | 1 => col_toNat t
theorem off71_eq (t : Fin k1_t1_loop.trips) : k1_off71 t = ![(5 : Fin 8).val, 16 * t.val] :=
  funext fun a => match a with
    | 0 => rfl
    | 1 => col_toNat t
theorem off72_eq (t : Fin k1_t1_loop.trips) : k1_off72 t = ![(6 : Fin 8).val, 16 * t.val] :=
  funext fun a => match a with
    | 0 => rfl
    | 1 => col_toNat t
theorem off73_eq (t : Fin k1_t1_loop.trips) : k1_off73 t = ![(7 : Fin 8).val, 16 * t.val] :=
  funext fun a => match a with
    | 0 => rfl
    | 1 => col_toNat t

/-! ## The stretches -/

variable [FloatOps F]

section Parts

variable (d : Dev nD) (i : grid1.Coords) {arg2 : Memref sig .scVector .hbm S64x16384 .f32} {harg2 : arg2.IsWhole}
  {arg3 : Memref sig .scVector .hbm S8x16384 .i32} {harg3 : arg3.IsWhole} {arg4 : Memref sig .scVector .hbm S8x16384 .f32} {harg4 : arg4.IsWhole}
  {h5 : (bS).IsWhole} {h6 : (bI).IsWhole} {h7 : (bW).IsWhole} {v13_r0 v13_r1 v13_r2 : DmaSems sig S_}

theorem part1_wp {R : sProp 𝕄} {f : S64x512.Idx → F .f32} (v3 : IVec S16 32) (c0_i32_1 : BitVec 32) (c1_i32_2 : BitVec 32) (t : Fin k1_t1_loop.trips)
    {Q : (Σ' (v14 : BitVec 32) (v17 : IVec S16 32) (v46 : FVec F S16 .f32), BitVec 32) → sProp 𝕄}
    (hQ : ∀ (v14 : BitVec 32) (v17 : IVec S16 32) (v46 : FVec F S16 .f32) (v47 : BitVec 32),
      v14 = (Scalar.addi 0#32 (Scalar.muli (Scf.iv c0_i32_1 c1_i32_2 t) 1#32)) → v17 = k1_pay1 v3 c0_i32_1 c1_i32_2 t → v46 = k1_pay2 (rowVec f 0 t) (rowVec f 1 t) (rowVec f 2 t) (rowVec f 3 t) (rowVec f 4 t) (rowVec f 5 t) → v47 = (Scalar.muli (Scalar.addi 0#32 (Scalar.muli (Scf.iv c0_i32_1 c1_i32_2 t) 1#32)) 16#32) →
      iprop(R ∗ ptS d i f) ⊢ Q ⟨v14, v17, v46, v47⟩) :
    iprop(R ∗ ptS d i f) ⊢ wp frame (wpE (defs₀ (F := F)) 𝒱₀ (V d (cV i) (jV i)) none) Set.univ (k1_part1 i arg2 harg2 arg3 harg3 arg4 harg4 bS h5 bI h6 bW h7 v13_r0 v13_r1 v13_r2 v3 c0_i32_1 c1_i32_2 t) Q := by
  rw [k1_part1_eq_skeleton]; unfold k1_part1_skel; simp only [wp_bind]
  refine wp_row d i 0 t (off2_eq t) ?_
  refine wp_row d i 1 t (off3_eq t) ?_
  refine wp_row d i 2 t (off4_eq t) ?_
  refine wp_row d i 3 t (off5_eq t) ?_
  refine wp_row d i 4 t (off6_eq t) ?_
  refine wp_row d i 5 t (off7_eq t) ?_
  exact wp_done d i (hQ _ _ _ _ rfl rfl rfl rfl)

theorem part2_wp {R : sProp 𝕄} {f : S64x512.Idx → F .f32} (t : Fin k1_t1_loop.trips) (v14 : BitVec 32) (v46 : FVec F S16 .f32) (v47 : BitVec 32)
    {Q : (Σ' (v56 : FVec F S16 .f32) (v85 : FVec F S16 .f32), BitVec 32) → sProp 𝕄}
    (hQ : ∀ (v56 : FVec F S16 .f32) (v85 : FVec F S16 .f32) (c16_i32_28 : BitVec 32),
      v56 = k1_pay3 v46 (rowVec f 6 t) (rowVec f 7 t) → v85 = k1_pay4 (rowVec f 8 t) (rowVec f 9 t) (rowVec f 10 t) (rowVec f 11 t) (rowVec f 12 t) (rowVec f 13 t) → c16_i32_28 = 16#32 →
      iprop(R ∗ ptS d i f) ⊢ Q ⟨v56, v85, c16_i32_28⟩) :
    iprop(R ∗ ptS d i f) ⊢ wp frame (wpE (defs₀ (F := F)) 𝒱₀ (V d (cV i) (jV i)) none) Set.univ (k1_part2 i arg2 harg2 arg3 harg3 arg4 harg4 bS h5 bI h6 bW h7 v13_r0 v13_r1 v13_r2 t v14 v46 v47) Q := by
  rw [k1_part2_eq_skeleton]; unfold k1_part2_skel; simp only [wp_bind]
  refine wp_row d i 6 t (off8_eq t) ?_
  refine wp_row d i 7 t (off9_eq t) ?_
  refine wp_row d i 8 t (off10_eq t) ?_
  refine wp_row d i 9 t (off11_eq t) ?_
  refine wp_row d i 10 t (off12_eq t) ?_
  refine wp_row d i 11 t (off13_eq t) ?_
  refine wp_row d i 12 t (off14_eq t) ?_
  refine wp_row d i 13 t (off15_eq t) ?_
  exact wp_done d i (hQ _ _ _ rfl rfl rfl)

theorem part3_wp {R : sProp 𝕄} {f : S64x512.Idx → F .f32} (t : Fin k1_t1_loop.trips) (v14 : BitVec 32) (v85 : FVec F S16 .f32) (c16_i32_28 : BitVec 32)
    {Q : (Σ' (v95 : FVec F S16 .f32) (v119 : FVec F S16 .f32), Vec F S1x16 .f32) → sProp 𝕄}
    (hQ : ∀ (v95 : FVec F S16 .f32) (v119 : FVec F S16 .f32) (v123_ld : Vec F S1x16 .f32),
      v95 = k1_pay5 v85 (rowVec f 14 t) (rowVec f 15 t) → v119 = k1_pay6 (rowVec f 16 t) (rowVec f 17 t) (rowVec f 18 t) (rowVec f 19 t) (rowVec f 20 t) → v123_ld = (rowVec f 21 t) →
      iprop(R ∗ ptS d i f) ⊢ Q ⟨v95, v119, v123_ld⟩) :
    iprop(R ∗ ptS d i f) ⊢ wp frame (wpE (defs₀ (F := F)) 𝒱₀ (V d (cV i) (jV i)) none) Set.univ (k1_part3 i arg2 harg2 arg3 harg3 arg4 harg4 bS h5 bI h6 bW h7 v13_r0 v13_r1 v13_r2 t v14 v85 c16_i32_28) Q := by
  rw [k1_part3_eq_skeleton]; unfold k1_part3_skel; simp only [wp_bind]
  refine wp_row d i 14 t (off16_eq t) ?_
  refine wp_row d i 15 t (off17_eq t) ?_
  refine wp_row d i 16 t (off18_eq t) ?_
  refine wp_row d i 17 t (off19_eq t) ?_
  refine wp_row d i 18 t (off20_eq t) ?_
  refine wp_row d i 19 t (off21_eq t) ?_
  refine wp_row d i 20 t (off22_eq t) ?_
  refine wp_row d i 21 t (off23_eq t) ?_
  exact wp_done d i (hQ _ _ _ rfl rfl rfl)

theorem part4_wp {R : sProp 𝕄} {f : S64x512.Idx → F .f32} (t : Fin k1_t1_loop.trips) (v14 : BitVec 32) (v119 : FVec F S16 .f32) (v123_ld : Vec F S1x16 .f32)
    {Q : (Σ' (v134 : FVec F S16 .f32) (v158 : FVec F S16 .f32) (v159 : BitVec 32), BitVec 32) → sProp 𝕄}
    (hQ : ∀ (v134 : FVec F S16 .f32) (v158 : FVec F S16 .f32) (v159 : BitVec 32) (c29_i32 : BitVec 32),
      v134 = k1_pay7 v119 v123_ld (rowVec f 22 t) (rowVec f 23 t) → v158 = k1_pay8 (rowVec f 24 t) (rowVec f 25 t) (rowVec f 26 t) (rowVec f 27 t) (rowVec f 28 t) → v159 = (Scalar.muli v14 16#32) → c29_i32 = 29#32 →
      iprop(R ∗ ptS d i f) ⊢ Q ⟨v134, v158, v159, c29_i32⟩) :
    iprop(R ∗ ptS d i f) ⊢ wp frame (wpE (defs₀ (F := F)) 𝒱₀ (V d (cV i) (jV i)) none) Set.univ (k1_part4 i arg2 harg2 arg3 harg3 arg4 harg4 bS h5 bI h6 bW h7 v13_r0 v13_r1 v13_r2 t v14 v119 v123_ld) Q := by
  rw [k1_part4_eq_skeleton]; unfold k1_part4_skel; simp only [wp_bind]
  refine wp_row d i 22 t (off24_eq t) ?_
  refine wp_row d i 23 t (off25_eq t) ?_
  refine wp_row d i 24 t (off26_eq t) ?_
  refine wp_row d i 25 t (off27_eq t) ?_
  refine wp_row d i 26 t (off28_eq t) ?_
  refine wp_row d i 27 t (off29_eq t) ?_
  refine wp_row d i 28 t (off30_eq t) ?_
  exact wp_done d i (hQ _ _ _ _ rfl rfl rfl rfl)

theorem part5_wp {R : sProp 𝕄} {f : S64x512.Idx → F .f32} (t : Fin k1_t1_loop.trips) (v14 : BitVec 32) (v158 : FVec F S16 .f32) (v159 : BitVec 32) (c29_i32 : BitVec 32)
    {Q : (Σ' (v173 : FVec F S16 .f32), FVec F S16 .f32) → sProp 𝕄}
    (hQ : ∀ (v173 : FVec F S16 .f32) (v197 : FVec F S16 .f32),
      v173 = k1_pay9 v158 (rowVec f 29 t) (rowVec f 30 t) (rowVec f 31 t) → v197 = k1_pay10 (rowVec f 32 t) (rowVec f 33 t) (rowVec f 34 t) (rowVec f 35 t) (rowVec f 36 t) →
      iprop(R ∗ ptS d i f) ⊢ Q ⟨v173, v197⟩) :
    iprop(R ∗ ptS d i f) ⊢ wp frame (wpE (defs₀ (F := F)) 𝒱₀ (V d (cV i) (jV i)) none) Set.univ (k1_part5 i arg2 harg2 arg3 harg3 arg4 harg4 bS h5 bI h6 bW h7 v13_r0 v13_r1 v13_r2 t v14 v158 v159 c29_i32) Q := by
  rw [k1_part5_eq_skeleton]; unfold k1_part5_skel; simp only [wp_bind]
  refine wp_row d i 29 t (off31_eq t) ?_
  refine wp_row d i 30 t (off32_eq t) ?_
  refine wp_row d i 31 t (off33_eq t) ?_
  refine wp_row d i 32 t (off34_eq t) ?_
  refine wp_row d i 33 t (off35_eq t) ?_
  refine wp_row d i 34 t (off36_eq t) ?_
  refine wp_row d i 35 t (off37_eq t) ?_
  refine wp_row d i 36 t (off38_eq t) ?_
  exact wp_done d i (hQ _ _ rfl rfl)

theorem part6_wp {R : sProp 𝕄} {f : S64x512.Idx → F .f32} (t : Fin k1_t1_loop.trips) (v14 : BitVec 32) (v197 : FVec F S16 .f32)
    {Q : (Σ' (v212 : FVec F S16 .f32), FVec F S16 .f32) → sProp 𝕄}
    (hQ : ∀ (v212 : FVec F S16 .f32) (v231 : FVec F S16 .f32),
      v212 = k1_pay11 v197 (rowVec f 37 t) (rowVec f 38 t) (rowVec f 39 t) → v231 = k1_pay12 (rowVec f 40 t) (rowVec f 41 t) (rowVec f 42 t) (rowVec f 43 t) →
      iprop(R ∗ ptS d i f) ⊢ Q ⟨v212, v231⟩) :
    iprop(R ∗ ptS d i f) ⊢ wp frame (wpE (defs₀ (F := F)) 𝒱₀ (V d (cV i) (jV i)) none) Set.univ (k1_part6 i arg2 harg2 arg3 harg3 arg4 harg4 bS h5 bI h6 bW h7 v13_r0 v13_r1 v13_r2 t v14 v197) Q := by
  rw [k1_part6_eq_skeleton]; unfold k1_part6_skel; simp only [wp_bind]
  refine wp_row d i 37 t (off39_eq t) ?_
  refine wp_row d i 38 t (off40_eq t) ?_
  refine wp_row d i 39 t (off41_eq t) ?_
  refine wp_row d i 40 t (off42_eq t) ?_
  refine wp_row d i 41 t (off43_eq t) ?_
  refine wp_row d i 42 t (off44_eq t) ?_
  refine wp_row d i 43 t (off45_eq t) ?_
  exact wp_done d i (hQ _ _ rfl rfl)

theorem part7_wp {R : sProp 𝕄} {f : S64x512.Idx → F .f32} (t : Fin k1_t1_loop.trips) (v14 : BitVec 32) (v231 : FVec F S16 .f32)
    {Q : (Σ' (v251 : FVec F S16 .f32) (v270 : FVec F S16 .f32), BitVec 32) → sProp 𝕄}
    (hQ : ∀ (v251 : FVec F S16 .f32) (v270 : FVec F S16 .f32) (v271 : BitVec 32),
      v251 = k1_pay13 v231 (rowVec f 44 t) (rowVec f 45 t) (rowVec f 46 t) (rowVec f 47 t) → v270 = k1_pay14 (rowVec f 48 t) (rowVec f 49 t) (rowVec f 50 t) (rowVec f 51 t) → v271 = (Scalar.muli v14 16#32) →
      iprop(R ∗ ptS d i f) ⊢ Q ⟨v251, v270, v271⟩) :
    iprop(R ∗ ptS d i f) ⊢ wp frame (wpE (defs₀ (F := F)) 𝒱₀ (V d (cV i) (jV i)) none) Set.univ (k1_part7 i arg2 harg2 arg3 harg3 arg4 harg4 bS h5 bI h6 bW h7 v13_r0 v13_r1 v13_r2 t v14 v231) Q := by
  rw [k1_part7_eq_skeleton]; unfold k1_part7_skel; simp only [wp_bind]
  refine wp_row d i 44 t (off46_eq t) ?_
  refine wp_row d i 45 t (off47_eq t) ?_
  refine wp_row d i 46 t (off48_eq t) ?_
  refine wp_row d i 47 t (off49_eq t) ?_
  refine wp_row d i 48 t (off50_eq t) ?_
  refine wp_row d i 49 t (off51_eq t) ?_
  refine wp_row d i 50 t (off52_eq t) ?_
  refine wp_row d i 51 t (off53_eq t) ?_
  exact wp_done d i (hQ _ _ _ rfl rfl rfl)

theorem part8_wp {R : sProp 𝕄} {f : S64x512.Idx → F .f32} (t : Fin k1_t1_loop.trips) (v14 : BitVec 32) (v270 : FVec F S16 .f32) (v271 : BitVec 32)
    {Q : (Σ' (v290 : FVec F S16 .f32) (v304 : FVec F S16 .f32), Vec F S16 .f32) → sProp 𝕄}
    (hQ : ∀ (v290 : FVec F S16 .f32) (v304 : FVec F S16 .f32) (v308 : Vec F S16 .f32),
      v290 = k1_pay15 v270 (rowVec f 52 t) (rowVec f 53 t) (rowVec f 54 t) (rowVec f 55 t) → v304 = k1_pay16 (rowVec f 56 t) (rowVec f 57 t) (rowVec f 58 t) → v308 = k1_pay17 (rowVec f 59 t) →
      iprop(R ∗ ptS d i f) ⊢ Q ⟨v290, v304, v308⟩) :
    iprop(R ∗ ptS d i f) ⊢ wp frame (wpE (defs₀ (F := F)) 𝒱₀ (V d (cV i) (jV i)) none) Set.univ (k1_part8 i arg2 harg2 arg3 harg3 arg4 harg4 bS h5 bI h6 bW h7 v13_r0 v13_r1 v13_r2 t v14 v270 v271) Q := by
  rw [k1_part8_eq_skeleton]; unfold k1_part8_skel; simp only [wp_bind]
  refine wp_row d i 52 t (off54_eq t) ?_
  refine wp_row d i 53 t (off55_eq t) ?_
  refine wp_row d i 54 t (off56_eq t) ?_
  refine wp_row d i 55 t (off57_eq t) ?_
  refine wp_row d i 56 t (off58_eq t) ?_
  refine wp_row d i 57 t (off59_eq t) ?_
  refine wp_row d i 58 t (off60_eq t) ?_
  refine wp_row d i 59 t (off61_eq t) ?_
  exact wp_done d i (hQ _ _ _ rfl rfl rfl)

theorem part9_wp {R : sProp 𝕄} {f : S64x512.Idx → F .f32} (v4 : IVec S16 32) (v5 : IVec S16 32) (v6 : IVec S16 32) (v7 : IVec S16 32) (v8 : IVec S16 32) (v9 : IVec S16 32) (v10 : IVec S16 32) (v11 : IVec S16 32) (t : Fin k1_t1_loop.trips) (v14 : BitVec 32) (v56 : FVec F S16 .f32) (v95 : FVec F S16 .f32) (v134 : FVec F S16 .f32) (v173 : FVec F S16 .f32) (v212 : FVec F S16 .f32) (v251 : FVec F S16 .f32) (v290 : FVec F S16 .f32) (v304 : FVec F S16 .f32) (v308 : Vec F S16 .f32)
    {Q : (Σ' (v332 : FVec F S16 .f32) (v334 : IVec S16 32) (v337 : FVec F S16 .f32) (v339 : IVec S16 32) (v341 : FVec F S16 .f32) (v342 : FVec F S16 .f32) (v343 : IVec S16 32) (v344 : IVec S16 32) (v346 : FVec F S16 .f32) (v347 : FVec F S16 .f32) (v348 : IVec S16 32) (v349 : IVec S16 32) (v351 : FVec F S16 .f32) (v352 : FVec F S16 .f32) (v353 : IVec S16 32) (v354 : IVec S16 32) (v355 : IVec S16 1), FVec F S16 .f32) → sProp 𝕄}
    (hQ : ∀ (v332 : FVec F S16 .f32) (v334 : IVec S16 32) (v337 : FVec F S16 .f32) (v339 : IVec S16 32) (v341 : FVec F S16 .f32) (v342 : FVec F S16 .f32) (v343 : IVec S16 32) (v344 : IVec S16 32) (v346 : FVec F S16 .f32) (v347 : FVec F S16 .f32) (v348 : IVec S16 32) (v349 : IVec S16 32) (v351 : FVec F S16 .f32) (v352 : FVec F S16 .f32) (v353 : IVec S16 32) (v354 : IVec S16 32) (v355 : IVec S16 1) (v356 : FVec F S16 .f32),
      v332 = k1_pay21 v56 v95 → v334 = k1_pay23 v4 v5 v56 v95 → v337 = k1_pay26 v134 v173 → v339 = k1_pay28 v6 v7 v134 v173 → v341 = k1_pay30 v212 v251 → v342 = k1_pay31 v212 v251 → v343 = k1_pay32 v8 v9 v212 v251 → v344 = k1_pay33 v8 v9 v212 v251 → v346 = k1_pay35 v290 v304 v308 (rowVec f 60 t) (rowVec f 61 t) (rowVec f 62 t) (rowVec f 63 t) → v347 = k1_pay36 v290 v304 v308 (rowVec f 60 t) (rowVec f 61 t) (rowVec f 62 t) (rowVec f 63 t) → v348 = k1_pay37 v10 v11 v290 v304 v308 (rowVec f 60 t) (rowVec f 61 t) (rowVec f 62 t) (rowVec f 63 t) → v349 = k1_pay38 v10 v11 v290 v304 v308 (rowVec f 60 t) (rowVec f 61 t) (rowVec f 62 t) (rowVec f 63 t) → v351 = k1_pay40 v56 v95 v134 v173 → v352 = k1_pay41 v56 v95 v134 v173 → v353 = k1_pay42 v4 v5 v6 v7 v56 v95 v134 v173 → v354 = k1_pay43 v4 v5 v6 v7 v56 v95 v134 v173 → v355 = k1_pay44 v56 v95 v134 v173 → v356 = k1_pay45 v56 v95 v134 v173 →
      iprop(R ∗ ptS d i f) ⊢ Q ⟨v332, v334, v337, v339, v341, v342, v343, v344, v346, v347, v348, v349, v351, v352, v353, v354, v355, v356⟩) :
    iprop(R ∗ ptS d i f) ⊢ wp frame (wpE (defs₀ (F := F)) 𝒱₀ (V d (cV i) (jV i)) none) Set.univ (k1_part9 i arg2 harg2 arg3 harg3 arg4 harg4 bS h5 bI h6 bW h7 v13_r0 v13_r1 v13_r2 v4 v5 v6 v7 v8 v9 v10 v11 t v14 v56 v95 v134 v173 v212 v251 v290 v304 v308) Q := by
  rw [k1_part9_eq_skeleton]; unfold k1_part9_skel; simp only [wp_bind]
  refine wp_row d i 60 t (off62_eq t) ?_
  refine wp_row d i 61 t (off63_eq t) ?_
  refine wp_row d i 62 t (off64_eq t) ?_
  refine wp_row d i 63 t (off65_eq t) ?_
  exact wp_done d i (hQ _ _ _ _ _ _ _ _ _ _ _ _ _ _ _ _ _ _ rfl rfl rfl rfl rfl rfl rfl rfl rfl rfl rfl rfl rfl rfl rfl rfl rfl rfl)

theorem part10_wp {R : sProp 𝕄} (v332 : FVec F S16 .f32) (v334 : IVec S16 32) (v337 : FVec F S16 .f32) (v339 : IVec S16 32) (v341 : FVec F S16 .f32) (v342 : FVec F S16 .f32) (v343 : IVec S16 32) (v344 : IVec S16 32) (v346 : FVec F S16 .f32) (v347 : FVec F S16 .f32) (v348 : IVec S16 32) (v349 : IVec S16 32) (v351 : FVec F S16 .f32) (v352 : FVec F S16 .f32) (v353 : IVec S16 32) (v354 : IVec S16 32) (v355 : IVec S16 1) (v356 : FVec F S16 .f32)
    {Q : (Σ' (v383 : IVec S16 32) (v392 : FVec F S16 .f32) (v394 : IVec S16 32) (v402 : FVec F S16 .f32) (v404 : IVec S16 32) (v406 : FVec F S16 .f32) (v407 : FVec F S16 .f32) (v408 : IVec S16 32) (v409 : IVec S16 32) (v413 : IVec S16 32) (v414 : IVec S16 32), IVec S16 1) → sProp 𝕄}
    (hQ : ∀ (v383 : IVec S16 32) (v392 : FVec F S16 .f32) (v394 : IVec S16 32) (v402 : FVec F S16 .f32) (v404 : IVec S16 32) (v406 : FVec F S16 .f32) (v407 : FVec F S16 .f32) (v408 : IVec S16 32) (v409 : IVec S16 32) (v413 : IVec S16 32) (v414 : IVec S16 32) (v415 : IVec S16 1),
      v383 = k1_pay71 v341 v343 v346 v348 v351 v353 → v392 = k1_pay80 v341 v342 v346 v347 v352 v356 → v394 = k1_pay82 v334 v339 v341 v342 v343 v344 v346 v347 v348 v349 v352 v354 v355 v356 → v402 = k1_pay88 v341 v342 v346 v347 v351 v352 v356 → v404 = k1_pay90 v334 v339 v341 v342 v343 v344 v346 v347 v348 v349 v351 v352 v353 v354 v355 v356 → v406 = k1_pay92 v332 v337 v341 v342 v346 v347 v352 v355 v356 → v407 = k1_pay93 v332 v337 v341 v342 v346 v347 v352 v355 v356 → v408 = k1_pay94 v332 v334 v337 v339 v341 v342 v343 v344 v346 v347 v348 v349 v352 v354 v355 v356 → v409 = k1_pay95 v332 v334 v337 v339 v341 v342 v343 v344 v346 v347 v348 v349 v352 v354 v355 v356 → v413 = k1_pay97 v334 v339 v341 v342 v343 v344 v346 v347 v348 v349 v351 v352 v353 v354 v355 v356 → v414 = k1_pay98 v334 v339 v341 v342 v343 v344 v346 v347 v348 v349 v351 v352 v353 v354 v355 v356 → v415 = k1_pay99 v332 v337 v341 v342 v346 v347 v351 v352 v355 v356 →
      R ⊢ Q ⟨v383, v392, v394, v402, v404, v406, v407, v408, v409, v413, v414, v415⟩) :
    R ⊢ wp frame (wpE (defs₀ (F := F)) 𝒱₀ (V d (cV i) (jV i)) none) Set.univ (k1_part10 i arg2 harg2 arg3 harg3 arg4 harg4 bS h5 bI h6 bW h7 v13_r0 v13_r1 v13_r2 v332 v334 v337 v339 v341 v342 v343 v344 v346 v347 v348 v349 v351 v352 v353 v354 v355 v356) Q := by
  rw [k1_part10_eq_skeleton]; unfold k1_part10_skel; simp only [wp_bind]
  exact wp_done d i (hQ _ _ _ _ _ _ _ _ _ _ _ _ rfl rfl rfl rfl rfl rfl rfl rfl rfl rfl rfl rfl)

theorem part11_wp {R : sProp 𝕄} {f : S64x512.Idx → F .f32} (t : Fin k1_t1_loop.trips) (v17 : IVec S16 32) (v383 : IVec S16 32) (v392 : FVec F S16 .f32) (v394 : IVec S16 32) (v402 : FVec F S16 .f32) (v404 : IVec S16 32) (v406 : FVec F S16 .f32) (v407 : FVec F S16 .f32) (v408 : IVec S16 32) (v409 : IVec S16 32) (v413 : IVec S16 32) (v415 : IVec S16 1)
    (h17 : ∀ x, (v17 x).toNat = (lane t (x 0)).val)
    (hg0 : ∀ x, ((k1_pay101 v383) x).toNat < 64) (hg1 : ∀ x, ((k1_pay102 v383) x).toNat < 64) (hg2 : ∀ x, ((k1_pay103 v383) x).toNat < 64) (hg3 : ∀ x, ((k1_pay104 v383) x).toNat < 64) (hg4 : ∀ x, ((k1_pay105 v383) x).toNat < 64) (hg5 : ∀ x, ((k1_pay106 v383) x).toNat < 64) (hg6 : ∀ x, ((k1_pay107 v383) x).toNat < 64) (hg7 : ∀ x, ((k1_pay108 v383) x).toNat < 64) (hg8 : ∀ x, ((k1_pay110 v413) x).toNat < 64)
    {Q : (Σ' (v428 : IVec S16 32) (v429 : Vec F S16 .f32) (v431 : IVec S16 32) (v432 : Vec F S16 .f32) (v434 : IVec S16 32) (v435 : Vec F S16 .f32) (v437 : IVec S16 32) (v438 : Vec F S16 .f32) (v440 : IVec S16 32) (v441 : Vec F S16 .f32) (v443 : IVec S16 32) (v444 : Vec F S16 .f32) (v446 : IVec S16 32) (v447 : Vec F S16 .f32) (v449 : IVec S16 32) (v450 : Vec F S16 .f32) (v452 : IVec S16 32) (v454 : IVec S16 32) (v455 : Vec F S16 .f32), BitVec 32) → sProp 𝕄}
    (hQ : ∀ (v428 : IVec S16 32) (v429 : Vec F S16 .f32) (v431 : IVec S16 32) (v432 : Vec F S16 .f32) (v434 : IVec S16 32) (v435 : Vec F S16 .f32) (v437 : IVec S16 32) (v438 : Vec F S16 .f32) (v440 : IVec S16 32) (v441 : Vec F S16 .f32) (v443 : IVec S16 32) (v444 : Vec F S16 .f32) (v446 : IVec S16 32) (v447 : Vec F S16 .f32) (v449 : IVec S16 32) (v450 : Vec F S16 .f32) (v452 : IVec S16 32) (v454 : IVec S16 32) (v455 : Vec F S16 .f32) (c1_i32_91 : BitVec 32),
      v428 = (k1_pay101 v383) → v429 = (pick f t (k1_pay101 v383)) → v431 = (k1_pay102 v383) → v432 = (pick f t (k1_pay102 v383)) → v434 = (k1_pay103 v383) → v435 = (pick f t (k1_pay103 v383)) → v437 = (k1_pay104 v383) → v438 = (pick f t (k1_pay104 v383)) → v440 = (k1_pay105 v383) → v441 = (pick f t (k1_pay105 v383)) → v443 = (k1_pay106 v383) → v444 = (pick f t (k1_pay106 v383)) → v446 = (k1_pay107 v383) → v447 = (pick f t (k1_pay107 v383)) → v449 = (k1_pay108 v383) → v450 = (pick f t (k1_pay108 v383)) → v452 = k1_pay109 v413 → v454 = (k1_pay110 v413) → v455 = (pick f t (k1_pay110 v413)) → c1_i32_91 = 1#32 →
      iprop(R ∗ ptS d i f) ⊢ Q ⟨v428, v429, v431, v432, v434, v435, v437, v438, v440, v441, v443, v444, v446, v447, v449, v450, v452, v454, v455, c1_i32_91⟩) :
    iprop(R ∗ ptS d i f) ⊢ wp frame (wpE (defs₀ (F := F)) 𝒱₀ (V d (cV i) (jV i)) none) Set.univ (k1_part11 i arg2 harg2 arg3 harg3 arg4 harg4 bS h5 bI h6 bW h7 v13_r0 v13_r1 v13_r2 v17 v383 v392 v394 v402 v404 v406 v407 v408 v409 v413 v415) Q := by
  rw [k1_part11_eq_skeleton]; unfold k1_part11_skel; simp only [wp_bind]
  refine wp_check d i (chk_of t h17 hg0) ?_
  refine wp_pick d i t h17 hg0 ?_
  refine wp_check d i (chk_of t h17 hg1) ?_
  refine wp_pick d i t h17 hg1 ?_
  refine wp_check d i (chk_of t h17 hg2) ?_
  refine wp_pick d i t h17 hg2 ?_
  refine wp_check d i (chk_of t h17 hg3) ?_
  refine wp_pick d i t h17 hg3 ?_
  refine wp_check d i (chk_of t h17 hg4) ?_
  refine wp_pick d i t h17 hg4 ?_
  refine wp_check d i (chk_of t h17 hg5) ?_
  refine wp_pick d i t h17 hg5 ?_
  refine wp_check d i (chk_of t h17 hg6) ?_
  refine wp_pick d i t h17 hg6 ?_
  refine wp_check d i (chk_of t h17 hg7) ?_
  refine wp_pick d i t h17 hg7 ?_
  refine wp_check d i (chk_of t h17 hg8) ?_
  refine wp_pick d i t h17 hg8 ?_
  exact wp_done d i (hQ _ _ _ _ _ _ _ _ _ _ _ _ _ _ _ _ _ _ _ _ rfl rfl rfl rfl rfl rfl rfl rfl rfl rfl rfl rfl rfl rfl rfl rfl rfl rfl rfl rfl)

theorem part12_wp {R : sProp 𝕄} {f : S64x512.Idx → F .f32} (t : Fin k1_t1_loop.trips) (v17 : IVec S16 32) (v414 : IVec S16 32) (v452 : IVec S16 32) (c1_i32_91 : BitVec 32)
    (h17 : ∀ x, (v17 x).toNat = (lane t (x 0)).val)
    (hg0 : ∀ x, ((k1_pay111 v452 c1_i32_91) x).toNat < 64) (hg1 : ∀ x, ((k1_pay112 v452) x).toNat < 64) (hg2 : ∀ x, ((k1_pay113 v452) x).toNat < 64) (hg3 : ∀ x, ((k1_pay114 v452) x).toNat < 64) (hg4 : ∀ x, ((k1_pay115 v452) x).toNat < 64) (hg5 : ∀ x, ((k1_pay116 v452) x).toNat < 64) (hg6 : ∀ x, ((k1_pay117 v452) x).toNat < 64) (hg7 : ∀ x, ((k1_pay119 v414) x).toNat < 64) (hg8 : ∀ x, ((k1_pay120 v414) x).toNat < 64) (hg9 : ∀ x, ((k1_pay121 v414) x).toNat < 64) (hg10 : ∀ x, ((k1_pay122 v414) x).toNat < 64)
    {Q : (Σ' (v457 : IVec S16 32) (v458 : Vec F S16 .f32) (v460 : IVec S16 32) (v461 : Vec F S16 .f32) (v463 : IVec S16 32) (v464 : Vec F S16 .f32) (v466 : IVec S16 32) (v467 : Vec F S16 .f32) (v469 : IVec S16 32) (v470 : Vec F S16 .f32) (v472 : IVec S16 32) (v473 : Vec F S16 .f32) (v475 : IVec S16 32) (v476 : Vec F S16 .f32) (v478 : IVec S16 32) (v480 : IVec S16 32) (v481 : Vec F S16 .f32) (v483 : IVec S16 32) (v484 : Vec F S16 .f32) (v486 : IVec S16 32) (v487 : Vec F S16 .f32) (v489 : IVec S16 32) (v490 : Vec F S16 .f32), IVec S16 32) → sProp 𝕄}
    (hQ : ∀ (v457 : IVec S16 32) (v458 : Vec F S16 .f32) (v460 : IVec S16 32) (v461 : Vec F S16 .f32) (v463 : IVec S16 32) (v464 : Vec F S16 .f32) (v466 : IVec S16 32) (v467 : Vec F S16 .f32) (v469 : IVec S16 32) (v470 : Vec F S16 .f32) (v472 : IVec S16 32) (v473 : Vec F S16 .f32) (v475 : IVec S16 32) (v476 : Vec F S16 .f32) (v478 : IVec S16 32) (v480 : IVec S16 32) (v481 : Vec F S16 .f32) (v483 : IVec S16 32) (v484 : Vec F S16 .f32) (v486 : IVec S16 32) (v487 : Vec F S16 .f32) (v489 : IVec S16 32) (v490 : Vec F S16 .f32) (v492 : IVec S16 32),
      v457 = (k1_pay111 v452 c1_i32_91) → v458 = (pick f t (k1_pay111 v452 c1_i32_91)) → v460 = (k1_pay112 v452) → v461 = (pick f t (k1_pay112 v452)) → v463 = (k1_pay113 v452) → v464 = (pick f t (k1_pay113 v452)) → v466 = (k1_pay114 v452) → v467 = (pick f t (k1_pay114 v452)) → v469 = (k1_pay115 v452) → v470 = (pick f t (k1_pay115 v452)) → v472 = (k1_pay116 v452) → v473 = (pick f t (k1_pay116 v452)) → v475 = (k1_pay117 v452) → v476 = (pick f t (k1_pay117 v452)) → v478 = k1_pay118 v414 → v480 = (k1_pay119 v414) → v481 = (pick f t (k1_pay119 v414)) → v483 = (k1_pay120 v414) → v484 = (pick f t (k1_pay120 v414)) → v486 = (k1_pay121 v414) → v487 = (pick f t (k1_pay121 v414)) → v489 = (k1_pay122 v414) → v490 = (pick f t (k1_pay122 v414)) → v492 = k1_pay123 v414 →
      iprop(R ∗ ptS d i f) ⊢ Q ⟨v457, v458, v460, v461, v463, v464, v466, v467, v469, v470, v472, v473, v475, v476, v478, v480, v481, v483, v484, v486, v487, v489, v490, v492⟩) :
    iprop(R ∗ ptS d i f) ⊢ wp frame (wpE (defs₀ (F := F)) 𝒱₀ (V d (cV i) (jV i)) none) Set.univ (k1_part12 i arg2 harg2 arg3 harg3 arg4 harg4 bS h5 bI h6 bW h7 v13_r0 v13_r1 v13_r2 v17 v414 v452 c1_i32_91) Q := by
  rw [k1_part12_eq_skeleton]; unfold k1_part12_skel; simp only [wp_bind]
  refine wp_check d i (chk_of t h17 hg0) ?_
  refine wp_pick d i t h17 hg0 ?_
  refine wp_check d i (chk_of t h17 hg1) ?_
  refine wp_pick d i t h17 hg1 ?_
  refine wp_check d i (chk_of t h17 hg2) ?_
  refine wp_pick d i t h17 hg2 ?_
  refine wp_check d i (chk_of t h17 hg3) ?_
  refine wp_pick d i t h17 hg3 ?_
  refine wp_check d i (chk_of t h17 hg4) ?_
  refine wp_pick d i t h17 hg4 ?_
  refine wp_check d i (chk_of t h17 hg5) ?_
  refine wp_pick d i t h17 hg5 ?_
  refine wp_check d i (chk_of t h17 hg6) ?_
  refine wp_pick d i t h17 hg6 ?_
  refine wp_check d i (chk_of t h17 hg7) ?_
  refine wp_pick d i t h17 hg7 ?_
  refine wp_check d i (chk_of t h17 hg8) ?_
  refine wp_pick d i t h17 hg8 ?_
  refine wp_check d i (chk_of t h17 hg9) ?_
  refine wp_pick d i t h17 hg9 ?_
  refine wp_check d i (chk_of t h17 hg10) ?_
  refine wp_pick d i t h17 hg10 ?_
  exact wp_done d i (hQ _ _ _ _ _ _ _ _ _ _ _ _ _ _ _ _ _ _ _ _ _ _ _ _ rfl rfl rfl rfl rfl rfl rfl rfl rfl rfl rfl rfl rfl rfl rfl rfl rfl rfl rfl rfl rfl rfl rfl rfl)

theorem part13_wp {R : sProp 𝕄} {f : S64x512.Idx → F .f32} (t : Fin k1_t1_loop.trips) (v17 : IVec S16 32) (v428 : IVec S16 32) (v429 : Vec F S16 .f32) (v431 : IVec S16 32) (v432 : Vec F S16 .f32) (v434 : IVec S16 32) (v435 : Vec F S16 .f32) (v437 : IVec S16 32) (v438 : Vec F S16 .f32) (v440 : IVec S16 32) (v441 : Vec F S16 .f32) (v443 : IVec S16 32) (v444 : Vec F S16 .f32) (v446 : IVec S16 32) (v447 : Vec F S16 .f32) (v449 : IVec S16 32) (v450 : Vec F S16 .f32) (v478 : IVec S16 32) (v492 : IVec S16 32)
    (h17 : ∀ x, (v17 x).toNat = (lane t (x 0)).val)
    (hg0 : ∀ x, (v492 x).toNat < 64) (hg1 : ∀ x, ((k1_pay124 v478) x).toNat < 64) (hg2 : ∀ x, ((k1_pay125 v478) x).toNat < 64) (hg3 : ∀ x, ((k1_pay126 v478) x).toNat < 64)
    {Q : (Σ' (v493 : Vec F S16 .f32) (v495 : IVec S16 32) (v496 : Vec F S16 .f32) (v498 : IVec S16 32) (v499 : Vec F S16 .f32) (v501 : IVec S16 32) (v502 : Vec F S16 .f32) (v524 : Vec F S16 .f32) (v526 : IVec S16 32) (v527 : IVec S16 32) (v530 : Vec F S16 .f32) (v531 : IVec S16 32) (v532 : IVec S16 32) (v534 : Vec F S16 .f32) (v535 : Vec F S16 .f32) (v536 : IVec S16 32) (v537 : IVec S16 32) (v539 : Vec F S16 .f32) (v540 : Vec F S16 .f32) (v541 : IVec S16 32) (v542 : IVec S16 32) (v543 : IVec S16 1) (v544 : Vec F S16 .f32), Vec F S16 .f32) → sProp 𝕄}
    (hQ : ∀ (v493 : Vec F S16 .f32) (v495 : IVec S16 32) (v496 : Vec F S16 .f32) (v498 : IVec S16 32) (v499 : Vec F S16 .f32) (v501 : IVec S16 32) (v502 : Vec F S16 .f32) (v524 : Vec F S16 .f32) (v526 : IVec S16 32) (v527 : IVec S16 32) (v530 : Vec F S16 .f32) (v531 : IVec S16 32) (v532 : IVec S16 32) (v534 : Vec F S16 .f32) (v535 : Vec F S16 .f32) (v536 : IVec S16 32) (v537 : IVec S16 32) (v539 : Vec F S16 .f32) (v540 : Vec F S16 .f32) (v541 : IVec S16 32) (v542 : IVec S16 32) (v543 : IVec S16 1) (v544 : Vec F S16 .f32) (v545 : Vec F S16 .f32),
      v493 = (pick f t v492) → v495 = (k1_pay124 v478) → v496 = (pick f t (k1_pay124 v478)) → v498 = (k1_pay125 v478) → v499 = (pick f t (k1_pay125 v478)) → v501 = (k1_pay126 v478) → v502 = (pick f t (k1_pay126 v478)) → v524 = k1_pay148 v429 v432 v435 v438 → v526 = k1_pay150 v428 v429 v431 v432 v434 v435 v437 v438 → v527 = k1_pay151 v428 v429 v431 v432 v434 v435 v437 v438 → v530 = k1_pay154 v429 v432 v435 v438 → v531 = k1_pay155 v428 v429 v431 v432 v434 v435 v437 v438 → v532 = k1_pay156 v428 v429 v431 v432 v434 v435 v437 v438 → v534 = k1_pay158 v441 v444 v447 v450 → v535 = k1_pay159 v441 v444 v447 v450 → v536 = k1_pay160 v440 v441 v443 v444 v446 v447 v449 v450 → v537 = k1_pay161 v440 v441 v443 v444 v446 v447 v449 v450 → v539 = k1_pay163 v441 v444 v447 v450 → v540 = k1_pay164 v441 v444 v447 v450 → v541 = k1_pay165 v440 v441 v443 v444 v446 v447 v449 v450 → v542 = k1_pay166 v440 v441 v443 v444 v446 v447 v449 v450 → v543 = k1_pay167 v429 v432 v435 v438 → v544 = k1_pay168 v429 v432 v435 v438 → v545 = k1_pay169 v429 v432 v435 v438 →
      iprop(R ∗ ptS d i f) ⊢ Q ⟨v493, v495, v496, v498, v499, v501, v502, v524, v526, v527, v530, v531, v532, v534, v535, v536, v537, v539, v540, v541, v542, v543, v544, v545⟩) :
    iprop(R ∗ ptS d i f) ⊢ wp frame (wpE (defs₀ (F := F)) 𝒱₀ (V d (cV i) (jV i)) none) Set.univ (k1_part13 i arg2 harg2 arg3 harg3 arg4 harg4 bS h5 bI h6 bW h7 v13_r0 v13_r1 v13_r2 v17 v428 v429 v431 v432 v434 v435 v437 v438 v440 v441 v443 v444 v446 v447 v449 v450 v478 v492) Q := by
  rw [k1_part13_eq_skeleton]; unfold k1_part13_skel; simp only [wp_bind]
  refine wp_check d i (chk_of t h17 hg0) ?_
  refine wp_pick d i t h17 hg0 ?_
  refine wp_check d i (chk_of t h17 hg1) ?_
  refine wp_pick d i t h17 hg1 ?_
  refine wp_check d i (chk_of t h17 hg2) ?_
  refine wp_pick d i t h17 hg2 ?_
  refine wp_check d i (chk_of t h17 hg3) ?_
  refine wp_pick d i t h17 hg3 ?_
  exact wp_done d i (hQ _ _ _ _ _ _ _ _ _ _ _ _ _ _ _ _ _ _ _ _ _ _ _ _ rfl rfl rfl rfl rfl rfl rfl rfl rfl rfl rfl rfl rfl rfl rfl rfl rfl rfl rfl rfl rfl rfl rfl rfl)

theorem part14_wp {R : sProp 𝕄} (v454 : IVec S16 32) (v455 : Vec F S16 .f32) (v457 : IVec S16 32) (v458 : Vec F S16 .f32) (v461 : Vec F S16 .f32) (v464 : Vec F S16 .f32) (v524 : Vec F S16 .f32) (v526 : IVec S16 32) (v527 : IVec S16 32) (v530 : Vec F S16 .f32) (v531 : IVec S16 32) (v532 : IVec S16 32) (v534 : Vec F S16 .f32) (v535 : Vec F S16 .f32) (v536 : IVec S16 32) (v537 : IVec S16 32) (v539 : Vec F S16 .f32) (v540 : Vec F S16 .f32) (v541 : IVec S16 32) (v542 : IVec S16 32) (v543 : IVec S16 1) (v544 : Vec F S16 .f32) (v545 : Vec F S16 .f32)
    {Q : (Σ' (v554 : Vec F S16 .f32) (v556 : IVec S16 32) (v570 : Vec F S16 .f32) (v572 : IVec S16 32) (v584 : Vec F S16 .f32) (v585 : Vec F S16 .f32) (v586 : IVec S16 32) (v587 : IVec S16 32) (v589 : Vec F S16 .f32) (v590 : Vec F S16 .f32) (v591 : IVec S16 32) (v592 : IVec S16 32) (v594 : Vec F S16 .f32) (v595 : Vec F S16 .f32) (v596 : IVec S16 32) (v597 : IVec S16 32) (v599 : Vec F S16 .f32) (v600 : Vec F S16 .f32) (v601 : IVec S16 32) (v602 : IVec S16 32) (v603 : IVec S16 1) (v604 : Vec F S16 .f32), Vec F S16 .f32) → sProp 𝕄}
    (hQ : ∀ (v554 : Vec F S16 .f32) (v556 : IVec S16 32) (v570 : Vec F S16 .f32) (v572 : IVec S16 32) (v584 : Vec F S16 .f32) (v585 : Vec F S16 .f32) (v586 : IVec S16 32) (v587 : IVec S16 32) (v589 : Vec F S16 .f32) (v590 : Vec F S16 .f32) (v591 : IVec S16 32) (v592 : IVec S16 32) (v594 : Vec F S16 .f32) (v595 : Vec F S16 .f32) (v596 : IVec S16 32) (v597 : IVec S16 32) (v599 : Vec F S16 .f32) (v600 : Vec F S16 .f32) (v601 : IVec S16 32) (v602 : IVec S16 32) (v603 : IVec S16 1) (v604 : Vec F S16 .f32) (v605 : Vec F S16 .f32),
      v554 = k1_pay178 v524 v534 → v556 = k1_pay180 v524 v526 v534 v536 → v570 = k1_pay194 v530 v540 → v572 = k1_pay196 v530 v532 v540 v542 → v584 = k1_pay208 v524 v534 v535 v539 v544 v545 → v585 = k1_pay209 v524 v534 v535 v539 v544 v545 → v586 = k1_pay210 v524 v526 v527 v531 v534 v535 v536 v537 v539 v541 v543 v544 v545 → v587 = k1_pay211 v524 v526 v527 v531 v534 v535 v536 v537 v539 v541 v543 v544 v545 → v589 = k1_pay213 v524 v530 v534 v535 v539 v540 v544 v545 → v590 = k1_pay214 v524 v530 v534 v535 v539 v540 v544 v545 → v591 = k1_pay215 v524 v526 v527 v530 v531 v532 v534 v535 v536 v537 v539 v540 v541 v542 v543 v544 v545 → v592 = k1_pay216 v524 v526 v527 v530 v531 v532 v534 v535 v536 v537 v539 v540 v541 v542 v543 v544 v545 → v594 = k1_pay218 v530 v535 v539 v540 v544 v545 → v595 = k1_pay219 v530 v535 v539 v540 v544 v545 → v596 = k1_pay220 v527 v530 v531 v532 v535 v537 v539 v540 v541 v542 v543 v544 v545 → v597 = k1_pay221 v527 v530 v531 v532 v535 v537 v539 v540 v541 v542 v543 v544 v545 → v599 = k1_pay223 v455 v458 → v600 = k1_pay224 v455 v458 → v601 = k1_pay225 v454 v455 v457 v458 → v602 = k1_pay226 v454 v455 v457 v458 → v603 = k1_pay227 v461 v464 → v604 = k1_pay228 v461 v464 → v605 = k1_pay229 v461 v464 →
      R ⊢ Q ⟨v554, v556, v570, v572, v584, v585, v586, v587, v589, v590, v591, v592, v594, v595, v596, v597, v599, v600, v601, v602, v603, v604, v605⟩) :
    R ⊢ wp frame (wpE (defs₀ (F := F)) 𝒱₀ (V d (cV i) (jV i)) none) Set.univ (k1_part14 i arg2 harg2 arg3 harg3 arg4 harg4 bS h5 bI h6 bW h7 v13_r0 v13_r1 v13_r2 v454 v455 v457 v458 v461 v464 v524 v526 v527 v530 v531 v532 v534 v535 v536 v537 v539 v540 v541 v542 v543 v544 v545) Q := by
  rw [k1_part14_eq_skeleton]; unfold k1_part14_skel; simp only [wp_bind]
  exact wp_done d i (hQ _ _ _ _ _ _ _ _ _ _ _ _ _ _ _ _ _ _ _ _ _ _ _ rfl rfl rfl rfl rfl rfl rfl rfl rfl rfl rfl rfl rfl rfl rfl rfl rfl rfl rfl rfl rfl rfl rfl)

theorem part15_wp {R : sProp 𝕄} (v460 : IVec S16 32) (v463 : IVec S16 32) (v466 : IVec S16 32) (v467 : Vec F S16 .f32) (v469 : IVec S16 32) (v470 : Vec F S16 .f32) (v472 : IVec S16 32) (v473 : Vec F S16 .f32) (v475 : IVec S16 32) (v476 : Vec F S16 .f32) (v599 : Vec F S16 .f32) (v600 : Vec F S16 .f32) (v601 : IVec S16 32) (v602 : IVec S16 32) (v603 : IVec S16 1) (v604 : Vec F S16 .f32) (v605 : Vec F S16 .f32)
    {Q : (Σ' (v627 : IVec S16 32) (v637 : IVec S16 32) (v649 : Vec F S16 .f32) (v650 : Vec F S16 .f32) (v651 : IVec S16 32) (v652 : IVec S16 32) (v654 : Vec F S16 .f32) (v655 : Vec F S16 .f32) (v656 : IVec S16 32) (v657 : IVec S16 32) (v659 : Vec F S16 .f32) (v660 : Vec F S16 .f32) (v661 : IVec S16 32) (v662 : IVec S16 32) (v663 : IVec S16 1) (v664 : Vec F S16 .f32), Vec F S16 .f32) → sProp 𝕄}
    (hQ : ∀ (v627 : IVec S16 32) (v637 : IVec S16 32) (v649 : Vec F S16 .f32) (v650 : Vec F S16 .f32) (v651 : IVec S16 32) (v652 : IVec S16 32) (v654 : Vec F S16 .f32) (v655 : Vec F S16 .f32) (v656 : IVec S16 32) (v657 : IVec S16 32) (v659 : Vec F S16 .f32) (v660 : Vec F S16 .f32) (v661 : IVec S16 32) (v662 : IVec S16 32) (v663 : IVec S16 1) (v664 : Vec F S16 .f32) (v665 : Vec F S16 .f32),
      v627 = k1_pay251 v460 v463 v600 v602 v603 v605 → v637 = k1_pay261 v466 v467 v469 v470 v472 v473 v475 v476 → v649 = k1_pay273 v467 v470 v473 v476 v599 v604 → v650 = k1_pay274 v467 v470 v473 v476 v599 v604 → v651 = k1_pay275 v460 v463 v466 v467 v469 v470 v472 v473 v475 v476 v599 v601 v603 v604 → v652 = k1_pay276 v460 v463 v466 v467 v469 v470 v472 v473 v475 v476 v599 v601 v603 v604 → v654 = k1_pay278 v467 v470 v473 v476 v599 v600 v604 v605 → v655 = k1_pay279 v467 v470 v473 v476 v599 v600 v604 v605 → v656 = k1_pay280 v460 v463 v466 v467 v469 v470 v472 v473 v475 v476 v599 v600 v601 v602 v603 v604 v605 → v657 = k1_pay281 v460 v463 v466 v467 v469 v470 v472 v473 v475 v476 v599 v600 v601 v602 v603 v604 v605 → v659 = k1_pay283 v467 v470 v473 v476 v599 v600 v604 v605 → v660 = k1_pay284 v467 v470 v473 v476 v599 v600 v604 v605 → v661 = k1_pay285 v460 v463 v466 v467 v469 v470 v472 v473 v475 v476 v599 v600 v601 v602 v603 v604 v605 → v662 = k1_pay286 v460 v463 v466 v467 v469 v470 v472 v473 v475 v476 v599 v600 v601 v602 v603 v604 v605 → v663 = k1_pay287 v467 v470 v473 v476 v600 v605 → v664 = k1_pay288 v467 v470 v473 v476 v600 v605 → v665 = k1_pay289 v467 v470 v473 v476 v600 v605 →
      R ⊢ Q ⟨v627, v637, v649, v650, v651, v652, v654, v655, v656, v657, v659, v660, v661, v662, v663, v664, v665⟩) :
    R ⊢ wp frame (wpE (defs₀ (F := F)) 𝒱₀ (V d (cV i) (jV i)) none) Set.univ (k1_part15 i arg2 harg2 arg3 harg3 arg4 harg4 bS h5 bI h6 bW h7 v13_r0 v13_r1 v13_r2 v460 v463 v466 v467 v469 v470 v472 v473 v475 v476 v599 v600 v601 v602 v603 v604 v605) Q := by
  rw [k1_part15_eq_skeleton]; unfold k1_part15_skel; simp only [wp_bind]
  exact wp_done d i (hQ _ _ _ _ _ _ _ _ _ _ _ _ _ _ _ _ _ rfl rfl rfl rfl rfl rfl rfl rfl rfl rfl rfl rfl rfl rfl rfl rfl rfl)

theorem part16_wp {R : sProp 𝕄} (v480 : IVec S16 32) (v481 : Vec F S16 .f32) (v483 : IVec S16 32) (v484 : Vec F S16 .f32) (v486 : IVec S16 32) (v487 : Vec F S16 .f32) (v489 : IVec S16 32) (v490 : Vec F S16 .f32) (v492 : IVec S16 32) (v493 : Vec F S16 .f32) (v495 : IVec S16 32) (v496 : Vec F S16 .f32) (v498 : IVec S16 32) (v499 : Vec F S16 .f32) (v501 : IVec S16 32) (v502 : Vec F S16 .f32) (v627 : IVec S16 32) (v637 : IVec S16 32) (v650 : Vec F S16 .f32) (v652 : IVec S16 32) (v654 : Vec F S16 .f32) (v655 : Vec F S16 .f32) (v656 : IVec S16 32) (v657 : IVec S16 32) (v659 : Vec F S16 .f32) (v660 : Vec F S16 .f32) (v661 : IVec S16 32) (v662 : IVec S16 32) (v663 : IVec S16 1) (v664 : Vec F S16 .f32)
    {Q : (Σ' (v667 : IVec S16 32) (v679 : Vec F S16 .f32) (v680 : Vec F S16 .f32) (v681 : IVec S16 32) (v682 : IVec S16 32) (v684 : Vec F S16 .f32) (v685 : Vec F S16 .f32) (v686 : IVec S16 32) (v687 : IVec S16 32) (v689 : Vec F S16 .f32) (v690 : Vec F S16 .f32) (v691 : IVec S16 32) (v692 : IVec S16 32) (v705 : Vec F S16 .f32) (v706 : IVec S16 32) (v707 : IVec S16 32) (v710 : Vec F S16 .f32) (v711 : IVec S16 32) (v712 : IVec S16 32) (v714 : Vec F S16 .f32) (v715 : Vec F S16 .f32) (v716 : IVec S16 32) (v717 : IVec S16 32) (v719 : Vec F S16 .f32) (v720 : Vec F S16 .f32) (v721 : IVec S16 32) (v722 : IVec S16 32) (v723 : IVec S16 1) (v724 : Vec F S16 .f32), Vec F S16 .f32) → sProp 𝕄}
    (hQ : ∀ (v667 : IVec S16 32) (v679 : Vec F S16 .f32) (v680 : Vec F S16 .f32) (v681 : IVec S16 32) (v682 : IVec S16 32) (v684 : Vec F S16 .f32) (v685 : Vec F S16 .f32) (v686 : IVec S16 32) (v687 : IVec S16 32) (v689 : Vec F S16 .f32) (v690 : Vec F S16 .f32) (v691 : IVec S16 32) (v692 : IVec S16 32) (v705 : Vec F S16 .f32) (v706 : IVec S16 32) (v707 : IVec S16 32) (v710 : Vec F S16 .f32) (v711 : IVec S16 32) (v712 : IVec S16 32) (v714 : Vec F S16 .f32) (v715 : Vec F S16 .f32) (v716 : IVec S16 32) (v717 : IVec S16 32) (v719 : Vec F S16 .f32) (v720 : Vec F S16 .f32) (v721 : IVec S16 32) (v722 : IVec S16 32) (v723 : IVec S16 1) (v724 : Vec F S16 .f32) (v725 : Vec F S16 .f32),
      v667 = k1_pay291 v627 v637 v663 → v679 = k1_pay303 v650 v654 v659 → v680 = k1_pay304 v650 v654 v659 → v681 = k1_pay305 v650 v652 v654 v656 v659 v661 → v682 = k1_pay306 v650 v652 v654 v656 v659 v661 → v684 = k1_pay308 v650 v655 v659 v664 → v685 = k1_pay309 v650 v655 v659 v664 → v686 = k1_pay310 v627 v637 v650 v652 v655 v657 v659 v661 v663 v664 → v687 = k1_pay311 v627 v637 v650 v652 v655 v657 v659 v661 v663 v664 → v689 = k1_pay313 v655 v660 v664 → v690 = k1_pay314 v655 v660 v664 → v691 = k1_pay315 v627 v637 v655 v657 v660 v662 v663 v664 → v692 = k1_pay316 v627 v637 v655 v657 v660 v662 v663 v664 → v705 = k1_pay329 v493 v496 → v706 = k1_pay330 v492 v493 v495 v496 → v707 = k1_pay331 v492 v493 v495 v496 → v710 = k1_pay334 v499 v502 → v711 = k1_pay335 v498 v499 v501 v502 → v712 = k1_pay336 v498 v499 v501 v502 → v714 = k1_pay338 v481 v484 v487 v490 → v715 = k1_pay339 v481 v484 v487 v490 → v716 = k1_pay340 v480 v481 v483 v484 v486 v487 v489 v490 → v717 = k1_pay341 v480 v481 v483 v484 v486 v487 v489 v490 → v719 = k1_pay343 v481 v484 v487 v490 → v720 = k1_pay344 v481 v484 v487 v490 → v721 = k1_pay345 v480 v481 v483 v484 v486 v487 v489 v490 → v722 = k1_pay346 v480 v481 v483 v484 v486 v487 v489 v490 → v723 = k1_pay347 v493 v496 v499 v502 → v724 = k1_pay348 v493 v496 v499 v502 → v725 = k1_pay349 v493 v496 v499 v502 →
      R ⊢ Q ⟨v667, v679, v680, v681, v682, v684, v685, v686, v687, v689, v690, v691, v692, v705, v706, v707, v710, v711, v712, v714, v715, v716, v717, v719, v720, v721, v722, v723, v724, v725⟩) :
    R ⊢ wp frame (wpE (defs₀ (F := F)) 𝒱₀ (V d (cV i) (jV i)) none) Set.univ (k1_part16 i arg2 harg2 arg3 harg3 arg4 harg4 bS h5 bI h6 bW h7 v13_r0 v13_r1 v13_r2 v480 v481 v483 v484 v486 v487 v489 v490 v492 v493 v495 v496 v498 v499 v501 v502 v627 v637 v650 v652 v654 v655 v656 v657 v659 v660 v661 v662 v663 v664) Q := by
  rw [k1_part16_eq_skeleton]; unfold k1_part16_skel; simp only [wp_bind]
  exact wp_done d i (hQ _ _ _ _ _ _ _ _ _ _ _ _ _ _ _ _ _ _ _ _ _ _ _ _ _ _ _ _ _ _ rfl rfl rfl rfl rfl rfl rfl rfl rfl rfl rfl rfl rfl rfl rfl rfl rfl rfl rfl rfl rfl rfl rfl rfl rfl rfl rfl rfl rfl rfl)

theorem part17_wp {R : sProp 𝕄} (v705 : Vec F S16 .f32) (v706 : IVec S16 32) (v707 : IVec S16 32) (v710 : Vec F S16 .f32) (v711 : IVec S16 32) (v712 : IVec S16 32) (v714 : Vec F S16 .f32) (v715 : Vec F S16 .f32) (v716 : IVec S16 32) (v717 : IVec S16 32) (v719 : Vec F S16 .f32) (v720 : Vec F S16 .f32) (v721 : IVec S16 32) (v722 : IVec S16 32) (v723 : IVec S16 1) (v724 : Vec F S16 .f32) (v725 : Vec F S16 .f32)
    {Q : (Σ' (v744 : Vec F S16 .f32) (v746 : IVec S16 32) (v757 : IVec S16 32) (v760 : Vec F S16 .f32) (v762 : IVec S16 32) (v772 : IVec S16 32) (v774 : Vec F S16 .f32) (v775 : Vec F S16 .f32) (v776 : IVec S16 32) (v777 : IVec S16 32) (v779 : Vec F S16 .f32) (v780 : Vec F S16 .f32) (v781 : IVec S16 32) (v782 : IVec S16 32) (v783 : IVec S16 1) (v784 : Vec F S16 .f32), Vec F S16 .f32) → sProp 𝕄}
    (hQ : ∀ (v744 : Vec F S16 .f32) (v746 : IVec S16 32) (v757 : IVec S16 32) (v760 : Vec F S16 .f32) (v762 : IVec S16 32) (v772 : IVec S16 32) (v774 : Vec F S16 .f32) (v775 : Vec F S16 .f32) (v776 : IVec S16 32) (v777 : IVec S16 32) (v779 : Vec F S16 .f32) (v780 : Vec F S16 .f32) (v781 : IVec S16 32) (v782 : IVec S16 32) (v783 : IVec S16 1) (v784 : Vec F S16 .f32) (v785 : Vec F S16 .f32),
      v744 = k1_pay368 v714 v724 → v746 = k1_pay370 v706 v711 v714 v716 v723 v724 → v757 = k1_pay381 v705 v706 v707 v710 v711 v712 v715 v717 v719 v721 v723 v725 → v760 = k1_pay384 v705 v710 v720 → v762 = k1_pay386 v705 v707 v710 v712 v720 v722 → v772 = k1_pay396 v705 v706 v707 v710 v711 v712 v715 v717 v719 v720 v721 v722 v723 v725 → v774 = k1_pay398 v705 v710 v714 v715 v719 v724 v725 → v775 = k1_pay399 v705 v710 v714 v715 v719 v724 v725 → v776 = k1_pay400 v705 v706 v707 v710 v711 v712 v714 v715 v716 v717 v719 v721 v723 v724 v725 → v777 = k1_pay401 v705 v706 v707 v710 v711 v712 v714 v715 v716 v717 v719 v721 v723 v724 v725 → v779 = k1_pay403 v705 v710 v714 v715 v719 v720 v724 v725 → v780 = k1_pay404 v705 v710 v714 v715 v719 v720 v724 v725 → v781 = k1_pay405 v705 v706 v707 v710 v711 v712 v714 v715 v716 v717 v719 v720 v721 v722 v723 v724 v725 → v782 = k1_pay406 v705 v706 v707 v710 v711 v712 v714 v715 v716 v717 v719 v720 v721 v722 v723 v724 v725 → v783 = k1_pay407 v705 v710 v715 v719 v720 v725 → v784 = k1_pay408 v705 v710 v715 v719 v720 v725 → v785 = k1_pay409 v705 v710 v715 v719 v720 v725 →
      R ⊢ Q ⟨v744, v746, v757, v760, v762, v772, v774, v775, v776, v777, v779, v780, v781, v782, v783, v784, v785⟩) :
    R ⊢ wp frame (wpE (defs₀ (F := F)) 𝒱₀ (V d (cV i) (jV i)) none) Set.univ (k1_part17 i arg2 harg2 arg3 harg3 arg4 harg4 bS h5 bI h6 bW h7 v13_r0 v13_r1 v13_r2 v705 v706 v707 v710 v711 v712 v714 v715 v716 v717 v719 v720 v721 v722 v723 v724 v725) Q := by
  rw [k1_part17_eq_skeleton]; unfold k1_part17_skel; simp only [wp_bind]
  exact wp_done d i (hQ _ _ _ _ _ _ _ _ _ _ _ _ _ _ _ _ _ rfl rfl rfl rfl rfl rfl rfl rfl rfl rfl rfl rfl rfl rfl rfl rfl rfl)

theorem part18_wp {R : sProp 𝕄} (v554 : Vec F S16 .f32) (v556 : IVec S16 32) (v570 : Vec F S16 .f32) (v572 : IVec S16 32) (v584 : Vec F S16 .f32) (v585 : Vec F S16 .f32) (v586 : IVec S16 32) (v587 : IVec S16 32) (v589 : Vec F S16 .f32) (v590 : Vec F S16 .f32) (v591 : IVec S16 32) (v592 : IVec S16 32) (v594 : Vec F S16 .f32) (v595 : Vec F S16 .f32) (v596 : IVec S16 32) (v597 : IVec S16 32) (v649 : Vec F S16 .f32) (v651 : IVec S16 32) (v665 : Vec F S16 .f32) (v667 : IVec S16 32) (v679 : Vec F S16 .f32) (v680 : Vec F S16 .f32) (v681 : IVec S16 32) (v682 : IVec S16 32) (v684 : Vec F S16 .f32) (v685 : Vec F S16 .f32) (v686 : IVec S16 32) (v687 : IVec S16 32) (v689 : Vec F S16 .f32) (v690 : Vec F S16 .f32) (v691 : IVec S16 32) (v692 : IVec S16 32) (v757 : IVec S16 32) (v772 : IVec S16 32) (v783 : IVec S16 1)
    {Q : (Σ' (v786 : IVec S16 32) (v787 : IVec S16 32) (v816 : IVec S16 32) (v819 : Vec F S16 .f32) (v821 : IVec S16 32) (v826 : IVec S16 32) (v829 : Vec F S16 .f32) (v831 : IVec S16 32) (v833 : Vec F S16 .f32) (v834 : Vec F S16 .f32) (v835 : IVec S16 32) (v836 : IVec S16 32) (v838 : Vec F S16 .f32) (v839 : Vec F S16 .f32) (v840 : IVec S16 32) (v841 : IVec S16 32) (v842 : IVec S16 1) (v843 : Vec F S16 .f32) (v844 : Vec F S16 .f32), IVec S16 32) → sProp 𝕄}
    (hQ : ∀ (v786 : IVec S16 32) (v787 : IVec S16 32) (v816 : IVec S16 32) (v819 : Vec F S16 .f32) (v821 : IVec S16 32) (v826 : IVec S16 32) (v829 : Vec F S16 .f32) (v831 : IVec S16 32) (v833 : Vec F S16 .f32) (v834 : Vec F S16 .f32) (v835 : IVec S16 32) (v836 : IVec S16 32) (v838 : Vec F S16 .f32) (v839 : Vec F S16 .f32) (v840 : IVec S16 32) (v841 : IVec S16 32) (v842 : IVec S16 1) (v843 : Vec F S16 .f32) (v844 : Vec F S16 .f32) (v845 : IVec S16 32),
      v786 = k1_pay410 v757 v772 v783 → v787 = k1_pay411 v757 v772 v783 → v816 = k1_pay440 v554 v556 v590 v592 v665 v667 v684 v686 → v819 = k1_pay443 v584 v594 v680 v690 → v821 = k1_pay445 v584 v586 v594 v596 v680 v682 v690 v692 → v826 = k1_pay450 v585 v587 v595 v597 v679 v681 v689 v691 → v829 = k1_pay453 v570 v589 v649 v685 → v831 = k1_pay455 v570 v572 v589 v591 v649 v651 v685 v687 → v833 = k1_pay457 v554 v585 v590 v595 v665 v679 v684 v689 → v834 = k1_pay458 v554 v585 v590 v595 v665 v679 v684 v689 → v835 = k1_pay459 v554 v556 v585 v587 v590 v592 v595 v597 v665 v667 v679 v681 v684 v686 v689 v691 → v836 = k1_pay460 v554 v556 v585 v587 v590 v592 v595 v597 v665 v667 v679 v681 v684 v686 v689 v691 → v838 = k1_pay462 v570 v584 v589 v594 v649 v680 v685 v690 → v839 = k1_pay463 v570 v584 v589 v594 v649 v680 v685 v690 → v840 = k1_pay464 v570 v572 v584 v586 v589 v591 v594 v596 v649 v651 v680 v682 v685 v687 v690 v692 → v841 = k1_pay465 v570 v572 v584 v586 v589 v591 v594 v596 v649 v651 v680 v682 v685 v687 v690 v692 → v842 = k1_pay466 v554 v585 v590 v595 v665 v679 v684 v689 → v843 = k1_pay467 v554 v585 v590 v595 v665 v679 v684 v689 → v844 = k1_pay468 v554 v585 v590 v595 v665 v679 v684 v689 → v845 = k1_pay469 v554 v556 v585 v587 v590 v592 v595 v597 v665 v667 v679 v681 v684 v686 v689 v691 →
      R ⊢ Q ⟨v786, v787, v816, v819, v821, v826, v829, v831, v833, v834, v835, v836, v838, v839, v840, v841, v842, v843, v844, v845⟩) :
    R ⊢ wp frame (wpE (defs₀ (F := F)) 𝒱₀ (V d (cV i) (jV i)) none) Set.univ (k1_part18 i arg2 harg2 arg3 harg3 arg4 harg4 bS h5 bI h6 bW h7 v13_r0 v13_r1 v13_r2 v554 v556 v570 v572 v584 v585 v586 v587 v589 v590 v591 v592 v594 v595 v596 v597 v649 v651 v665 v667 v679 v680 v681 v682 v684 v685 v686 v687 v689 v690 v691 v692 v757 v772 v783) Q := by
  rw [k1_part18_eq_skeleton]; unfold k1_part18_skel; simp only [wp_bind]
  exact wp_done d i (hQ _ _ _ _ _ _ _ _ _ _ _ _ _ _ _ _ _ _ _ _ rfl rfl rfl rfl rfl rfl rfl rfl rfl rfl rfl rfl rfl rfl rfl rfl rfl rfl rfl rfl)

theorem part19_wp {R : sProp 𝕄} (v744 : Vec F S16 .f32) (v746 : IVec S16 32) (v760 : Vec F S16 .f32) (v762 : IVec S16 32) (v774 : Vec F S16 .f32) (v775 : Vec F S16 .f32) (v776 : IVec S16 32) (v777 : IVec S16 32) (v779 : Vec F S16 .f32) (v780 : Vec F S16 .f32) (v781 : IVec S16 32) (v782 : IVec S16 32) (v784 : Vec F S16 .f32) (v785 : Vec F S16 .f32) (v786 : IVec S16 32) (v787 : IVec S16 32) (v816 : IVec S16 32) (v819 : Vec F S16 .f32) (v821 : IVec S16 32) (v826 : IVec S16 32) (v829 : Vec F S16 .f32) (v831 : IVec S16 32) (v833 : Vec F S16 .f32) (v834 : Vec F S16 .f32) (v835 : IVec S16 32) (v836 : IVec S16 32) (v838 : Vec F S16 .f32) (v839 : Vec F S16 .f32) (v840 : IVec S16 32) (v841 : IVec S16 32) (v842 : IVec S16 1) (v843 : Vec F S16 .f32) (v844 : Vec F S16 .f32) (v845 : IVec S16 32)
    {Q : (Σ' (v879 : Vec F S16 .f32) (v880 : IVec S16 32) (v882 : Vec F S16 .f32) (v883 : IVec S16 32) (v891 : Vec F S16 .f32) (v892 : IVec S16 32) (v894 : Vec F S16 .f32) (v895 : IVec S16 32) (v897 : Vec F S16 .f32) (v898 : Vec F S16 .f32) (v899 : IVec S16 32) (v900 : IVec S16 32) (v902 : Vec F S16 .f32) (v903 : Vec F S16 .f32) (v904 : IVec S16 32), IVec S16 32) → sProp 𝕄}
    (hQ : ∀ (v879 : Vec F S16 .f32) (v880 : IVec S16 32) (v882 : Vec F S16 .f32) (v883 : IVec S16 32) (v891 : Vec F S16 .f32) (v892 : IVec S16 32) (v894 : Vec F S16 .f32) (v895 : IVec S16 32) (v897 : Vec F S16 .f32) (v898 : Vec F S16 .f32) (v899 : IVec S16 32) (v900 : IVec S16 32) (v902 : Vec F S16 .f32) (v903 : Vec F S16 .f32) (v904 : IVec S16 32) (v905 : IVec S16 32),
      v879 = k1_pay495 v784 v834 v839 → v880 = k1_pay496 v784 v786 v834 v836 v839 v841 → v882 = k1_pay498 v780 v834 v839 → v883 = k1_pay499 v780 v782 v834 v836 v839 v841 → v891 = k1_pay507 v774 v819 v829 v844 → v892 = k1_pay508 v774 v776 v816 v819 v821 v826 v829 v831 v842 v844 → v894 = k1_pay510 v744 v819 v829 v844 → v895 = k1_pay511 v744 v746 v816 v819 v821 v826 v829 v831 v842 v844 → v897 = k1_pay513 v760 v779 v819 v829 v833 v838 v843 → v898 = k1_pay514 v760 v779 v819 v829 v833 v838 v843 → v899 = k1_pay515 v760 v762 v779 v781 v819 v821 v829 v831 v833 v835 v838 v840 v843 v845 → v900 = k1_pay516 v760 v762 v779 v781 v819 v821 v829 v831 v833 v835 v838 v840 v843 v845 → v902 = k1_pay518 v775 v785 v819 v829 v833 v838 v843 → v903 = k1_pay519 v775 v785 v819 v829 v833 v838 v843 → v904 = k1_pay520 v775 v777 v785 v787 v819 v821 v829 v831 v833 v835 v838 v840 v843 v845 → v905 = k1_pay521 v775 v777 v785 v787 v819 v821 v829 v831 v833 v835 v838 v840 v843 v845 →
      R ⊢ Q ⟨v879, v880, v882, v883, v891, v892, v894, v895, v897, v898, v899, v900, v902, v903, v904, v905⟩) :
    R ⊢ wp frame (wpE (defs₀ (F := F)) 𝒱₀ (V d (cV i) (jV i)) none) Set.univ (k1_part19 i arg2 harg2 arg3 harg3 arg4 harg4 bS h5 bI h6 bW h7 v13_r0 v13_r1 v13_r2 v744 v746 v760 v762 v774 v775 v776 v777 v779 v780 v781 v782 v784 v785 v786 v787 v816 v819 v821 v826 v829 v831 v833 v834 v835 v836 v838 v839 v840 v841 v842 v843 v844 v845) Q := by
  rw [k1_part19_eq_skeleton]; unfold k1_part19_skel; simp only [wp_bind]
  exact wp_done d i (hQ _ _ _ _ _ _ _ _ _ _ _ _ _ _ _ _ rfl rfl rfl rfl rfl rfl rfl rfl rfl rfl rfl rfl rfl rfl rfl rfl)

theorem part20_wp {R : sProp 𝕄} (v879 : Vec F S16 .f32) (v880 : IVec S16 32) (v882 : Vec F S16 .f32) (v883 : IVec S16 32) (v891 : Vec F S16 .f32) (v892 : IVec S16 32) (v894 : Vec F S16 .f32) (v895 : IVec S16 32) (v897 : Vec F S16 .f32) (v898 : Vec F S16 .f32) (v899 : IVec S16 32) (v900 : IVec S16 32) (v902 : Vec F S16 .f32) (v903 : Vec F S16 .f32) (v904 : IVec S16 32) (v905 : IVec S16 32)
    {Q : (Σ' (v937 : Vec F S16 .f32) (v938 : Vec F S16 .f32) (v939 : IVec S16 32) (v940 : IVec S16 32) (v942 : Vec F S16 .f32) (v943 : Vec F S16 .f32) (v944 : IVec S16 32) (v945 : IVec S16 32) (v947 : Vec F S16 .f32) (v948 : Vec F S16 .f32) (v949 : IVec S16 32) (v950 : IVec S16 32) (v952 : Vec F S16 .f32) (v953 : Vec F S16 .f32) (v954 : IVec S16 32) (v955 : IVec S16 32), FVec F S16 .f32) → sProp 𝕄}
    (hQ : ∀ (v937 : Vec F S16 .f32) (v938 : Vec F S16 .f32) (v939 : IVec S16 32) (v940 : IVec S16 32) (v942 : Vec F S16 .f32) (v943 : Vec F S16 .f32) (v944 : IVec S16 32) (v945 : IVec S16 32) (v947 : Vec F S16 .f32) (v948 : Vec F S16 .f32) (v949 : IVec S16 32) (v950 : IVec S16 32) (v952 : Vec F S16 .f32) (v953 : Vec F S16 .f32) (v954 : IVec S16 32) (v955 : IVec S16 32) (v964 : FVec F S16 .f32),
      v937 = k1_pay553 v879 v882 v891 v894 v897 v902 → v938 = k1_pay554 v879 v882 v891 v894 v897 v902 → v939 = k1_pay555 v879 v880 v882 v883 v891 v892 v894 v895 v897 v899 v902 v904 → v940 = k1_pay556 v879 v880 v882 v883 v891 v892 v894 v895 v897 v899 v902 v904 → v942 = k1_pay558 v879 v882 v891 v894 v897 v902 → v943 = k1_pay559 v879 v882 v891 v894 v897 v902 → v944 = k1_pay560 v879 v880 v882 v883 v891 v892 v894 v895 v897 v899 v902 v904 → v945 = k1_pay561 v879 v880 v882 v883 v891 v892 v894 v895 v897 v899 v902 v904 → v947 = k1_pay563 v879 v882 v891 v894 v898 v903 → v948 = k1_pay564 v879 v882 v891 v894 v898 v903 → v949 = k1_pay565 v879 v880 v882 v883 v891 v892 v894 v895 v898 v900 v903 v905 → v950 = k1_pay566 v879 v880 v882 v883 v891 v892 v894 v895 v898 v900 v903 v905 → v952 = k1_pay568 v879 v882 v891 v894 v898 v903 → v953 = k1_pay569 v879 v882 v891 v894 v898 v903 → v954 = k1_pay570 v879 v880 v882 v883 v891 v892 v894 v895 v898 v900 v903 v905 → v955 = k1_pay571 v879 v880 v882 v883 v891 v892 v894 v895 v898 v900 v903 v905 → v964 = k1_pay572 v879 v882 v891 v894 v897 v898 v902 v903 →
      R ⊢ Q ⟨v937, v938, v939, v940, v942, v943, v944, v945, v947, v948, v949, v950, v952, v953, v954, v955, v964⟩) :
    R ⊢ wp frame (wpE (defs₀ (F := F)) 𝒱₀ (V d (cV i) (jV i)) none) Set.univ (k1_part20 i arg2 harg2 arg3 harg3 arg4 harg4 bS h5 bI h6 bW h7 v13_r0 v13_r1 v13_r2 v879 v880 v882 v883 v891 v892 v894 v895 v897 v898 v899 v900 v902 v903 v904 v905) Q := by
  rw [k1_part20_eq_skeleton]; unfold k1_part20_skel; simp only [wp_bind]
  exact wp_done d i (hQ _ _ _ _ _ _ _ _ _ _ _ _ _ _ _ _ _ rfl rfl rfl rfl rfl rfl rfl rfl rfl rfl rfl rfl rfl rfl rfl rfl rfl)

theorem part21_wp {R : sProp 𝕄} {fi : S8x512.Idx → BitVec 32} {fw : S8x512.Idx → F .f32} (t : Fin k1_t1_loop.trips) (v14 : BitVec 32) (v937 : Vec F S16 .f32) (v938 : Vec F S16 .f32) (v939 : IVec S16 32) (v940 : IVec S16 32) (v942 : Vec F S16 .f32) (v943 : Vec F S16 .f32) (v944 : IVec S16 32) (v945 : IVec S16 32) (v964 : FVec F S16 .f32)
    {Q : (FVec F S16 .f32) → sProp 𝕄}
    (hQ : ∀ (v996 : FVec F S16 .f32),
      v996 = (k1_pay576 v943 v964) →
      iprop(R ∗ ptI d i (putRow (putRow (putRow (putRow fi 0 t v939) 1 t v940) 2 t v944) 3 t v945) ∗ ptW d i (putRow (putRow (putRow fw 0 t (k1_pay573 v937 v964)) 1 t (k1_pay574 v938 v964)) 2 t (k1_pay575 v942 v964))) ⊢ Q v996) :
    iprop(R ∗ ptI d i fi ∗ ptW d i fw) ⊢ wp frame (wpE (defs₀ (F := F)) 𝒱₀ (V d (cV i) (jV i)) none) Set.univ (k1_part21 i arg2 harg2 arg3 harg3 arg4 harg4 bS h5 bI h6 bW h7 v13_r0 v13_r1 v13_r2 t v14 v937 v938 v939 v940 v942 v943 v944 v945 v964) Q := by
  rw [k1_part21_eq_skeleton]; unfold k1_part21_skel; simp only [wp_bind]
  refine wp_peekI d i fun _ => ?_
  refine wp_putI d i 0 t (off66_eq t) ?_
  refine wp_peekW d i fun _ => ?_
  refine wp_putW d i 0 t (off66_eq t) ?_
  refine wp_peekI d i fun _ => ?_
  refine wp_putI d i 1 t (off67_eq t) ?_
  refine wp_peekW d i fun _ => ?_
  refine wp_putW d i 1 t (off67_eq t) ?_
  refine wp_peekI d i fun _ => ?_
  refine wp_putI d i 2 t (off68_eq t) ?_
  refine wp_peekW d i fun _ => ?_
  refine wp_putW d i 2 t (off68_eq t) ?_
  refine wp_peekI d i fun _ => ?_
  refine wp_putI d i 3 t (off69_eq t) ?_
  exact wp_done d i (hQ _ rfl)

theorem part22_wp {R : sProp 𝕄} {fi : S8x512.Idx → BitVec 32} {fw : S8x512.Idx → F .f32} (t : Fin k1_t1_loop.trips) (v14 : BitVec 32) (v947 : Vec F S16 .f32) (v948 : Vec F S16 .f32) (v949 : IVec S16 32) (v950 : IVec S16 32) (v952 : Vec F S16 .f32) (v954 : IVec S16 32) (v964 : FVec F S16 .f32) (v996 : FVec F S16 .f32)
    {Q : (BitVec 32) → sProp 𝕄}
    (hQ : ∀ (c16_i32_135 : BitVec 32),
      c16_i32_135 = 16#32 →
      iprop(R ∗ ptI d i (putRow (putRow (putRow fi 4 t v949) 5 t v950) 6 t v954) ∗ ptW d i (putRow (putRow (putRow (putRow fw 3 t v996) 4 t (k1_pay577 v947 v964)) 5 t (k1_pay578 v948 v964)) 6 t (k1_pay579 v952 v964))) ⊢ Q c16_i32_135) :
    iprop(R ∗ ptI d i fi ∗ ptW d i fw) ⊢ wp frame (wpE (defs₀ (F := F)) 𝒱₀ (V d (cV i) (jV i)) none) Set.univ (k1_part22 i arg2 harg2 arg3 harg3 arg4 harg4 bS h5 bI h6 bW h7 v13_r0 v13_r1 v13_r2 t v14 v947 v948 v949 v950 v952 v954 v964 v996) Q := by
  rw [k1_part22_eq_skeleton]; unfold k1_part22_skel; simp only [wp_bind]
  refine wp_peekW d i fun _ => ?_
  refine wp_putW d i 3 t (off69_eq t) ?_
  refine wp_peekI d i fun _ => ?_
  refine wp_putI d i 4 t (off70_eq t) ?_
  refine wp_peekW d i fun _ => ?_
  refine wp_putW d i 4 t (off70_eq t) ?_
  refine wp_peekI d i fun _ => ?_
  refine wp_putI d i 5 t (off71_eq t) ?_
  refine wp_peekW d i fun _ => ?_
  refine wp_putW d i 5 t (off71_eq t) ?_
  refine wp_peekI d i fun _ => ?_
  refine wp_putI d i 6 t (off72_eq t) ?_
  refine wp_peekW d i fun _ => ?_
  refine wp_putW d i 6 t (off72_eq t) ?_
  exact wp_done d i (hQ _ rfl)

end Parts

end Cert.Route

end
-- ==== Proof.Body.lean ====
/-
  One trip of the tile's loop, whole: it leaves the scores as they were and writes, in its 16 columns of the two outputs' scratch, what
  the routing computes of the scores' columns.
-/
module

public import proofs.«01_k».proof.Proof.Parts

@[expose] public section

noncomputable section

namespace Cert.Route

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

variable [FloatOps F]

/-! ## The values -/

theorem maxima (f : S64x512.Idx → F .f32) (t : Fin k1_t1_loop.trips) {v46 : FVec F S16 .f32} {v56 : FVec F S16 .f32} {v85 : FVec F S16 .f32} {v95 : FVec F S16 .f32} {v119 : FVec F S16 .f32} {v123_ld : Vec F S1x16 .f32} {v134 : FVec F S16 .f32} {v158 : FVec F S16 .f32} {v173 : FVec F S16 .f32} {v197 : FVec F S16 .f32} {v212 : FVec F S16 .f32} {v231 : FVec F S16 .f32} {v251 : FVec F S16 .f32} {v270 : FVec F S16 .f32} {v290 : FVec F S16 .f32} {v304 : FVec F S16 .f32} {v308 : Vec F S16 .f32}
    (h46 : v46 = k1_pay2 (rowVec f 0 t) (rowVec f 1 t) (rowVec f 2 t) (rowVec f 3 t) (rowVec f 4 t) (rowVec f 5 t))
    (h56 : v56 = k1_pay3 v46 (rowVec f 6 t) (rowVec f 7 t))
    (h85 : v85 = k1_pay4 (rowVec f 8 t) (rowVec f 9 t) (rowVec f 10 t) (rowVec f 11 t) (rowVec f 12 t) (rowVec f 13 t))
    (h95 : v95 = k1_pay5 v85 (rowVec f 14 t) (rowVec f 15 t))
    (h119 : v119 = k1_pay6 (rowVec f 16 t) (rowVec f 17 t) (rowVec f 18 t) (rowVec f 19 t) (rowVec f 20 t))
    (h123_ld : v123_ld = (rowVec f 21 t))
    (h134 : v134 = k1_pay7 v119 v123_ld (rowVec f 22 t) (rowVec f 23 t))
    (h158 : v158 = k1_pay8 (rowVec f 24 t) (rowVec f 25 t) (rowVec f 26 t) (rowVec f 27 t) (rowVec f 28 t))
    (h173 : v173 = k1_pay9 v158 (rowVec f 29 t) (rowVec f 30 t) (rowVec f 31 t))
    (h197 : v197 = k1_pay10 (rowVec f 32 t) (rowVec f 33 t) (rowVec f 34 t) (rowVec f 35 t) (rowVec f 36 t))
    (h212 : v212 = k1_pay11 v197 (rowVec f 37 t) (rowVec f 38 t) (rowVec f 39 t))
    (h231 : v231 = k1_pay12 (rowVec f 40 t) (rowVec f 41 t) (rowVec f 42 t) (rowVec f 43 t))
    (h251 : v251 = k1_pay13 v231 (rowVec f 44 t) (rowVec f 45 t) (rowVec f 46 t) (rowVec f 47 t))
    (h270 : v270 = k1_pay14 (rowVec f 48 t) (rowVec f 49 t) (rowVec f 50 t) (rowVec f 51 t))
    (h290 : v290 = k1_pay15 v270 (rowVec f 52 t) (rowVec f 53 t) (rowVec f 54 t) (rowVec f 55 t))
    (h304 : v304 = k1_pay16 (rowVec f 56 t) (rowVec f 57 t) (rowVec f 58 t))
    (h308 : v308 = k1_pay17 (rowVec f 59 t))
    (x : S16.Idx) : oct v56 v95 v134 v173 v212 v251 v290 (k1_pay18 v304 v308 (rowVec f 60 t) (rowVec f 61 t) (rowVec f 62 t) (rowVec f 63 t)) k1_pay580 k1_pay581 k1_pay582 k1_pay583 k1_pay584 k1_pay585 k1_pay586 k1_pay587 x =
      fun g => (max8 fun o => column f (lane t (x 0)) (expert g o), BitVec.ofNat 32 g.val) := by
  subst h308 h304 h290 h270 h251 h231 h212 h197 h173 h158 h134 h123_ld h119 h95 h85 h56 h46
  funext g
  match g with
  | 0 => exact Prod.ext (by
      simp only [oct, k1_pay2, k1_pay3, maximumf, row_uncast, rowVec, max8, column, expert]; rfl) rfl
  | 1 => exact Prod.ext (by
      simp only [oct, k1_pay4, k1_pay5, maximumf, row_uncast, rowVec, max8, column, expert]; rfl) rfl
  | 2 => exact Prod.ext (by
      simp only [oct, k1_pay6, k1_pay7, maximumf, row_uncast, rowVec, max8, column, expert]; rfl) rfl
  | 3 => exact Prod.ext (by
      simp only [oct, k1_pay8, k1_pay9, maximumf, row_uncast, rowVec, max8, column, expert]; rfl) rfl
  | 4 => exact Prod.ext (by
      simp only [oct, k1_pay10, k1_pay11, maximumf, row_uncast, rowVec, max8, column, expert]; rfl) rfl
  | 5 => exact Prod.ext (by
      simp only [oct, k1_pay12, k1_pay13, maximumf, row_uncast, rowVec, max8, column, expert]; rfl) rfl
  | 6 => exact Prod.ext (by
      simp only [oct, k1_pay14, k1_pay15, maximumf, row_uncast, rowVec, max8, column, expert]; rfl) rfl
  | 7 => exact Prod.ext (by
      simp only [oct, k1_pay16, k1_pay17, k1_pay18, maximumf, row_uncast, rowVec, max8, column, expert]; rfl) rfl

theorem ranked_lt (k : Fin 64 → F .f32) (s : Fin 8) : (ranked k s).2.toNat < 8 := by
  obtain ⟨σ, h⟩ := sort8_perm geF fun g : Fin 8 => (max8 fun o => k (expert g o), BitVec.ofNat 32 g.val)
  unfold ranked
  rw [h]
  show (BitVec.ofNat 32 (σ s).val).toNat < 8
  rw [BitVec.toNat_ofNat]
  have := (σ s).isLt
  omega

theorem eidW_lt {g : BitVec 32} (hg : g.toNat < 8) (o : Fin 8) : (eidW g o).toNat < 64 := by
  have := o.isLt
  unfold eidW
  rw [BitVec.toNat_add, BitVec.toNat_mul, BitVec.toNat_ofNat]
  show (g.toNat * 8 % 2 ^ 32 + o.val % 2 ^ 32) % 2 ^ 32 < 64
  omega

theorem octet_eq (f : S64x512.Idx → F .f32) (t : Fin k1_t1_loop.trips) (x : S16.Idx) (s : Fin 8) {g : BitVec 32}
    (hg : (ranked (column f (lane t (x 0))) s).2 = g) {e0 e1 e2 e3 e4 e5 e6 e7 : IVec S16 32}
    (h0 : e0 x = eidW g 0) (h1 : e1 x = eidW g 1) (h2 : e2 x = eidW g 2) (h3 : e3 x = eidW g 3)
    (h4 : e4 x = eidW g 4) (h5 : e5 x = eidW g 5) (h6 : e6 x = eidW g 6) (h7 : e7 x = eidW g 7) :
    sort8 geF (oct (pick f t e0) (pick f t e1) (pick f t e2) (pick f t e3) (pick f t e4) (pick f t e5) (pick f t e6) (pick f t e7)
      e0 e1 e2 e3 e4 e5 e6 e7 x) = octet (column f (lane t (x 0))) s := by
  unfold octet
  congr 1
  funext o
  rw [hg]
  match o with
  | 0 => exact Prod.ext (by show f (ix2 (Fin.ofNat 64 (e0 x).toNat) _) = f (ix2 _ _); rw [h0]) h0
  | 1 => exact Prod.ext (by show f (ix2 (Fin.ofNat 64 (e1 x).toNat) _) = f (ix2 _ _); rw [h1]) h1
  | 2 => exact Prod.ext (by show f (ix2 (Fin.ofNat 64 (e2 x).toNat) _) = f (ix2 _ _); rw [h2]) h2
  | 3 => exact Prod.ext (by show f (ix2 (Fin.ofNat 64 (e3 x).toNat) _) = f (ix2 _ _); rw [h3]) h3
  | 4 => exact Prod.ext (by show f (ix2 (Fin.ofNat 64 (e4 x).toNat) _) = f (ix2 _ _); rw [h4]) h4
  | 5 => exact Prod.ext (by show f (ix2 (Fin.ofNat 64 (e5 x).toNat) _) = f (ix2 _ _); rw [h5]) h5
  | 6 => exact Prod.ext (by show f (ix2 (Fin.ofNat 64 (e6 x).toNat) _) = f (ix2 _ _); rw [h6]) h6
  | 7 => exact Prod.ext (by show f (ix2 (Fin.ofNat 64 (e7 x).toNat) _) = f (ix2 _ _); rw [h7]) h7

theorem routeW_eq {k : Fin 64 → F .f32} {v0 v1 v2 v3 v4 v5 v6 v7 : FVec F S16 .f32} {i0 i1 i2 i3 i4 i5 i6 i7 : IVec S16 32} {s : FVec F S16 .f32} {x : S16.Idx}
    (hw : winners k = oct v0 v1 v2 v3 v4 v5 v6 v7 i0 i1 i2 i3 i4 i5 i6 i7 x)
    (hs : s x = total8 ![v0 x, v1 x, v2 x, v3 x, v4 x, v5 x, v6 x, v7 x]) (j : Fin 8) :
    routeW k j = FloatOps.divf (oct v0 v1 v2 v3 v4 v5 v6 v7 i0 i1 i2 i3 i4 i5 i6 i7 x j).1 (s x) := by
  unfold routeW
  rw [hw, hs]
  congr 2
  funext i
  match i with
  | 0 => rfl
  | 1 => rfl
  | 2 => rfl
  | 3 => rfl
  | 4 => rfl
  | 5 => rfl
  | 6 => rfl
  | 7 => rfl

/-- The word of a trip's first column. -/
theorem iv_toNat : ∀ t : Fin k1_t1_loop.trips,
    (Scalar.muli (Scalar.addi 0#32 (Scalar.muli (Scf.iv 0#32 1#32 t) 1#32)) 16#32).toNat = 16 * t.val := by decide

/-- The columns the indexed loads read: lane by lane, the trip's own. -/
theorem lane_of (t : Fin k1_t1_loop.trips) (x : S16.Idx) :
    (k1_pay1 (iota .scVector S16 32 [0] iota_S16_d0_w32_scVector) 0#32 1#32 t x).toNat = (lane t (x 0)).val := by
  have h : t.val < 32 := t.isLt
  have hx : (x 0).val < 16 := (x 0).isLt
  show ((Scalar.muli (Scalar.addi 0#32 (Scalar.muli (Scf.iv 0#32 1#32 t) 1#32)) 16#32)
    + BitVec.ofNat 32 (0 * S16.size 0 + (x 0).val)).toNat = 16 * t.val + (x 0).val
  rw [BitVec.toNat_add, BitVec.toNat_ofNat, iv_toNat]
  omega

/-! ## The trip -/

/-- What a trip writes in row `j` of the indices; of the weights. -/
def tripI (f : S64x512.Idx → F .f32) (t : Fin k1_t1_loop.trips) (j : Fin 8) : IVec S16 32 := fun x => routeI (column f (lane t (x 0))) j
def tripW (f : S64x512.Idx → F .f32) (t : Fin k1_t1_loop.trips) (j : Fin 8) : FVec F S16 .f32 := fun x => routeW (column f (lane t (x 0))) j

theorem body_wp (d : Dev nD) (i : grid1.Coords) {arg2 : Memref sig .scVector .hbm S64x16384 .f32} {harg2 : arg2.IsWhole}
  {arg3 : Memref sig .scVector .hbm S8x16384 .i32} {harg3 : arg3.IsWhole} {arg4 : Memref sig .scVector .hbm S8x16384 .f32} {harg4 : arg4.IsWhole}
  {h5 : (bS).IsWhole} {h6 : (bI).IsWhole} {h7 : (bW).IsWhole} {v13_r0 v13_r1 v13_r2 : DmaSems sig S_}
  {R : sProp 𝕄} {f : S64x512.Idx → F .f32} {fi : S8x512.Idx → BitVec 32} {fw : S8x512.Idx → F .f32} (t : Fin k1_t1_loop.trips)
    {Q : Unit → sProp 𝕄}
    (hQ : iprop(R ∗ ptS d i f ∗ ptI d i (putRow (putRow (putRow (putRow (putRow (putRow (putRow (putRow fi 0 t (tripI f t 0)) 1 t (tripI f t 1)) 2 t (tripI f t 2)) 3 t (tripI f t 3)) 4 t (tripI f t 4)) 5 t (tripI f t 5)) 6 t (tripI f t 6)) 7 t (tripI f t 7)) ∗ ptW d i (putRow (putRow (putRow (putRow (putRow (putRow (putRow (putRow fw 0 t (tripW f t 0)) 1 t (tripW f t 1)) 2 t (tripW f t 2)) 3 t (tripW f t 3)) 4 t (tripW f t 4)) 5 t (tripW f t 5)) 6 t (tripW f t 6)) 7 t (tripW f t 7))) ⊢ Q ⟨⟩) :
    iprop(R ∗ ptS d i f ∗ ptI d i fi ∗ ptW d i fw) ⊢ wp frame (wpE (defs₀ (F := F)) 𝒱₀ (V d (cV i) (jV i)) none) Set.univ
      (k1_t1_body i arg2 harg2 arg3 harg3 arg4 harg4 bS h5 bI h6 bW h7 v13_r0 v13_r1 v13_r2 (iota .scVector S16 32 [0] iota_S16_d0_w32_scVector) t ⟨⟩) Q := by
  refine (show iprop(R ∗ ptS d i f ∗ ptI d i fi ∗ ptW d i fw) ⊢ iprop((R ∗ ptI d i fi ∗ ptW d i fw) ∗ ptS d i f) by
    iintro ⟨HR, HS, HI, HW⟩; iframe).trans ?_
  unfold k1_t1_body
  simp only [wp_bind]
  refine part1_wp d i _ _ _ t (fun v14 v17 v46 v47 h14 h17 h46 h47 => ?_)
  simp only [wp_bind]
  refine part2_wp d i t _ _ _ (fun v56 v85 c16_i32_28 h56 h85 h_c16_i32_28 => ?_)
  simp only [wp_bind]
  refine part3_wp d i t _ _ _ (fun v95 v119 v123_ld h95 h119 h123_ld => ?_)
  simp only [wp_bind]
  refine part4_wp d i t _ _ _ (fun v134 v158 v159 c29_i32 h134 h158 h159 h_c29_i32 => ?_)
  simp only [wp_bind]
  refine part5_wp d i t _ _ _ _ (fun v173 v197 h173 h197 => ?_)
  simp only [wp_bind]
  refine part6_wp d i t _ _ (fun v212 v231 h212 h231 => ?_)
  simp only [wp_bind]
  refine part7_wp d i t _ _ (fun v251 v270 v271 h251 h270 h271 => ?_)
  simp only [wp_bind]
  refine part8_wp d i t _ _ _ (fun v290 v304 v308 h290 h304 h308 => ?_)
  simp only [wp_bind]
  refine part9_wp d i _ _ _ _ _ _ _ _ t _ _ _ _ _ _ _ _ _ _ (fun v332 v334 v337 v339 v341 v342 v343 v344 v346 v347 v348 v349 v351 v352 v353 v354 v355 v356 h332 h334 h337 h339 h341 h342 h343 h344 h346 h347 h348 h349 h351 h352 h353 h354 h355 h356 => ?_)
  simp only [wp_bind]
  refine part10_wp d i _ _ _ _ _ _ _ _ _ _ _ _ _ _ _ _ _ _ (fun v383 v392 v394 v402 v404 v406 v407 v408 v409 v413 v414 v415 h383 h392 h394 h402 h404 h406 h407 h408 h409 h413 h414 h415 => ?_)
  have hk : ∀ x : S16.Idx, oct v56 v95 v134 v173 v212 v251 v290 (k1_pay18 v304 v308 (rowVec f 60 t) (rowVec f 61 t) (rowVec f 62 t) (rowVec f 63 t)) k1_pay580 k1_pay581 k1_pay582 k1_pay583 k1_pay584 k1_pay585 k1_pay586 k1_pay587 x = _ :=
    fun x => maxima f t h46 h56 h85 h95 h119 h123_ld h134 h158 h173 h197 h212 h231 h251 h270 h290 h304 h308 x
  have hg : ∀ x : S16.Idx, (ranked (column f (lane t (x 0))) 0).2 = v383 x ∧ (ranked (column f (lane t (x 0))) 1).2 = v413 x ∧ (ranked (column f (lane t (x 0))) 2).2 = v414 x := fun x => by
    have h := groups_sorted h332 h334 h337 h339 h341 h342 h343 h344 h346 h347 h348 h349 h351 h352 h353 h354 h355 h356 h383 h392 h394 h402 h404 h406 h407 h408 h409 h413 h414 x
    rw [hk x] at h
    exact h
  have b0 : ∀ x : S16.Idx, (v383 x).toNat < 8 := fun x => (hg x).1 ▸ ranked_lt _ _
  have b1 : ∀ x : S16.Idx, (v413 x).toNat < 8 := fun x => (hg x).2.1 ▸ ranked_lt _ _
  have b2 : ∀ x : S16.Idx, (v414 x).toNat < 8 := fun x => (hg x).2.2 ▸ ranked_lt _ _
  have hl : ∀ x : S16.Idx, (v17 x).toNat = (lane t (x 0)).val := fun x => h17 ▸ lane_of t x
  simp only [wp_bind]
  refine part11_wp d i t _ _ _ _ _ _ _ _ _ _ _ _ hl (fun x => ?_) (fun x => ?_) (fun x => ?_) (fun x => ?_) (fun x => ?_) (fun x => ?_) (fun x => ?_) (fun x => ?_) (fun x => ?_) (fun v428 v429 v431 v432 v434 v435 v437 v438 v440 v441 v443 v444 v446 v447 v449 v450 v452 v454 v455 c1_i32_91 h428 h429 h431 h432 h434 h435 h437 h438 h440 h441 h443 h444 h446 h447 h449 h450 h452 h454 h455 h_c1_i32_91 => ?_)
  · exact eidW_lt (b0 x) 0
  · exact eidW_lt (b0 x) 1
  · exact eidW_lt (b0 x) 2
  · exact eidW_lt (b0 x) 3
  · exact eidW_lt (b0 x) 4
  · exact eidW_lt (b0 x) 5
  · exact eidW_lt (b0 x) 6
  · exact eidW_lt (b0 x) 7
  · exact eidW_lt (b1 x) 0
  simp only [wp_bind]
  refine part12_wp d i t _ _ _ _ hl (fun x => ?_) (fun x => ?_) (fun x => ?_) (fun x => ?_) (fun x => ?_) (fun x => ?_) (fun x => ?_) (fun x => ?_) (fun x => ?_) (fun x => ?_) (fun x => ?_) (fun v457 v458 v460 v461 v463 v464 v466 v467 v469 v470 v472 v473 v475 v476 v478 v480 v481 v483 v484 v486 v487 v489 v490 v492 h457 h458 h460 h461 h463 h464 h466 h467 h469 h470 h472 h473 h475 h476 h478 h480 h481 h483 h484 h486 h487 h489 h490 h492 => ?_)
  · subst h452 h_c1_i32_91; exact eidW_lt (b1 x) 1
  · subst h452; exact eidW_lt (b1 x) 2
  · subst h452; exact eidW_lt (b1 x) 3
  · subst h452; exact eidW_lt (b1 x) 4
  · subst h452; exact eidW_lt (b1 x) 5
  · subst h452; exact eidW_lt (b1 x) 6
  · subst h452; exact eidW_lt (b1 x) 7
  · exact eidW_lt (b2 x) 0
  · exact eidW_lt (b2 x) 1
  · exact eidW_lt (b2 x) 2
  · exact eidW_lt (b2 x) 3
  simp only [wp_bind]
  refine part13_wp d i t _ _ _ _ _ _ _ _ _ _ _ _ _ _ _ _ _ _ _ hl (fun x => ?_) (fun x => ?_) (fun x => ?_) (fun x => ?_) (fun v493 v495 v496 v498 v499 v501 v502 v524 v526 v527 v530 v531 v532 v534 v535 v536 v537 v539 v540 v541 v542 v543 v544 v545 h493 h495 h496 h498 h499 h501 h502 h524 h526 h527 h530 h531 h532 h534 h535 h536 h537 h539 h540 h541 h542 h543 h544 h545 => ?_)
  · subst h492; exact eidW_lt (b2 x) 4
  · subst h478; exact eidW_lt (b2 x) 5
  · subst h478; exact eidW_lt (b2 x) 6
  · subst h478; exact eidW_lt (b2 x) 7
  simp only [wp_bind]
  refine part14_wp d i _ _ _ _ _ _ _ _ _ _ _ _ _ _ _ _ _ _ _ _ _ _ _ (fun v554 v556 v570 v572 v584 v585 v586 v587 v589 v590 v591 v592 v594 v595 v596 v597 v599 v600 v601 v602 v603 v604 v605 h554 h556 h570 h572 h584 h585 h586 h587 h589 h590 h591 h592 h594 h595 h596 h597 h599 h600 h601 h602 h603 h604 h605 => ?_)
  simp only [wp_bind]
  refine part15_wp d i _ _ _ _ _ _ _ _ _ _ _ _ _ _ _ _ _ (fun v627 v637 v649 v650 v651 v652 v654 v655 v656 v657 v659 v660 v661 v662 v663 v664 v665 h627 h637 h649 h650 h651 h652 h654 h655 h656 h657 h659 h660 h661 h662 h663 h664 h665 => ?_)
  simp only [wp_bind]
  refine part16_wp d i _ _ _ _ _ _ _ _ _ _ _ _ _ _ _ _ _ _ _ _ _ _ _ _ _ _ _ _ _ _ (fun v667 v679 v680 v681 v682 v684 v685 v686 v687 v689 v690 v691 v692 v705 v706 v707 v710 v711 v712 v714 v715 v716 v717 v719 v720 v721 v722 v723 v724 v725 h667 h679 h680 h681 h682 h684 h685 h686 h687 h689 h690 h691 h692 h705 h706 h707 h710 h711 h712 h714 h715 h716 h717 h719 h720 h721 h722 h723 h724 h725 => ?_)
  simp only [wp_bind]
  refine part17_wp d i _ _ _ _ _ _ _ _ _ _ _ _ _ _ _ _ _ (fun v744 v746 v757 v760 v762 v772 v774 v775 v776 v777 v779 v780 v781 v782 v783 v784 v785 h744 h746 h757 h760 h762 h772 h774 h775 h776 h777 h779 h780 h781 h782 h783 h784 h785 => ?_)
  simp only [wp_bind]
  refine part18_wp d i _ _ _ _ _ _ _ _ _ _ _ _ _ _ _ _ _ _ _ _ _ _ _ _ _ _ _ _ _ _ _ _ _ _ _ (fun v786 v787 v816 v819 v821 v826 v829 v831 v833 v834 v835 v836 v838 v839 v840 v841 v842 v843 v844 v845 h786 h787 h816 h819 h821 h826 h829 h831 h833 h834 h835 h836 h838 h839 h840 h841 h842 h843 h844 h845 => ?_)
  simp only [wp_bind]
  refine part19_wp d i _ _ _ _ _ _ _ _ _ _ _ _ _ _ _ _ _ _ _ _ _ _ _ _ _ _ _ _ _ _ _ _ _ _ (fun v879 v880 v882 v883 v891 v892 v894 v895 v897 v898 v899 v900 v902 v903 v904 v905 h879 h880 h882 h883 h891 h892 h894 h895 h897 h898 h899 h900 h902 h903 h904 h905 => ?_)
  simp only [wp_bind]
  refine part20_wp d i _ _ _ _ _ _ _ _ _ _ _ _ _ _ _ _ (fun v937 v938 v939 v940 v942 v943 v944 v945 v947 v948 v949 v950 v952 v953 v954 v955 v964 h937 h938 h939 h940 h942 h943 h944 h945 h947 h948 h949 h950 h952 h953 h954 h955 h964 => ?_)
  have o0 : ∀ x : S16.Idx, sort8 geF (oct v429 v432 v435 v438 v441 v444 v447 v450 v428 v431 v434 v437 v440 v443 v446 v449 x) = octet (column f (lane t (x 0))) 0 := fun x => by
    rw [(show v429 = pick f t v428 by rw [h428]; exact h429), (show v432 = pick f t v431 by rw [h431]; exact h432), (show v435 = pick f t v434 by rw [h434]; exact h435), (show v438 = pick f t v437 by rw [h437]; exact h438), (show v441 = pick f t v440 by rw [h440]; exact h441), (show v444 = pick f t v443 by rw [h443]; exact h444), (show v447 = pick f t v446 by rw [h446]; exact h447), (show v450 = pick f t v449 by rw [h449]; exact h450)]
    exact octet_eq f t x 0 (hg x).1 (by rw [h428]; rfl) (by rw [h431]; rfl) (by rw [h434]; rfl) (by rw [h437]; rfl) (by rw [h440]; rfl) (by rw [h443]; rfl) (by rw [h446]; rfl) (by rw [h449]; rfl)
  have o1 : ∀ x : S16.Idx, sort8 geF (oct v455 v458 v461 v464 v467 v470 v473 v476 v454 v457 v460 v463 v466 v469 v472 v475 x) = octet (column f (lane t (x 0))) 1 := fun x => by
    rw [(show v455 = pick f t v454 by rw [h454]; exact h455), (show v458 = pick f t v457 by rw [h457]; exact h458), (show v461 = pick f t v460 by rw [h460]; exact h461), (show v464 = pick f t v463 by rw [h463]; exact h464), (show v467 = pick f t v466 by rw [h466]; exact h467), (show v470 = pick f t v469 by rw [h469]; exact h470), (show v473 = pick f t v472 by rw [h472]; exact h473), (show v476 = pick f t v475 by rw [h475]; exact h476)]
    exact octet_eq f t x 1 (hg x).2.1 (by rw [h454]; rfl) (by rw [h457, h452, h_c1_i32_91]; rfl) (by rw [h460, h452]; rfl) (by rw [h463, h452]; rfl) (by rw [h466, h452]; rfl) (by rw [h469, h452]; rfl) (by rw [h472, h452]; rfl) (by rw [h475, h452]; rfl)
  have o2 : ∀ x : S16.Idx, sort8 geF (oct v481 v484 v487 v490 v493 v496 v499 v502 v480 v483 v486 v489 v492 v495 v498 v501 x) = octet (column f (lane t (x 0))) 2 := fun x => by
    rw [(show v481 = pick f t v480 by rw [h480]; exact h481), (show v484 = pick f t v483 by rw [h483]; exact h484), (show v487 = pick f t v486 by rw [h486]; exact h487), (show v490 = pick f t v489 by rw [h489]; exact h490), (show v493 = pick f t v492 by exact h493), (show v496 = pick f t v495 by rw [h495]; exact h496), (show v499 = pick f t v498 by rw [h498]; exact h499), (show v502 = pick f t v501 by rw [h501]; exact h502)]
    exact octet_eq f t x 2 (hg x).2.2 (by rw [h480]; rfl) (by rw [h483]; rfl) (by rw [h486]; rfl) (by rw [h489]; rfl) (by rw [h492]; rfl) (by rw [h495, h478]; rfl) (by rw [h498, h478]; rfl) (by rw [h501, h478]; rfl)
  have hw : ∀ x : S16.Idx, winners (column f (lane t (x 0))) = oct v937 v938 v942 v943 v947 v948 v952 v953 v939 v940 v944 v945 v949 v950 v954 v955 x := fun x => by
    unfold winners
    rw [← o0 x, ← o1 x, ← o2 x, sorted_0 h524 h526 h527 h530 h531 h532 h534 h535 h536 h537 h539 h540 h541 h542 h543 h544 h545 h554 h556 h570 h572 h584 h585 h586 h587 h589 h590 h591 h592 h594 h595 h596 h597 x, sorted_1 h599 h600 h601 h602 h603 h604 h605 h627 h637 h649 h650 h651 h652 h654 h655 h656 h657 h659 h660 h661 h662 h663 h664 h665 h667 h679 h680 h681 h682 h684 h685 h686 h687 h689 h690 h691 h692 x, sorted_2 h705 h706 h707 h710 h711 h712 h714 h715 h716 h717 h719 h720 h721 h722 h723 h724 h725 h744 h746 h757 h760 h762 h772 h774 h775 h776 h777 h779 h780 h781 h782 h783 h784 h785 h786 h787 x,
      merged_0 h816 h819 h821 h826 h829 h831 h833 h834 h835 h836 h838 h839 h840 h841 h842 h843 h844 h845 x]
    exact merged_1 h879 h880 h882 h883 h891 h892 h894 h895 h897 h898 h899 h900 h902 h903 h904 h905 h937 h938 h939 h940 h942 h943 h944 h945 h947 h948 h949 h950 h952 h953 h954 h955 x
  have hs : ∀ x : S16.Idx, _ := fun x => total_eq h937 h938 h942 h943 h947 h948 h952 h953 h964 x
  have i0 : v939 = tripI f t 0 := funext fun x => by unfold tripI routeI; rw [hw x]; rfl
  have i1 : v940 = tripI f t 1 := funext fun x => by unfold tripI routeI; rw [hw x]; rfl
  have i2 : v944 = tripI f t 2 := funext fun x => by unfold tripI routeI; rw [hw x]; rfl
  have i3 : v945 = tripI f t 3 := funext fun x => by unfold tripI routeI; rw [hw x]; rfl
  have i4 : v949 = tripI f t 4 := funext fun x => by unfold tripI routeI; rw [hw x]; rfl
  have i5 : v950 = tripI f t 5 := funext fun x => by unfold tripI routeI; rw [hw x]; rfl
  have i6 : v954 = tripI f t 6 := funext fun x => by unfold tripI routeI; rw [hw x]; rfl
  have i7 : v955 = tripI f t 7 := funext fun x => by unfold tripI routeI; rw [hw x]; rfl
  have w0 : k1_pay573 v937 v964 = tripW f t 0 := funext fun x => ((routeW_eq (hw x) (hs x) 0).trans rfl).symm
  have w1 : k1_pay574 v938 v964 = tripW f t 1 := funext fun x => ((routeW_eq (hw x) (hs x) 1).trans rfl).symm
  have w2 : k1_pay575 v942 v964 = tripW f t 2 := funext fun x => ((routeW_eq (hw x) (hs x) 2).trans rfl).symm
  have w3 : k1_pay576 v943 v964 = tripW f t 3 := funext fun x => ((routeW_eq (hw x) (hs x) 3).trans rfl).symm
  have w4 : k1_pay577 v947 v964 = tripW f t 4 := funext fun x => ((routeW_eq (hw x) (hs x) 4).trans rfl).symm
  have w5 : k1_pay578 v948 v964 = tripW f t 5 := funext fun x => ((routeW_eq (hw x) (hs x) 5).trans rfl).symm
  have w6 : k1_pay579 v952 v964 = tripW f t 6 := funext fun x => ((routeW_eq (hw x) (hs x) 6).trans rfl).symm
  have w7 : k1_pay588 v953 v964 = tripW f t 7 := funext fun x => ((routeW_eq (hw x) (hs x) 7).trans rfl).symm
  clear hw hs o0 o1 o2
  refine (show iprop((R ∗ ptI d i fi ∗ ptW d i fw) ∗ ptS d i f) ⊢ iprop((R ∗ ptS d i f) ∗ ptI d i fi ∗ ptW d i fw) by
    iintro ⟨⟨HR, HI, HW⟩, HS⟩; iframe).trans ?_
  simp only [wp_bind]
  refine part21_wp d i t _ _ _ _ _ _ _ _ _ _ (fun v996 h996 => ?_)
  refine part22_wp d i t _ _ _ _ _ _ _ _ _ (fun c16_i32_135 h_c16_i32_135 => ?_)
  refine wp_peekI d i fun _ => ?_
  refine wp_putI d i 7 t (off73_eq t) ?_
  refine wp_peekW d i fun _ => ?_
  refine wp_putW d i 7 t (off73_eq t) ?_
  refine wp_done d i ?_
  rw [h996, w0, w1, w2, w3, w4, w5, w6, w7, i0, i1, i2, i3, i4, i5, i6, i7]
  refine (show _ ⊢ _ from ?_).trans hQ
  iintro ⟨⟨HR, HS⟩, HI, HW⟩
  iframe

end Cert.Route

end
-- ==== Proof.Tile.lean ====
/-
  One tile's run: its block of the scores fetched, the loop over it, its blocks of the two outputs written out. From the scores' block
  at `sc` the tile leaves the indices and weights the routing computes of `sc`, on its block.
-/
module

public import proofs.«01_k».proof.Proof.Body

@[expose] public section

noncomputable section

namespace Cert.Route

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

local notation "sV" => (Memref.whole Cert.KernelIdeal.main_v1_scv : Memref Cert.KernelIdeal.sig Kind.scVector Space.hbm Cert.KernelIdeal.S64x16384 EltTy.f32)
local notation "iV" => (Memref.whole Cert.KernelIdeal.main_v2_0_scv : Memref Cert.KernelIdeal.sig Kind.scVector Space.hbm Cert.KernelIdeal.S8x16384 EltTy.i32)
local notation "wV" => (Memref.whole Cert.KernelIdeal.main_v2_1_scv : Memref Cert.KernelIdeal.sig Kind.scVector Space.hbm Cert.KernelIdeal.S8x16384 EltTy.f32)

/-! ## The trips' columns -/

theorem putRow_all {α : Type} (g : S8x512.Idx → α) (t : Fin k1_t1_loop.trips) (v : Fin 8 → S16.Idx → α) (y : S8x512.Idx) (r : Fin 8) (hr : (y 0).val = r.val) :
    putRow (putRow (putRow (putRow (putRow (putRow (putRow (putRow g 0 t (v 0)) 1 t (v 1)) 2 t (v 2)) 3 t (v 3)) 4 t (v 4)) 5 t (v 5)) 6 t (v 6)) 7 t (v 7) y
      = if h : 16 * t.val ≤ (y 1).val ∧ (y 1).val < 16 * t.val + 16 then v r (ix1 ⟨(y 1).val - 16 * t.val, by omega⟩) else g y := by
  by_cases h : 16 * t.val ≤ (y 1).val ∧ (y 1).val < 16 * t.val + 16
  · rw [dif_pos h]
    match r with
    | 0 => simp [putRow, hr, h]
    | 1 => simp [putRow, hr, h]
    | 2 => simp [putRow, hr, h]
    | 3 => simp [putRow, hr, h]
    | 4 => simp [putRow, hr, h]
    | 5 => simp [putRow, hr, h]
    | 6 => simp [putRow, hr, h]
    | 7 => simp [putRow, hr, h]
  · rw [dif_neg h]
    simp only [putRow, h, _root_.and_false, dite_false]

/-- Agreement on the columns before trip `n`. -/
def Upto {α : Type} (n : ℕ) (g o : S8x512.Idx → α) : Prop := ∀ y : S8x512.Idx, (y 1).val < 16 * n → g y = o y

theorem upto_next {α : Type} {g o : S8x512.Idx → α} {t : Fin k1_t1_loop.trips} (h : Upto t.val g o) {v : Fin 8 → S16.Idx → α}
    (hv : ∀ (j : Fin 8) (x : S16.Idx), v j x = o (ix2 j (lane t (x 0)))) :
    Upto (t.val + 1) (putRow (putRow (putRow (putRow (putRow (putRow (putRow (putRow g 0 t (v 0)) 1 t (v 1)) 2 t (v 2)) 3 t (v 3)) 4 t (v 4)) 5 t (v 5)) 6 t (v 6)) 7 t (v 7)) o := by
  intro y hy
  rw [putRow_all g t v y ⟨(y 0).val, (y 0).isLt⟩ rfl]
  split
  · rename_i hh
    rw [hv]
    congr 1
    funext a
    match a with
    | 0 => rfl
    | 1 =>
      refine Fin.ext ?_
      show 16 * t.val + ((y 1).val - 16 * t.val) = (y 1).val
      omega
  · exact h y (by omega)

variable [FloatOps F]

/-! ## The tile's blocks -/

section Tile

variable (d : Dev nD) (L : grid1.Coords)

/-- The block the tile works on. -/
abbrev bL (L : grid1.Coords) : Fin 32 := blk (L 0) (L 1)

abbrev scolK (L : grid1.Coords) : Rect S64x16384 := Rect.unit (s := S64x16384) (k1_off1 L) S64x512.size (k1_off1_inb L)
abbrev ocolK (L : grid1.Coords) : Rect S8x16384 := Rect.unit (s := S8x16384) (k1_off74 L) S8x512.size (k1_off74_inb L)
abbrev sK (L : grid1.Coords) : Memref sig .scVector .hbm S64x512 .f32 := (sV).slice (scolK L) (fun _ => rfl)
abbrev iK (L : grid1.Coords) : Memref sig .scVector .hbm S8x512 .i32 := (iV).slice (ocolK L) (fun _ => rfl)
abbrev wK (L : grid1.Coords) : Memref sig .scVector .hbm S8x512 .f32 := (wV).slice (ocolK L) (fun _ => rfl)

omit [FloatOps F] in
theorem off1_eq : k1_off1 L = ![0, 512 * (bL L).val] := by
  have h0 : (L 0).val < 2 := (L 0).isLt
  have h1 : (L 1).val < 16 := (L 1).isLt
  funext a
  match a with
  | 0 => rfl
  | 1 =>
    show ((BitVec.ofNat 32 (L 1).val * 2#32 + BitVec.ofNat 32 (L 0).val) * 512#32).toNat = 512 * (2 * (L 1).val + (L 0).val)
    rw [BitVec.toNat_mul, BitVec.toNat_add, BitVec.toNat_mul, BitVec.toNat_ofNat, BitVec.toNat_ofNat]
    show (((L 1).val % 2 ^ 32 * 2 % 2 ^ 32 + (L 0).val % 2 ^ 32) % 2 ^ 32 * 512) % 2 ^ 32 = _
    omega

omit [FloatOps F] in
theorem off74_eq : k1_off74 L = ![0, 512 * (bL L).val] := off1_eq L

omit [FloatOps F] in
theorem scolK_eq : scolK L = scol (bL L) := by
  unfold scolK scol Rect.part Rect.block
  congr 1 <;> funext a
  · rw [off1_eq]
    match a with
    | 0 => simp [Shape.partIx, Shape.partSize]
    | 1 => simp [Shape.partIx, Shape.partSize]; omega
  · match a with
    | 0 => simp [Shape.partSize]
    | 1 => simp [Shape.partSize]
omit [FloatOps F] in
theorem ocolK_eq : ocolK L = ocol (bL L) := by
  unfold ocolK ocol Rect.part Rect.block
  congr 1 <;> funext a
  · rw [off74_eq]
    match a with
    | 0 => simp [Shape.partIx, Shape.partSize]
    | 1 => simp [Shape.partIx, Shape.partSize]; omega
  · match a with
    | 0 => simp [Shape.partSize]
    | 1 => simp [Shape.partSize]

omit [FloatOps F] in
theorem pts_sK (f : Buf (Elt F) (sLoc d)) :
    ((sK L).view.loc (V d (cV L) (jV L)) ↦[(sK L).view.set]{fullShare} f : sProp 𝕄) = sLoc d ↦[sSet (bL L)]{fullShare} f := by
  rw [show (sK L).view.set = sSet (bL L) from by
    show ((sV).view.slice (scolK L)).set = ((sV).view.slice (scol (bL L))).set
    rw [scolK_eq]]
omit [FloatOps F] in
theorem pts_iK (f : Buf (Elt F) (iLoc d)) :
    ((iK L).view.loc (V d (cV L) (jV L)) ↦[(iK L).view.set]{fullShare} f : sProp 𝕄) = iLoc d ↦[iSet (bL L)]{fullShare} f := by
  rw [show (iK L).view.set = iSet (bL L) from by
    show ((iV).view.slice (ocolK L)).set = ((iV).view.slice (ocol (bL L))).set
    rw [ocolK_eq]]
omit [FloatOps F] in
theorem pts_wK (f : Buf (Elt F) (wLoc d)) :
    ((wK L).view.loc (V d (cV L) (jV L)) ↦[(wK L).view.set]{fullShare} f : sProp 𝕄) = wLoc d ↦[wSet (bL L)]{fullShare} f := by
  rw [show (wK L).view.set = wSet (bL L) from by
    show ((wV).view.slice (ocolK L)).set = ((wV).view.slice (ocol (bL L))).set
    rw [ocolK_eq]]

/-- The tile's columns of the scores. -/
def blockOf (sc : S64x16384.Idx → F .f32) (L : grid1.Coords) : S64x512.Idx → F .f32 := fun x => sc ((sK L).view.emb x)

omit [FloatOps F] in
theorem sK_col (x : S64x512.Idx) : ((sK L).view.emb x 0).val = (x 0).val ∧ ((sK L).view.emb x 1).val = 512 * (bL L).val + (x 1).val := by
  have h := off1_eq L
  constructor
  · show k1_off1 L 0 + 1 * (x 0).val = _
    rw [h]; show 0 + 1 * (x 0).val = _; omega
  · show k1_off1 L 1 + 1 * (x 1).val = _
    rw [h]; show 512 * (bL L).val + 1 * (x 1).val = _; omega
omit [FloatOps F] in
theorem iK_col (x : S8x512.Idx) : ((iK L).view.emb x 0).val = (x 0).val ∧ ((iK L).view.emb x 1).val = 512 * (bL L).val + (x 1).val := by
  have h := off74_eq L
  constructor
  · show k1_off74 L 0 + 1 * (x 0).val = _
    rw [h]; show 0 + 1 * (x 0).val = _; omega
  · show k1_off74 L 1 + 1 * (x 1).val = _
    rw [h]; show 512 * (bL L).val + 1 * (x 1).val = _; omega

omit [FloatOps F] in
theorem column_block (sc : S64x16384.Idx → F .f32) (x : S8x512.Idx) :
    column (blockOf sc L) (x 1) = column sc ((iK L).view.emb x 1) := by
  funext r
  show sc _ = sc _
  congr 1
  funext a
  match a with
  | 0 => exact Fin.ext (sK_col L _).1
  | 1 => exact Fin.ext ((sK_col L _).2.trans (iK_col L x).2.symm)

theorem outI_block (sc : S64x16384.Idx → F .f32) (x : S8x512.Idx) : outI (blockOf sc L) x = outI sc ((iK L).view.emb x) := by
  unfold outI
  rw [column_block]
  congr 1
  exact Fin.ext (iK_col L x).1.symm
theorem outW_block (sc : S64x16384.Idx → F .f32) (x : S8x512.Idx) : outW (blockOf sc L) x = outW sc ((wK L).view.emb x) := by
  unfold outW
  rw [column_block]
  show _ = routeW (column sc ((iK L).view.emb x 1)) ((iK L).view.emb x 0)
  congr 1
  exact Fin.ext (iK_col L x).1.symm

/-! ## The tile's scratch and semaphores -/

abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scoped1.sem)
abbrev cCcell (d : Dev nD) (c : Fin τ.nSC) (i : Fin τ.nSub) : GSem nD τ sig := (V d c i, .dma cc1_scoped2.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped2.sem : SemLoc sig).isScoped .scVector = true; decide⟩⟩⟩)]

omit [FloatOps F] in
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
      SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
      SparseCore.Cfg.mem_ownRefs_of_owner (p := Proc.scVector (cV L) (jV L)) (b := (Proc.scVector (cV L) (jV L)).devRef cc1_scratch2) rfl⟩⟩)]

/-! ## The run -/

/-- What holds before trip `n`: the scores as fetched, the two outputs' scratch right on the columns done. -/
def inv (f : S64x512.Idx → F .f32) (n : ℕ) (_ : Unit) : sProp 𝕄 :=
  iprop(ptS d L f ∗ (∃ g, ⌜Upto n g (outI f)⌝ ∗ ptI d L g) ∗ ∃ g, ⌜Upto n g (outW f)⌝ ∗ ptW d L g)

theorem inv_step (f : S64x512.Idx → F .f32) (t : Fin k1_t1_loop.trips) (u : Unit)
    {arg2 : Memref sig .scVector .hbm S64x16384 .f32} {harg2 : arg2.IsWhole}
    {arg3 : Memref sig .scVector .hbm S8x16384 .i32} {harg3 : arg3.IsWhole} {arg4 : Memref sig .scVector .hbm S8x16384 .f32} {harg4 : arg4.IsWhole}
    {h5 : (bS).IsWhole} {h6 : (bI).IsWhole} {h7 : (bW).IsWhole} {v13_r0 v13_r1 v13_r2 : DmaSems sig S_} :
    inv d L f t.val u ⊢ wp frame (wpE (defs₀ (F := F)) 𝒱₀ (V d (cV L) (jV L)) none) Set.univ
      (k1_t1_body L arg2 harg2 arg3 harg3 arg4 harg4 bS h5 bI h6 bW h7 v13_r0 v13_r1 v13_r2 (iota .scVector S16 32 [0] iota_S16_d0_w32_scVector) t u)
      (inv d L f (t.val + 1)) := by
  unfold inv
  iintro ⟨HS, ⟨%gi, %hi, HI⟩, %gw, %hw, HW⟩
  iapply (body_wp d L t (R := iprop(emp)) (f := f) (fi := gi) (fw := gw)
    (Q := fun _ => iprop(ptS d L f ∗ (∃ g, ⌜Upto (t.val + 1) g (outI f)⌝ ∗ ptI d L g) ∗ ∃ g, ⌜Upto (t.val + 1) g (outW f)⌝ ∗ ptW d L g)) ?_) $$ [HS HI HW]
  · iintro ⟨-, HS, HI, HW⟩
    isplitl [HS]; · iexact HS
    isplitl [HI]
    · iexists _; isplitr
      swap; · iexact HI
      ipureintro; exact upto_next (v := tripI f t) hi fun j x => rfl
    · iexists _; isplitr
      swap; · iexact HW
      ipureintro; exact upto_next (v := tripW f t) hw fun j x => rfl
  · isplitr; · iempintro
    isplitl [HS]; · iexact HS
    isplitl [HI]; · iexact HI
    iexact HW

theorem read_sK (sc : S64x16384.Idx → F .f32) : (sK L).view.read (Elt F) sc = blockOf sc L :=
  funext fun x => (View.read_apply _ _).trans (cast_eq _ _)

theorem write_iK (g : Buf (Elt F) (iLoc d)) (f : S8x512.Idx → BitVec 32) (o : Buf (Elt F) (iLoc d)) (h : ∀ x, f x = o ((iK L).view.emb x)) :
    ((iK L).view.loc (V d (cV L) (jV L)) ↦[(iK L).view.set]{fullShare} (iK L).view.writes (Elt F) g [⟨Rect.whole S8x512, f⟩] : sProp 𝕄)
      = (iK L).view.loc (V d (cV L) (jV L)) ↦[(iK L).view.set]{fullShare} o := by
  refine pointsTo_congr fun y hy => ?_
  obtain ⟨x, -, rfl⟩ := Finset.mem_map.mp hy
  have e : Rect.emb (Rect.whole S8x512) x = x := funext fun a => Fin.ext (by show 0 + 1 * (x a).val = (x a).val; omega)
  refine Eq.trans (congrArg _ (congrArg _ e.symm)) ?_
  exact (View.write_emb_of_mem (v := (iK L).view.slice (Rect.whole S8x512)) g f (Finset.mem_univ x)).trans ((cast_eq _ _).trans (h x))
theorem write_wK (g : Buf (Elt F) (wLoc d)) (f : S8x512.Idx → F .f32) (o : Buf (Elt F) (wLoc d)) (h : ∀ x, f x = o ((wK L).view.emb x)) :
    ((wK L).view.loc (V d (cV L) (jV L)) ↦[(wK L).view.set]{fullShare} (wK L).view.writes (Elt F) g [⟨Rect.whole S8x512, f⟩] : sProp 𝕄)
      = (wK L).view.loc (V d (cV L) (jV L)) ↦[(wK L).view.set]{fullShare} o := by
  refine pointsTo_congr fun y hy => ?_
  obtain ⟨x, -, rfl⟩ := Finset.mem_map.mp hy
  have e : Rect.emb (Rect.whole S8x512) x = x := funext fun a => Fin.ext (by show 0 + 1 * (x a).val = (x a).val; omega)
  refine Eq.trans (congrArg _ (congrArg _ e.symm)) ?_
  exact (View.write_emb_of_mem (v := (wK L).view.slice (Rect.whole S8x512)) g f (Finset.mem_univ x)).trans ((cast_eq _ _).trans (h x))

set_option maxHeartbeats 4000000 in
theorem tile_body (hF : (K (F := F)).Facts) (sc : S64x16384.Idx → F .f32) (gi : Buf (Elt F) (iLoc d)) (gw : Buf (Elt F) (wLoc d))
    (O : CellTallies nD τ sig (HIx 1)) (W : Waits sig (HIx 1)) (hO : ∀ g, O g none = 0) :
    iprop((levAts (K (F := F)).L (K (F := F)).lev : sProp 𝕄) ∗ emp
        ∗ ((sLoc d ↦[sSet (bL L)]{fullShare} sc) ∗ (iLoc d ↦[iSet (bL L)]{fullShare} gi) ∗ wLoc d ↦[wSet (bL L)]{fullShare} gw)
        ∗ scopedBufs (V d (cV L) (jV L)) ∗ scopedSems0 (V d (cV L) (jV L)) ∗ owes (V d (cV L) (jV L)) O W : sProp 𝕄)
      ⊢ wp frame (wpE (defs₀ (F := F)) 𝒱₀ (V d (cV L) (jV L)) none) Set.univ
          (cc1_route L sV (Memref.isWhole_whole _) iV (Memref.isWhole_whole _) wV (Memref.isWhole_whole _)
            bS (Memref.isWhole_whole _) bI (Memref.isWhole_whole _) bW (Memref.isWhole_whole _) cc1_scoped0 cc1_scoped1 cc1_scoped2)
          fun _ => iprop(((sLoc d ↦[sSet (bL L)]{fullShare} sc) ∗ (iLoc d ↦[iSet (bL L)]{fullShare} outI sc) ∗ wLoc d ↦[wSet (bL L)]{fullShare} outW sc)
            ∗ scopedBufs (V d (cV L) (jV L)) ∗ scopedSems0 (V d (cV L) (jV L))
            ∗ ∃ W', ⌜∀ p ∈ W', p ∈ W ∨ p.2 = none⌝ ∗ owes (V d (cV L) (jV L)) O W' : sProp 𝕄) := by
  simp only [cc1_route_eq_skeleton]; unfold cc1_route_skel
  rw [(K (F := F)).scopedBufs_V hF d (cV L) (jV L), SparseCore.Cfg.scopedSems0_V (Val := Elt F) d (cV L) (jV L), ownSems0_V, ownBufs_V]
  rw [wp_bind, k1_part23_eq_skeleton]; unfold k1_part23_skel
  iintro ⟨#Hlv, -, ⟨Hs, Hi, Hw⟩, ⟨⟨%f0, H0⟩, ⟨%f1, H1⟩, ⟨%f2, H2⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hs' := (Entails.of_eq (pts_sK (F := F) d L _).symm) $$ Hs
  ihave Hi' := (Entails.of_eq (pts_iK (F := F) d L _).symm) $$ Hi
  ihave Hw' := (Entails.of_eq (pts_wK (F := F) d L _).symm) $$ Hw
  ihave H0' := (Entails.of_eq (show (((V d (cV L) (jV L)).loc cc1_scratch0) ↦{fullShare} f0 : sProp 𝕄) = ((bS).view.loc (V d (cV L) (jV L)) ↦{fullShare} f0) from rfl)) $$ H0
  ihave H1' := (Entails.of_eq (show (((V d (cV L) (jV L)).loc cc1_scratch1) ↦{fullShare} f1 : sProp 𝕄) = ((bI).view.loc (V d (cV L) (jV L)) ↦{fullShare} f1) from rfl)) $$ H1
  ihave H2' := (Entails.of_eq (show (((V d (cV L) (jV L)).loc cc1_scratch2) ↦{fullShare} f2 : sProp 𝕄) = ((bW).view.loc (V d (cV L) (jV L)) ↦{fullShare} f2) from rfl)) $$ H2
  sl_exec
  ihave H0'' := (Entails.of_eq (show ((bS).view.loc (V d (cV L) (jV L)) ↦{fullShare} View.write (Elt F) (bS).view f0 (tile_body.sl.dma0 L sc) Finset.univ : sProp 𝕄)
      = ptS d L (blockOf sc L) from by
    rw [View.write_whole_univ]; exact congrArg _ (read_sK L sc))) $$ H0'
  sl_for (inv d L (blockOf sc L)) $$ [H0'' H1' H2']
  case region =>
    intro k u
    exact inv_step d L (blockOf sc L) k u
  · unfold inv
    isplitl [H0'']; · iexact H0''
    isplitl [H1']
    · iexists f1; isplitr
      · ipureintro; exact fun y hy => absurd hy (by omega)
      · iexact H1'
    · iexists f2; isplitr
      · ipureintro; exact fun y hy => absurd hy (by omega)
      · iexact H2'
  unfold inv
  iintro %_ ⟨H0, ⟨%g1, %h1, H1⟩, %g2, %h2, H2⟩
  obtain rfl : g1 = outI (blockOf sc L) := funext fun y => h1 y (show (y 1).val < 512 from (y 1).isLt)
  obtain rfl : g2 = outW (blockOf sc L) := funext fun y => h2 y (show (y 1).val < 512 from (y 1).isLt)
  ihave H1' := (Entails.of_eq (show (ptI d L (outI (blockOf sc L)) : sProp 𝕄) = ((bI).view.loc (V d (cV L) (jV L)) ↦{fullShare} outI (blockOf sc L)) from rfl)) $$ H1
  ihave H2' := (Entails.of_eq (show (ptW d L (outW (blockOf sc L)) : sProp 𝕄) = ((bW).view.loc (V d (cV L) (jV L)) ↦{fullShare} outW (blockOf sc L)) from rfl)) $$ H2
  sl_exec
  rw [wp_ret]
  ihave Hi := (Entails.of_eq ((write_iK (F := F) d L gi (tile_body.sl.dma0_1 L sc) (outI sc)
    fun x => (show tile_body.sl.dma0_1 L sc x = outI (blockOf sc L) x from congrFun (View.read_whole (Val := Elt F) cc1_scratch1 (outI (blockOf sc L))) x).trans (outI_block L sc x)).trans (pts_iK (F := F) d L _))) $$ Hi'
  ihave Hw := (Entails.of_eq ((write_wK (F := F) d L gw (tile_body.sl.dma0_2 L sc) (outW sc)
    fun x => (show tile_body.sl.dma0_2 L sc x = outW (blockOf sc L) x from congrFun (View.read_whole (Val := Elt F) cc1_scratch2 (outW (blockOf sc L))) x).trans (outW_block L sc x)).trans (pts_wK (F := F) d L _))) $$ Hw'
  ihave Hs := (Entails.of_eq (pts_sK (F := F) d L _)) $$ Hs'
  imodintro
  isplitl [Hs Hi Hw]
  · isplitl [Hs]; · iexact Hs
    isplitl [Hi]; · iexact Hi
    iexact Hw
  isplitl [H0 H1' H2' Hbufs]
  · isplitl [H0]; · iexists _; iexact H0
    isplitl [H1']; · iexists _; iexact H1'
    isplitl [H2']; · iexists _; iexact H2'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Route

end
-- ==== Proof.Call.lean ====
/-
  What the SparseCore call carries. Each SparseCore is handed its sixteen tiles' blocks of the scores and of the two outputs, each tile
  its own, and brings them back, the outputs at what the routing computes of the scores.
-/
module

public import proofs.«01_k».proof.Proof.Tile

@[expose] public section

noncomputable section

namespace Cert.Route

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

local notation "sV" => (Memref.whole Cert.KernelIdeal.main_v1_scv : Memref Cert.KernelIdeal.sig Kind.scVector Space.hbm Cert.KernelIdeal.S64x16384 EltTy.f32)
local notation "iV" => (Memref.whole Cert.KernelIdeal.main_v2_0_scv : Memref Cert.KernelIdeal.sig Kind.scVector Space.hbm Cert.KernelIdeal.S8x16384 EltTy.i32)
local notation "wV" => (Memref.whole Cert.KernelIdeal.main_v2_1_scv : Memref Cert.KernelIdeal.sig Kind.scVector Space.hbm Cert.KernelIdeal.S8x16384 EltTy.f32)

variable [FloatOps F]

variable (m : (ℓ : Loc nD τ sig) → Buf (Elt F) ℓ) (sc : Dev nD → S64x16384.Idx → F .f32)

/-- One tile's blocks before the call; after it. -/
abbrev goB (d : Dev nD) (b : Fin 32) : sProp 𝕄 :=
  iprop((sLoc d ↦[sSet b]{fullShare} sc d) ∗ (iLoc d ↦[iSet b]{fullShare} m (iLoc d)) ∗ wLoc d ↦[wSet b]{fullShare} m (wLoc d))
abbrev tdB (d : Dev nD) (b : Fin 32) : sProp 𝕄 :=
  iprop((sLoc d ↦[sSet b]{fullShare} sc d) ∗ (iLoc d ↦[iSet b]{fullShare} outI (sc d)) ∗ wLoc d ↦[wSet b]{fullShare} outW (sc d))

omit [FloatOps F] in
theorem nCore_cast : (K (F := F)).nCore 0 = 2 := rfl

def P : (K (F := F)).Pay (nD := nD) (Val := Elt F) (Name := ℕ) (U := UU) where
  st := fun q d c => match q with | 0 => bigSep Finset.univ fun i : Fin 16 => goB m sc d (blk (Fin.cast nCore_zero c) i)
  dn := fun q d c => match q with | 0 => bigSep Finset.univ fun i : Fin 16 => tdB sc d (blk (Fin.cast nCore_zero c) i)
  go := fun q d c i => match q with | 0 => goB m sc d (blk (Fin.cast nCore_zero c) (Fin.cast nSub_zero i))
  td := fun q d c i => match q with | 0 => tdB sc d (blk (Fin.cast nCore_zero c) (Fin.cast nSub_zero i))
  x := fun _ _ => iprop(emp)

instance P_storable : (P (F := F) m sc).IsStorable where
  st q d c := match q with
    | 0 => (inferInstance : BI.Storable (upEmb : UEmb _ 𝕄) (bigSep Finset.univ fun i : Fin 16 => goB m sc d (blk (Fin.cast nCore_zero c) i)))
  dn q d c := match q with
    | 0 => (inferInstance : BI.Storable (upEmb : UEmb _ 𝕄) (bigSep Finset.univ fun i : Fin 16 => tdB sc d (blk (Fin.cast nCore_zero c) i)))
  go q d c i := match q with
    | 0 => (inferInstance : BI.Storable (upEmb : UEmb _ 𝕄) (goB m sc d (blk (Fin.cast nCore_zero c) (Fin.cast nSub_zero i))))
  td q d c i := match q with
    | 0 => (inferInstance : BI.Storable (upEmb : UEmb _ 𝕄) (tdB sc d (blk (Fin.cast nCore_zero c) (Fin.cast nSub_zero i))))

/-! ## The tile's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_route (coordsV c s)
          sV (Memref.isWhole_whole _) iV (Memref.isWhole_whole _) wV (Memref.isWhole_whole _)
          bS (Memref.isWhole_whole _) bI (Memref.isWhole_whole _) bW (Memref.isWhole_whole _) cc1_scoped0 cc1_scoped1 cc1_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m sc) v₀ 0 := by
  intro d c i O W hO _ _
  simp only [show (P m sc).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (sc d) (m (iLoc d)) (m (wLoc d)) O W hO).trans (wp_mono frame _ _ fun _ => obl_post)

/-! ## The tiles' blocks are their SparseCore's -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m sc) 0 := by
  intro d c
  show (bigSep Finset.univ fun i : Fin 16 => goB m sc d (blk (Fin.cast nCore_zero c) i)) ⊢ |={Set.univ}=> iprop(
      (bigSep Finset.univ fun i : Fin ((K (F := F)).nSub 0) => goB m sc d (blk (Fin.cast nCore_zero c) (Fin.cast nSub_zero i)))
      ∗ ((bigSep Finset.univ fun i : Fin ((K (F := F)).nSub 0) => tdB sc d (blk (Fin.cast nCore_zero c) (Fin.cast nSub_zero i)))
          -∗ bigSep Finset.univ fun i : Fin 16 => tdB sc d (blk (Fin.cast nCore_zero c) i)))
  rw [bigSep_tasks (F := F) (fun i => goB m sc d (blk (Fin.cast nCore_zero c) i)), bigSep_tasks (F := F) (fun i => tdB sc d (blk (Fin.cast nCore_zero c) i))]
  iintro H; imodintro
  isplitl [H]; · iexact H
  iintro H; iexact H

/-! ## The whole arrays are their blocks -/

omit [FloatOps F] in
theorem sSet_eq (i : Fin 32) : sSet i = (scol i).set := by
  show ((View.whole (main_v1_scv : Ref sig .scVector)).slice (scol i)).set = _
  rw [View.set_slice]; exact Finset.map_refl
omit [FloatOps F] in
theorem iSet_eq (i : Fin 32) : iSet i = (ocol i).set := by
  show ((View.whole (main_v2_0_scv : Ref sig .scVector)).slice (ocol i)).set = _
  rw [View.set_slice]; exact Finset.map_refl
omit [FloatOps F] in
theorem wSet_eq (i : Fin 32) : wSet i = (ocol i).set := by
  show ((View.whole (main_v2_1_scv : Ref sig .scVector)).slice (ocol i)).set = _
  rw [View.set_slice]; exact Finset.map_refl

omit [FloatOps F] in
theorem sPts_blocks (d : Dev nD) (f : Buf (Elt F) (sLoc d)) :
    (sLoc d ↦{fullShare} f : sProp 𝕄) = bigSep Finset.univ fun i : Fin 32 => sLoc d ↦[sSet i]{fullShare} f := by
  rw [← pointsTo_biUnion Finset.univ (ℓ := sLoc d) sSet (fun i _ j _ h => by rw [sSet_eq, sSet_eq]; exact Rect.part_disjoint sdiv h),
    (Finset.biUnion_congr rfl fun i _ => sSet_eq i).trans (Rect.biUnion_part sdiv)]; try rfl
omit [FloatOps F] in
theorem iPts_blocks (d : Dev nD) (f : Buf (Elt F) (iLoc d)) :
    (iLoc d ↦{fullShare} f : sProp 𝕄) = bigSep Finset.univ fun i : Fin 32 => iLoc d ↦[iSet i]{fullShare} f := by
  rw [← pointsTo_biUnion Finset.univ (ℓ := iLoc d) iSet (fun i _ j _ h => by rw [iSet_eq, iSet_eq]; exact Rect.part_disjoint odiv h),
    (Finset.biUnion_congr rfl fun i _ => iSet_eq i).trans (Rect.biUnion_part odiv)]; try rfl
omit [FloatOps F] in
theorem wPts_blocks (d : Dev nD) (f : Buf (Elt F) (wLoc d)) :
    (wLoc d ↦{fullShare} f : sProp 𝕄) = bigSep Finset.univ fun i : Fin 32 => wLoc d ↦[wSet i]{fullShare} f := by
  rw [← pointsTo_biUnion Finset.univ (ℓ := wLoc d) wSet (fun i _ j _ h => by rw [wSet_eq, wSet_eq]; exact Rect.part_disjoint odiv h),
    (Finset.biUnion_congr rfl fun i _ => wSet_eq i).trans (Rect.biUnion_part odiv)]; try rfl

/-- The blocks, by the SparseCore and the tile that work on them. -/
def blkEquiv : Fin 2 × Fin 16 ≃ Fin 32 where
  toFun p := blk p.1 p.2
  invFun i := (⟨i.val % 2, by omega⟩, ⟨i.val / 2, by omega⟩)
  left_inv p := Prod.ext (Fin.ext (by show (2 * p.2.val + p.1.val) % 2 = p.1.val; omega)) (Fin.ext (by show (2 * p.2.val + p.1.val) / 2 = p.2.val; omega))
  right_inv i := Fin.ext (by show 2 * (i.val / 2) + i.val % 2 = i.val; omega)

omit [FloatOps F] in
theorem bigSep_blocks (Φ : Fin 32 → sProp 𝕄) :
    bigSep Finset.univ Φ = bigSep Finset.univ fun c : Fin 2 => bigSep Finset.univ fun i : Fin 16 => Φ (blk c i) := by
  rw [bigSep_univ_equiv blkEquiv Φ, bigSep_univ_prod]; rfl

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) : (bigSep Finset.univ fun c : Fin ((K (F := F)).nCore 0) => (P m sc).st 0 d c)
    = iprop((sLoc d ↦{fullShare} sc d) ∗ (iLoc d ↦{fullShare} m (iLoc d)) ∗ wLoc d ↦{fullShare} m (wLoc d)) := by
  refine (bigSep_cores (F := F) fun c => bigSep Finset.univ fun i : Fin 16 => goB m sc d (blk c i)).trans ?_
  rw [← bigSep_blocks (F := F) (fun b => goB m sc d b), bigSep_sep', bigSep_sep', ← sPts_blocks, ← iPts_blocks, ← wPts_blocks]
theorem dn0_eq (d : Dev nD) : (bigSep Finset.univ fun c : Fin ((K (F := F)).nCore 0) => (P m sc).dn 0 d c)
    = iprop((sLoc d ↦{fullShare} sc d) ∗ (iLoc d ↦{fullShare} outI (sc d)) ∗ wLoc d ↦{fullShare} outW (sc d)) := by
  refine (bigSep_cores (F := F) fun c => bigSep Finset.univ fun i : Fin 16 => tdB sc d (blk c i)).trans ?_
  rw [← bigSep_blocks (F := F) (fun b => tdB sc d b), bigSep_sep', bigSep_sep', ← sPts_blocks, ← iPts_blocks, ← wPts_blocks]

end Cert.Route

end
-- ==== Proof.Score.lean ====
/-
  The score kernel on the TensorCore: eight grid points, each leaving one block of 2048 columns of the 64 x 16384 scores, the scores being
  the kernel's arithmetic of the weights and the block's 2048 rows of tokens.
-/
module

public import proofs.«01_k».proof.Proof.Call
public import proofs.«01_k».proof.Proof.Gen.KernelIdeal.Points
public import proofs.«01_k».proof.Proof.Gen.KernelIdeal.Launch
public import Idealize.ShloMosaic.Lib.Pipeline.Regions

@[expose] public section

noncomputable section

namespace Cert.Route

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open Idealize.ShloMosaic.Pipeline (Dat Window BodyObligation)

variable {F : FTy → Type}

local notation "𝕄" => MT nD τ sig (HIx 1) (Elt F) ℕ UU ℕ

variable [FloatOps F]

/-! ## The body -/

/-- An access to a whole unit rectangle at offset zero embeds each index at itself. -/
theorem access_emb {κ : Kind} {sp : Space} {s : Shape} {e : EltTy} (M : Memref sig κ sp s e) {off : Fin s.rank → Nat} (h : off = fun _ => 0)
    (inb : ∀ a, off a + s.size a ≤ s.size a) (x : s.Idx) :
    (M.access (Rect.unit off s.size inb)).emb x = M.view.emb x := by
  subst h
  show M.view.emb ((Rect.unit (fun _ => 0) s.size inb).emb x) = _
  congr 1
  funext a
  exact Fin.ext (by show 0 + 1 * (x a).val = (x a).val; omega)

theorem access_read {κ : Kind} {sp : Space} {s : Shape} {e : EltTy} (M : Memref sig κ sp s e) {off : Fin s.rank → Nat} (h : off = fun _ => 0)
    (inb : ∀ a, off a + s.size a ≤ s.size a) (f : M.view.ty.Contents (Elt F)) :
    (M.access (Rect.unit off s.size inb)).read (Elt F) f = M.view.read (Elt F) f := by
  subst h
  funext x
  show _root_.cast _ (f ((M.access (Rect.unit (fun _ => 0) s.size inb)).emb x)) = _root_.cast _ (f (M.view.emb x))
  rw [access_emb M rfl inb x]

theorem access_write {κ : Kind} {sp : Space} {s : Shape} {e : EltTy} (M : Memref sig κ sp s e) {off : Fin s.rank → Nat} (h : off = fun _ => 0)
    (inb : ∀ a, off a + s.size a ≤ s.size a) (f : M.view.ty.Contents (Elt F)) (g : s.Idx → Elt F e) :
    M.view.read (Elt F) ((M.access (Rect.unit off s.size inb)).write (Elt F) f g Finset.univ) = g :=
  (access_read M h inb _).symm.trans (View.read_write_univ _ _)

theorem access_sub {κ : Kind} {sp : Space} {s : Shape} {e : EltTy} (M : Memref sig κ sp s e) (r : Rect s) (Mk : Finset r.shape.Idx) :
    (M.access r).setOn Mk ⊆ M.view.set := by
  intro y hy
  obtain ⟨x, -, rfl⟩ := Finset.mem_map.mp hy
  exact Finset.mem_map.mpr ⟨r.emb x, Finset.mem_univ _, rfl⟩

theorem zz : (![0, 0] : Fin 2 → Nat) = fun _ => 0 := funext fun a => by fin_cases a <;> rfl

/-- A load of a whole staging buffer reads what it holds; -/
theorem wp_ld (c : Dev nD) {R : sProp 𝕄} {s : Shape} {e : EltTy} (M : Memref sig .tc .vmem s e) {off : Fin s.rank → Nat} (h : off = fun _ => 0)
    (inb : ∀ a, off a + s.size a ≤ s.size a) {hl : M.view.LoadsAt (Rect.unit off s.size inb).toLoadRect} (X : s.Idx → Elt F e)
    {k : (s.Idx → Elt F e) → Prog (TpuEff nD τ sig (Elt F) Λ₀ .tc) PUnit} {Q : PUnit → sProp 𝕄}
    (hQ : iprop(R ∗ owns (c : Thread nD τ) M fullShare X) ⊢ wp frame (wpE (defs₀ (F := F)) 𝒱₀ (c : Thread nD τ) none) Set.univ (k X) Q) :
    iprop(R ∗ owns (c : Thread nD τ) M fullShare X)
      ⊢ wp frame (wpE (defs₀ (F := F)) 𝒱₀ (c : Thread nD τ) none) Set.univ
          (.op (.load M (Rect.unit off s.size inb).toLoadRect hl) k) Q := by
  unfold owns at hQ ⊢
  iintro ⟨HR, ⟨%f, %e, H⟩⟩
  ihave H := (Entails.of_eq (show (M.view.loc (c : Thread nD τ) ↦[M.view.set]{fullShare} f : sProp 𝕄)
    = ((M.access (Rect.unit off s.size inb)).loc (c : Thread nD τ) ↦[M.view.set]{fullShare} f) from rfl)) $$ H
  iapply (wp_load_rect (m := M) (r := Rect.unit off s.size inb) (hl := hl) (k := k) 𝒱₀ (c : Thread nD τ) none Set.univ (access_sub M _ Finset.univ)) $$ H
  iintro H
  have e' : (M.access (Rect.unit off s.size inb)).read (Elt F) f = X := (access_read M h inb f).trans e
  rw [e']
  iapply hQ
  isplitl [HR]; · iexact HR
  iexists f; isplitr; · ipureintro; exact e
  iexact H

/-- a store to one leaves it the stored vector. -/
theorem wp_st (c : Dev nD) {R : sProp 𝕄} {s : Shape} {e : EltTy} (M : Memref sig .tc .vmem s e) {off : Fin s.rank → Nat} (h : off = fun _ => 0)
    (inb : ∀ a, off a + s.size a ≤ s.size a) (g : s.Idx → Elt F e) {hx : (M.access (Rect.unit off s.size inb)).Stores Finset.univ}
    {hm} (X : s.Idx → Elt F e)
    {k : PUnit → Prog (TpuEff nD τ sig (Elt F) Λ₀ .tc) PUnit} {Q : PUnit → sProp 𝕄}
    (hQ : iprop(R ∗ owns (c : Thread nD τ) M fullShare g) ⊢ wp frame (wpE (defs₀ (F := F)) 𝒱₀ (c : Thread nD τ) none) Set.univ (k ⟨⟩) Q) :
    iprop(R ∗ owns (c : Thread nD τ) M fullShare X)
      ⊢ wp frame (wpE (defs₀ (F := F)) 𝒱₀ (c : Thread nD τ) none) Set.univ
          (.op (.store M (Rect.unit off s.size inb) g Finset.univ hx hm) k) Q := by
  unfold owns at hQ ⊢
  iintro ⟨HR, ⟨%f, %e, H⟩⟩
  ihave H := (Entails.of_eq (show (M.view.loc (c : Thread nD τ) ↦[M.view.set]{fullShare} f : sProp 𝕄)
    = ((M.access (Rect.unit off s.size inb)).loc (c : Thread nD τ) ↦[M.view.set]{fullShare} f) from rfl)) $$ H
  iapply (wp_store (m := M) (r := Rect.unit off s.size inb) (hx := hx) (hm := hm) (k := k) 𝒱₀ (c : Thread nD τ) none Set.univ
    (access_sub M _ Finset.univ)) $$ H
  iintro H
  iapply hQ
  isplitl [HR]; · iexact HR
  iexists _; isplitr; swap; · iexact H
  ipureintro; exact access_write M h inb f g

omit [FloatOps F] in
theorem thru {A B C : sProp 𝕄} (h : A ⊢ B) (h' : B ⊢ C) : A ⊢ C := BI.Entails.trans h h'

/-- The kernel's body from its three staging buffers: the tokens and the weights stay, the output holds the block of scores. -/
theorem kernelRun (c : Dev nD) (i : grid0.Coords) (M0 : Memref sig .tc .vmem S2048x2048 .f32) (h0 : M0.IsWhole)
    (M1 : Memref sig .tc .vmem S64x2048 .f32) (h1 : M1.IsWhole) (M2 : Memref sig .tc .vmem S64x2048 .f32) (h2 : M2.IsWhole)
    (X : S2048x2048.Idx → F .f32) (w : S64x2048.Idx → F .f32) (y : S64x2048.Idx → F .f32) (Q : PUnit → sProp 𝕄) :
    iprop(owns (c : Thread nD τ) M0 fullShare X ∗ owns (c : Thread nD τ) M1 fullShare w ∗ owns (c : Thread nD τ) M2 fullShare y
      ∗ (iprop(owns (c : Thread nD τ) M0 fullShare X ∗ owns (c : Thread nD τ) M1 fullShare w
          ∗ owns (c : Thread nD τ) M2 fullShare (k0_pay1 w X)) -∗ Q ⟨⟩))
    ⊢ wp frame (wpE (defs₀ (F := F)) 𝒱₀ (c : Thread nD τ) none) Set.univ (cc0__score_kernel i M0 h0 M1 h1 M2 h2) Q := by
  rw [cc0__score_kernel_eq_skeleton]
  unfold cc0__score_kernel_skel
  refine thru (B := iprop((owns (c : Thread nD τ) M0 fullShare X ∗ owns (c : Thread nD τ) M2 fullShare y
      ∗ (iprop(owns (c : Thread nD τ) M0 fullShare X ∗ owns (c : Thread nD τ) M1 fullShare w
          ∗ owns (c : Thread nD τ) M2 fullShare (k0_pay1 w X)) -∗ Q ⟨⟩)) ∗ owns (c : Thread nD τ) M1 fullShare w)) ?_ (wp_ld c M1 zz _ w ?_)
  · iintro ⟨H0, H1, H2, Hk⟩
    isplitr [H1]
    · isplitl [H0]; · iexact H0
      isplitl [H2] <;> iassumption
    · iexact H1
  refine thru (B := iprop((owns (c : Thread nD τ) M1 fullShare w ∗ owns (c : Thread nD τ) M2 fullShare y
      ∗ (iprop(owns (c : Thread nD τ) M0 fullShare X ∗ owns (c : Thread nD τ) M1 fullShare w
          ∗ owns (c : Thread nD τ) M2 fullShare (k0_pay1 w X)) -∗ Q ⟨⟩)) ∗ owns (c : Thread nD τ) M0 fullShare X)) ?_ (wp_ld c M0 zz _ X ?_)
  · iintro ⟨⟨H0, H2, Hk⟩, H1⟩
    isplitr [H0]
    · isplitl [H1]; · iexact H1
      isplitl [H2] <;> iassumption
    · iexact H0
  refine thru (B := iprop((owns (c : Thread nD τ) M1 fullShare w ∗ owns (c : Thread nD τ) M0 fullShare X
      ∗ (iprop(owns (c : Thread nD τ) M0 fullShare X ∗ owns (c : Thread nD τ) M1 fullShare w
          ∗ owns (c : Thread nD τ) M2 fullShare (k0_pay1 w X)) -∗ Q ⟨⟩)) ∗ owns (c : Thread nD τ) M2 fullShare y)) ?_ (wp_ld c M2 zz _ y ?_)
  · iintro ⟨⟨H1, H2, Hk⟩, H0⟩
    isplitr [H2]
    · isplitl [H1]; · iexact H1
      isplitl [H0] <;> iassumption
    · iexact H2
  refine wp_st c M2 zz _ (k0_pay1 w X) y (k := fun _ => .ret PUnit.unit) ?_
  iintro ⟨⟨H1, H0, Hk⟩, H2⟩
  rw [wp_ret]
  imodintro
  iapply Hk
  isplitl [H0]; · iexact H0
  isplitl [H1] <;> iassumption

end Cert.Route

end
-- ==== Proof.Region.lean ====
/-
  The score kernel's pipeline: what each staging buffer holds at each grid point, the whole array of scores after the eight points, and
  the region the device's main thread enters and leaves.
-/
module

public import proofs.«01_k».proof.Proof.Score
public import Idealize.ShloMosaic.Lib.StableHlo.Run

@[expose] public section

noncomputable section

namespace Cert.Route

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open Idealize.ShloMosaic.Pipeline (Dat Window BodyObligation)

variable {F : FTy → Type}

local notation "𝕄" => MT nD τ sig (HIx 1) (Elt F) ℕ UU ℕ

variable [FloatOps F]

variable (m : (ℓ : Loc nD τ sig) → Buf (Elt F) ℓ)

/-! ## The arrays -/

/-- The tokens, one row each; the weights. -/
def tokens (d : Dev nD) : S16384x2048.Idx → F .f32 := fun i => shapeCast S16384x2048 (m ((d : Thread nD τ).loc main_arg0)) shapeCasts_S4x4096x2048_S16384x2048 i
def weights (d : Dev nD) : S64x2048.Idx → F .f32 := m ((d : Thread nD τ).loc main_arg1)

/-- Rows `2048 p` to `2048 p + 2047`. -/
def rowsOf (X : S16384x2048.Idx → F .f32) (p : Fin 8) : S2048x2048.Idx → F .f32 :=
  fun y => X (ix2 ⟨2048 * p.val + (y 0).val, by have := (y 0).isLt; have : S2048x2048.size 0 = 2048 := rfl; omega⟩ (y 1))

/-- The scores: column `j` is column `j % 2048` of the kernel's arithmetic on rows block `j / 2048`. -/
def scores (w : S64x2048.Idx → F .f32) (X : S16384x2048.Idx → F .f32) : S64x16384.Idx → F .f32 :=
  fun x => k0_pay1 w (rowsOf X ⟨(x 1).val / 2048, by have := (x 1).isLt; have : S64x16384.size 1 = 16384 := rfl; omega⟩)
    (ix2 (x 0) ⟨(x 1).val % 2048, Nat.mod_lt _ (by decide)⟩)

def SC (d : Dev nD) : S64x16384.Idx → F .f32 := scores (weights m d) (tokens m d)

/-! ## What the region is entered with -/

abbrev opR : HloOp τ sig (Elt F) :=
  StableHlo.reshape main_arg0 main_v0 (rfl : (.f32 : EltTy) = .f32) shapeCasts_S4x4096x2048_S16384x2048

abbrev V₀ (d : Dev nD) : Valuation τ sig (Elt F) := fun b => m ((d : Dev nD), b)
abbrev V₁ (d : Dev nD) : Valuation τ sig (Elt F) := (opR (F := F)).result (V₀ m d)
abbrev Vr (d : Dev nD) (b : Ref sig .tc) : Buf (Elt F) ((d : Thread nD τ).loc b) := V₁ m d (Proc.devRef .tc b)

theorem Vr_v0 (d : Dev nD) : Vr m d main_v0 = tokens m d := StableHlo.reshape_result _ _ _ _ _ _ _
theorem Vr_ne (d : Dev nD) (b : Ref sig .tc) (h : b ≠ main_v0) : Vr m d b = m ((d : Thread nD τ).loc b) :=
  StableHlo.reshape_result_ne _ _ _ _ _ _ _ h

/-! ## The proof data -/

def pt8 (t : Fin cfg0.N) : Fin 8 := ⟨t.val, lt_of_lt_of_eq t.isLt N_0⟩

def dats (_ : Fin 1) (d : Dev nD) : Dat τ (Elt F) (HIx 1) ℕ UU ℕ cfg0 d where
  A w := Vr m d (Pipeline.arrRef spec0 w)
  after w t := match w with
    | ⟨0, _⟩ => rowsOf (tokens m d) (pt8 t)
    | ⟨1, _⟩ => weights m d
    | ⟨2, _⟩ => k0_pay1 (weights m d) (rowsOf (tokens m d) (pt8 t))
  Φ _ := iprop(emp)
  q _ := fullShare
  owed _ := (K (F := F)).Otc d 0
  recorded _ := {p | (K (F := F)).lev (T d, p.1) p.2 ≤ 0}

theorem A_eq (d : Dev nD) (w : Fin cfg0.W) : (dats m 0 d).A w = Vr m d (Pipeline.arrRef spec0 w) := by
  dsimp only [dats]

theorem idx0_0 : ∀ t : Fin cfg0.N, (cfg0.win 0).index t = ![t.val, 0] :=
  (by decide : ∀ t : Fin grid0.N, win0_0.index t = ![t.val, 0])
theorem idx0_1 : ∀ t : Fin cfg0.N, (cfg0.win 1).index t = ![0, 0] :=
  (by decide : ∀ t : Fin grid0.N, win0_1.index t = ![0, 0])
theorem idx0_2 : ∀ t : Fin cfg0.N, (cfg0.win 2).index t = ![0, t.val] :=
  (by decide : ∀ t : Fin grid0.N, win0_2.index t = ![0, t.val])

theorem blk0 (d : Dev nD) (t : Fin cfg0.N) : (dats m 0 d).blockOf 0 t = rowsOf (tokens m d) (pt8 t) := by
  funext y
  show ((cfg0.win 0).blk t).view.read (Elt F) ((dats m 0 d).A 0) y = _
  rw [A_eq]
  show _root_.cast _ (Vr m d main_v0 (((cfg0.win 0).blk t).view.emb y)) = _
  rw [Vr_v0]
  refine (cast_eq _ _).trans ?_
  unfold rowsOf
  congr 1
  funext a
  refine Fin.ext ?_
  show (cfg0.win 0).index t a * S2048x2048.size a + 1 * (y a).val = _
  rw [idx0_0]
  match a with
  | ⟨0, _⟩ => show t.val * 2048 + 1 * (y 0).val = 2048 * t.val + (y 0).val; omega
  | ⟨1, _⟩ => show 0 * 2048 + 1 * (y 1).val = (y 1).val; omega

theorem blk1 (d : Dev nD) (t : Fin cfg0.N) : (dats m 0 d).blockOf 1 t = weights m d := by
  funext y
  show ((cfg0.win 1).blk t).view.read (Elt F) ((dats m 0 d).A 1) y = _
  rw [A_eq]
  show _root_.cast _ (Vr m d main_arg1 (((cfg0.win 1).blk t).view.emb y)) = _
  rw [Vr_ne m d main_arg1 (by decide)]
  refine (cast_eq _ _).trans ?_
  unfold weights
  congr 1
  funext a
  refine Fin.ext ?_
  show (cfg0.win 1).index t a * S64x2048.size a + 1 * (y a).val = _
  rw [idx0_1]
  match a with
  | ⟨0, _⟩ => show 0 * 64 + 1 * (y 0).val = (y 0).val; omega
  | ⟨1, _⟩ => show 0 * 2048 + 1 * (y 1).val = (y 1).val; omega

theorem before0 (d : Dev nD) (t : Fin cfg0.N) (e) : (dats m 0 d).before 0 t e = rowsOf (tokens m d) (pt8 t) :=
  ((dats m 0 d).before_in_eq_fetched 0 rfl (fun _ => rfl) (fun _ _ _ => rfl) (fun t => (blk0 m d t).symm) t e).trans (blk0 m d t)
theorem before1 (d : Dev nD) (t : Fin cfg0.N) (e) : (dats m 0 d).before 1 t e = weights m d :=
  ((dats m 0 d).before_in_eq_fetched 1 rfl (fun _ => rfl) (fun _ _ _ => rfl) (fun t => (blk1 m d t).symm) t e).trans (blk1 m d t)

/-- The body at a symbolic grid point. -/
theorem body_obligation (d : Dev nD) : BodyObligation (dats m 0 d) (defs₀ (F := F)) 𝒱₀ (none : HIx 1) Set.univ := fun t => by
  rw [bigSep_W0, bigSep_W0, show (dats m 0 d).Φ t.succ = (dats m 0 d).Φ t.castSucc from rfl,
    show (dats m 0 d).owesAt (none : HIx 1) t.succ = (dats m 0 d).owesAt (none : HIx 1) t.castSucc from rfl]
  iintro ⟨HΦ, HO, ⟨%d0, H0⟩, ⟨%d1, H1⟩, ⟨%d2, H2⟩⟩
  rw [before0, before1]
  iapply (kernelRun d (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (rowsOf (tokens m d) (pt8 t)) (weights m d) _)
  isplitl [H0]; · iexact H0
  isplitl [H1]; · iexact H1
  isplitl [H2]; · iexact H2
  iintro ⟨H0, H1, H2⟩
  isplitl [HΦ]; · iexact HΦ
  isplitl [HO]; · iexact HO
  isplitl [H0]; · iexact H0
  isplitl [H1]; · iexact H1
  iexact H2

/-! ## The scores after the eight points -/

theorem final_v0 (d : Dev nD) : (dats m 0 d).arrAt 0 cfg0.N = tokens m d :=
  ((dats m 0 d).arrAt_in 0 rfl _).trans ((A_eq m d 0).trans (Vr_v0 m d))
theorem final_arg1 (d : Dev nD) : (dats m 0 d).arrAt 1 cfg0.N = m ((d : Thread nD τ).loc main_arg1) :=
  ((dats m 0 d).arrAt_in 1 rfl _).trans ((A_eq m d 1).trans (Vr_ne m d main_arg1 (by decide)))

theorem emb2 (t : Fin cfg0.N) (y : S64x2048.Idx) (a : Fin 2) :
    ((((cfg0.win 2).blk t).view.emb y : S64x16384.Idx) a).val = (![0, t.val] : Fin 2 → Nat) a * S64x2048.size a + 1 * (y a).val := by
  show (cfg0.win 2).index t a * S64x2048.size a + 1 * (y a).val = _
  rw [idx0_2]

theorem final_v1 (d : Dev nD) : (dats m 0 d).arrAt 2 cfg0.N = SC m d := by
  refine (dats m 0 d).arrAt_eq_of_cover 2 (SC m d) (fun t _ => ?_) (fun i => ?_)
  · show k0_pay1 (weights m d) (rowsOf (tokens m d) (pt8 t)) = _
    funext y
    show _ = _root_.cast _ (SC m d (((cfg0.win 2).blk t).view.emb y))
    refine Eq.trans ?_ (cast_eq _ _).symm
    have hy : (y 1).val < 2048 := (y 1).isLt
    have e0 : ((((cfg0.win 2).blk t).view.emb y : S64x16384.Idx) 0).val = (y 0).val := by
      rw [emb2]; show 0 * 64 + 1 * (y 0).val = _; omega
    have e1 : ((((cfg0.win 2).blk t).view.emb y : S64x16384.Idx) 1).val = t.val * 2048 + (y 1).val := by
      rw [emb2]; show t.val * 2048 + 1 * (y 1).val = _; omega
    unfold SC scores
    congr 1
    · congr 2
      refine Fin.ext ?_
      show t.val = _ / 2048
      rw [e1]; omega
    · funext a
      refine Fin.ext ?_
      match a with
      | ⟨0, _⟩ => exact e0.symm
      | ⟨1, _⟩ =>
        show (y 1).val = _ % 2048
        rw [e1]; omega
  · have h1 : (i 1).val < 16384 := (i 1).isLt
    have hN : cfg0.N = 8 := N_0
    let t : Fin cfg0.N := ⟨(i 1).val / 2048, by rw [hN]; omega⟩
    refine ⟨t, flush0_2 t, ?_⟩
    refine Finset.mem_map.mpr ⟨(ix2 (i 0) ⟨(i 1).val % 2048, Nat.mod_lt _ (by decide)⟩ : S64x2048.Idx), Finset.mem_univ _, ?_⟩
    funext a
    refine Fin.ext ?_
    refine (emb2 t _ a).trans ?_
    match a with
    | ⟨0, _⟩ => show 0 * 64 + 1 * (i 0).val = (i 0).val; omega
    | ⟨1, _⟩ => show (i 1).val / 2048 * 2048 + 1 * ((i 1).val % 2048) = (i 1).val; omega

end Cert.Route

end
-- ==== Proof.Main.lean ====
/-
  The device's main thread: the reshape, the score kernel's region, the SparseCore call and the two transposes; and the whole program's
  run from any launch memory.
-/
module

public import proofs.«01_k».proof.Proof.Region
public import Idealize.ShloMosaic.Lib.SparseCore.Quiescent

@[expose] public section

noncomputable section

namespace Cert.Route

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open Idealize.ShloMosaic.Pipeline (Dat Window BodyObligation)

variable {F : FTy → Type}

local notation "𝕄" => MT nD τ sig (HIx 1) (Elt F) ℕ UU ℕ

variable [FloatOps F]

variable (m : (ℓ : Loc nD τ sig) → Buf (Elt F) ℓ)

/-! ## The region -/

/-- No prefetched table. -/
abbrev adm : (p : Fin 1) → (pcfgs (F := F) p).Adm := fun p => (cfgs p).toPCfg_adm
abbrev osem0 : Fin 0 → SemLoc sig := fun i => i.elim0
theorem ownSemFacts0 : Pipeline.OwnSemFacts spec0 osem0 := by decide

omit [FloatOps F] in
theorem ownSems0_eq (c : Dev nD) :
    (Pipeline.ownSems0 (Ix := HIx 1) (Name := ℕ) (U := UU) (Lvl := ℕ) (Val := Elt F) (τ := τ) osem0 c : sProp 𝕄) = iprop(emp) :=
  Pipeline.ownSems0_eq_of_list c osem0 [] (by decide) (by decide)

omit [FloatOps F] in
/-- The main thread's debts are the call's, none at the kernels' own index. -/
theorem Otc_none (d : Dev nD) (g) : (K (F := F)).Otc d 0 g none = 0 := by
  unfold SparseCore.Cfg.Otc
  rw [Finset.sum_apply, Finsupp.finset_sum_apply]
  refine Finset.sum_eq_zero fun q _ => ?_
  split
  · rw [Finset.sum_apply, Finsupp.finset_sum_apply]
    refine Finset.sum_eq_zero fun c _ => ?_
    rw [tallyAt_apply, if_neg fun h => nomatch h.2]
  · rfl

/-- The buffers, with `f`, `gi` and `gw` what the scores and the outputs hold. -/
def held7 (d : Dev nD) (f : Buf (Elt F) (sLoc d)) (gi : Buf (Elt F) (iLoc d)) (gw : Buf (Elt F) (wLoc d)) : sProp 𝕄 :=
  iprop((((d : Thread nD τ).loc main_arg0) ↦{fullShare} m ((d : Thread nD τ).loc main_arg0))
    ∗ (((d : Thread nD τ).loc main_arg1) ↦{fullShare} m ((d : Thread nD τ).loc main_arg1))
    ∗ (sLoc d ↦{fullShare} f) ∗ (iLoc d ↦{fullShare} gi) ∗ (wLoc d ↦{fullShare} gw)
    ∗ (((d : Thread nD τ).loc main_v3) ↦{fullShare} m ((d : Thread nD τ).loc main_v3))
    ∗ (((d : Thread nD τ).loc main_v4) ↦{fullShare} m ((d : Thread nD τ).loc main_v4)))

/-- What the thread owes on either side of the region. -/
def debt (d : Dev nD) : sProp 𝕄 := iprop(∃ W, ⌜(K (F := F)).WBelow (T d) W 0⌝ ∗ owes (T d) ((K (F := F)).Otc d 0) W)

set_option backward.isDefEq.respectTransparency.types false in
def reg0 : Pipeline.RegionSeg (pcfgs (F := F)) adm (dats m) (none : HIx 1) defs₀ 𝒱₀ (K (F := F)).L (K (F := F)).lev 0 where
  win := launch0.win.to₀
  block_pos := launch0.block_pos
  stage_whole := launch0.stage_whole
  K := Fin 0
  osem := osem0
  ho := ownSemFacts0
  hbody c := (body_obligation m c).loose
  hwaits c := Pipeline.cellsWaits_intro _ (dats m) (none : HIx 1) 0 c fun w s t => (K (F := F)).mayWait_none _ (Otc_none c)
  pre c := iprop(unscopedBufs c (Vr m c) ∗ debt c)
  post c := iprop(held7 m c (SC m c) (m (iLoc c)) (m (wLoc c)) ∗ debt c)
  X _ := iprop(emp)
  Y _ := iprop(emp)
  Z c := iprop((((c : Thread nD τ).loc main_arg0) ↦{fullShare} m ((c : Thread nD τ).loc main_arg0))
    ∗ (iLoc c ↦{fullShare} m (iLoc c)) ∗ (wLoc c ↦{fullShare} m (wLoc c))
    ∗ (((c : Thread nD τ).loc main_v3) ↦{fullShare} m ((c : Thread nD τ).loc main_v3))
    ∗ (((c : Thread nD τ).loc main_v4) ↦{fullShare} m ((c : Thread nD τ).loc main_v4)))
  hentry c := by
    rw [ownSems0_eq]
    have hsplit := (Pipeline.arrays_of_unscopedBufs (pcfgs (F := F)) adm (dats m) launch0.win launch0.arr_whole c
      ((dats m 0 c).share_full fun _ => rfl) (Vr m c) (A_eq m c)).trans (sep_mono .rfl (Entails.of_eq (unscopedRest0_eq c (Vr m c))))
    rw [Vr_ne m c main_arg0 (by decide), Vr_ne m c main_v2_0 (by decide), Vr_ne m c main_v2_1 (by decide), Vr_ne m c main_v3 (by decide),
      Vr_ne m c main_v4 (by decide)] at hsplit
    iintro ⟨⟨Hub, HO⟩, -, -⟩
    ihave H := hsplit $$ Hub
    icases H with ⟨Ha, H0, Hi, Hw, H3, H4⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin debt
      icases HO with ⟨%W, %hW, HO⟩; iexists W; isplitr; · ipureintro; exact fun p hp => Or.inl (hW p hp)
      iexact HO
    isplitr; · iempintro
    isplitl [H0]; · iexact H0
    isplitl [Hi]; · iexact Hi
    isplitl [Hw]; · iexact Hw
    isplitl [H3]; · iexact H3
    iexact H4
  hin c := by
    rw [show (dats m 0 c).Φ 0 = iprop(emp) from rfl]
    iintro -; iempintro
  hout c := by
    rw [ownSems0_eq, scopedRest0_eq]
    iintro -
    isplitr; · iempintro
    isplitr <;> iempintro
  hexit c := by
    have harr := Entails.of_eq (Pipeline.arrays_eq (Pipeline.pin (pcfgs (F := F)) adm) (dats m) 0 c launch0.arr_whole ((dats m 0 c).share_full fun _ => rfl) ((dats m 0 c).arrAt · cfg0.N))
    rw [bigSep_W0] at harr
    iintro ⟨Ha, HO, -, ⟨H0, Hi, Hw, H3, H4⟩⟩
    ihave H := harr $$ Ha
    icases H with ⟨-, H1, Hs⟩
    imodintro
    isplitr [HO]
    · unfold held7
      isplitl [H0]; · iexact H0
      isplitl [H1]; · rw [← final_arg1 m c]; iexact H1
      isplitl [Hs]; · rw [← final_v1 m c]; iexact Hs
      isplitl [Hi]; · iexact Hi
      isplitl [Hw]; · iexact Hw
      isplitl [H3]; · iexact H3
      iexact H4
    · unfold Pipeline.Dat.owesAt Pipeline.owesWithin debt
      icases HO with ⟨%W, %hW, HO⟩; iexists W; isplitr
      · ipureintro
        intro p hp
        rcases hW hp with h | ⟨w, s, rfl⟩
        · exact h
        · exact le_rfl
      iexact HO

/-- The pipeline's launch state on device `d`. -/
def G (d : Dev nD) : sProp 𝕄 :=
  iprop(Pipeline.cellsGhost (Pipeline.pin (pcfgs (F := F)) adm) EP 0 d ∗ Pipeline.toksInit (Pipeline.pin (pcfgs (F := F)) adm) EP 0 d)

set_option backward.isDefEq.respectTransparency.types false in
/-- The region as the main thread calls it. -/
theorem wp_region [∀ e, Nonempty (Elt F e)] (d : Dev nD) (Φ : PUnit → sProp 𝕄) :
    iprop((iprop(boundary (T d) ∗ held7 m d (SC m d) (m (iLoc d)) (m (wLoc d)) ∗ debt d) -∗ Φ ⟨⟩)
      ∗ boundary (T d) ∗ (unscopedBufs d (Vr m d) ∗ debt d) ∗ levAts (K (F := F)).L (K (F := F)).lev ∗ G d)
      ⊢ wp frame (wpE ((K (F := F)).defs (D (F := F))) 𝒱 (T d) none) Set.univ
          (Prog.lift (.customCall (SparseCore.inner (Pipeline.entry 0)) ())) Φ := by
  have e : (Prog.lift (.customCall (SparseCore.inner (Pipeline.entry 0)) ()) : Prog (TpuEff nD τ sig (Elt F) (SparseCore.Sig (ΛP (F := F)) 1) .tc) PUnit)
      = SparseCore.liftProg (.op (.customCall (Pipeline.entry 0) ()) fun u => .ret u) := rfl
  rw [e]
  refine thru ?_ ((K (F := F)).wp_liftProg (D (F := F)) 𝒱 (T d) Set.univ none _ Φ)
  refine thru ?_ (Pipeline.RegionSeg.wp (pcfgs (F := F)) adm (dats m) (none : HIx 1) cellOf_inj EP defs₀ 𝒱₀ (K (F := F)).L (K (F := F)).lev
    (reg0 m) d none (fun _ h => nomatch h) (fun u => .ret u) Φ)
  rw [show (reg0 m).pre d = iprop(unscopedBufs d (Vr m d) ∗ debt d) from rfl,
    show (reg0 m).post d = iprop(held7 m d (SC m d) (m (iLoc d)) (m (wLoc d)) ∗ debt d) from rfl]
  unfold G
  iintro ⟨HΦ, Hb, Hpre, Hlv, Hg, Ht⟩
  isplitl [HΦ]
  · iintro H
    rw [wp_ret]; imodintro
    iapply HΦ; iexact H
  isplitl [Hb]; · iexact Hb
  isplitl [Hpre]; · iexact Hpre
  isplitl [Hlv]; · iexact Hlv
  isplitl [Hg]; · iexact Hg
  iexact Ht

/-! ## The launch state -/

def u₀ : UU := (initOf (K (F := F)).hsCells (K (F := F)).hsToks, (initOf (Pipeline.cells cfgs cellOf_inj) (Pipeline.launchToks cfgs cellOf_inj), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m (SC m)).x q thr) := by
  unfold u₀
  iintro Hu
  ihave H := (ownU_pair (initOf (K (F := F)).hsCells (K (F := F)).hsToks)
    ((initOf (Pipeline.cells cfgs cellOf_inj) (Pipeline.launchToks cfgs cellOf_inj), 1) : UP × Counters)) $$ Hu
  icases H with ⟨HH, HR⟩
  ihave H := (own_pair_emb embR (initOf (Pipeline.cells cfgs cellOf_inj) (Pipeline.launchToks cfgs cellOf_inj)) (1 : Counters)) $$ HR
  icases H with ⟨HP, -⟩
  imod (Pipeline.fund_ghost (Pipeline.pin (pcfgs (F := F)) adm) EP cellOf_inj) $$ HP with ⟨Hg, Ht⟩
  imodintro
  isplitl [HH]; · iexact HH
  isplitl [Hg Ht]
  · unfold G
    rw [bigSep_sep']
    isplitl [Hg]
    · rw [show (bigSep Finset.univ fun d : Dev nD => Pipeline.cellsGhost (Pipeline.pin (pcfgs (F := F)) adm) EP 0 d)
        = bigSep Finset.univ fun d : Dev nD => bigSep Finset.univ fun p : Fin 1 => Pipeline.cellsGhost (Pipeline.pin (pcfgs (F := F)) adm) EP p d from
        bigSep_congr fun d _ => (bigSep_univ_of_subsingleton (0 : Fin 1) (Φ := fun p => Pipeline.cellsGhost (Pipeline.pin (pcfgs (F := F)) adm) EP p d)).symm]
      iexact Hg
    · rw [show (bigSep Finset.univ fun d : Dev nD => Pipeline.toksInit (Pipeline.pin (pcfgs (F := F)) adm) EP 0 d)
        = bigSep Finset.univ fun d : Dev nD => bigSep Finset.univ fun p : Fin 1 => Pipeline.toksInit (Pipeline.pin (pcfgs (F := F)) adm) EP p d from
        bigSep_congr fun d _ => (bigSep_univ_of_subsingleton (0 : Fin 1) (Φ := fun p => Pipeline.toksInit (Pipeline.pin (pcfgs (F := F)) adm) EP p d)).symm]
      iexact Ht
  rw [show (bigSep Finset.univ fun thr : Thread nD τ => bigSep Finset.univ fun q : Fin 1 => (P (F := F) m (SC m)).x q thr) = bigSep Finset.univ fun _ => iprop(emp) from
    bigSep_congr fun _ _ => bigSep_univ_of_subsingleton (0 : Fin 1), bigSep_emp']
  iempintro

/-! ## @main -/

/-- The unscoped buffers' references. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

theorem opR_sub : (opR (F := F)).bufs ⊆ ucRefs := fun b hb =>
  Finset.mem_filter.mpr ⟨StableHlo.reshape_bufs_sub _ _ _ _ _ _ hb, fun h' => Bool.false_ne_true (((opR (F := F)).no_scoped b hb).symm.trans h')⟩

abbrev opI : HloOp τ sig (Elt F) :=
  StableHlo.unary main_v2_0 main_v3 ((transpose S16384x8 [1, 0] · transposes_S8x16384_S16384x8_1_0) : (⟨S8x16384, .i32⟩ : BufTy).Contents (Elt F) → (⟨S16384x8, .i32⟩ : BufTy).Contents (Elt F))
abbrev opW : HloOp τ sig (Elt F) :=
  StableHlo.unary main_v2_1 main_v4 ((transpose S16384x8 [1, 0] · transposes_S8x16384_S16384x8_1_0) : (⟨S8x16384, .f32⟩ : BufTy).Contents (Elt F) → (⟨S16384x8, .f32⟩ : BufTy).Contents (Elt F))

/-- The program's first result; its second. -/
def resI (d : Dev nD) : S16384x8.Idx → BitVec 32 := transpose S16384x8 [1, 0] (outI (SC m d)) transposes_S8x16384_S16384x8_1_0
def resW (d : Dev nD) : S16384x8.Idx → F .f32 := transpose S16384x8 [1, 0] (outW (SC m d)) transposes_S8x16384_S16384x8_1_0

abbrev i' : DevRef τ sig := Proc.devRef .tc (main_v2_0 : Ref sig .tc)
abbrev w' : DevRef τ sig := Proc.devRef .tc (main_v2_1 : Ref sig .tc)
abbrev i3' : DevRef τ sig := Proc.devRef .tc (main_v3 : Ref sig .tc)
abbrev w4' : DevRef τ sig := Proc.devRef .tc (main_v4 : Ref sig .tc)

def VI (d : Dev nD) : Valuation τ sig (Elt F) := Function.update (V₀ m d) i' (outI (SC m d))
def VW (d : Dev nD) : Valuation τ sig (Elt F) := Function.update (V₀ m d) w' (outW (SC m d))

theorem VI_i (d : Dev nD) : VI m d i' = outI (SC m d) := Function.update_self _ _ _
theorem VI_3 (d : Dev nD) : VI m d i3' = m ((d : Thread nD τ).loc main_v3) := Function.update_of_ne (show i3' ≠ i' by decide) _ _
theorem VW_w (d : Dev nD) : VW m d w' = outW (SC m d) := Function.update_self _ _ _
theorem VW_4 (d : Dev nD) : VW m d w4' = m ((d : Thread nD τ).loc main_v4) := Function.update_of_ne (show w4' ≠ w' by decide) _ _

omit [FloatOps F] in
theorem held_I (d : Dev nD) (W : Valuation τ sig (Elt F)) :
    (StableHlo.held (T d) {i', i3'} W : sProp 𝕄) = iprop((iLoc d ↦{fullShare} W i') ∗ ((d : Thread nD τ).loc main_v3) ↦{fullShare} W i3') := by
  unfold StableHlo.held
  rw [SparseCore.bigSep_insert' (by decide), bigSep_singleton]
omit [FloatOps F] in
theorem held_W (d : Dev nD) (W : Valuation τ sig (Elt F)) :
    (StableHlo.held (T d) {w', w4'} W : sProp 𝕄) = iprop((wLoc d ↦{fullShare} W w') ∗ ((d : Thread nD τ).loc main_v4) ↦{fullShare} W w4') := by
  unfold StableHlo.held
  rw [SparseCore.bigSep_insert' (by decide), bigSep_singleton]

theorem after_I (d : Dev nD) : (opI (F := F)).result (VI m d) i3' = resI m d :=
  (StableHlo.unary_result _ _ _ _ _ _).trans (by unfold resI; rw [VI_i])
theorem after_W (d : Dev nD) : (opW (F := F)).result (VW m d) w4' = resW m d :=
  (StableHlo.unary_result _ _ _ _ _ _).trans (by unfold resW; rw [VW_w])

/-- What @main leaves the claims. -/
abbrev FIN (d : Dev nD) : sProp 𝕄 :=
  iprop((((d : Thread nD τ).loc main_arg0) ↦{fullShare} m ((d : Thread nD τ).loc main_arg0))
    ∗ (((d : Thread nD τ).loc main_arg1) ↦{fullShare} m ((d : Thread nD τ).loc main_arg1))
    ∗ (((d : Thread nD τ).loc main_v3) ↦{fullShare} resI m d)
    ∗ (((d : Thread nD τ).loc main_v4) ↦{fullShare} resW m d))

variable (ρ : Dev nD → PrngReg)

omit [FloatOps F] in
/-- The main thread's state before the call is its debt and the rest. -/
theorem tcSt_split (d : Dev nD) : ∃ R : sProp 𝕄, (K (F := F)).tcSt EH d 0 = iprop(debt d ∗ R) := ⟨_, rfl⟩

theorem hmain [∀ e, Nonempty (Elt F e)] (κ : GSem nD τ sig → ℕ) (d : Dev nD) :
    iprop((K (F := F)).ctx EH (P m (SC m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (T d) ucRefs (V₀ m d) from unscopedBufs_held d (V₀ m d)]
  simp only [main, wp_bind, wp_pure]
  iintro ⟨#Hctx, Hst, ⟨Hb, Hbufs, Hts, -⟩, HG⟩
  -- the reshape
  iapply (StableHlo.wp_hlo_within 𝒱 (SparseCore.T d) none Set.univ (op := opR) (S := ucRefs) opR_sub (V := V₀ m d)) $$ [Hb Hbufs]
  · isplitl [Hb] <;> iassumption
  iintro ⟨Hb, Hbufs⟩
  rw [wp_ret]; imodintro
  ihave Hbufs' := (Entails.of_eq (unscopedBufs_held d (V₁ m d)).symm) $$ Hbufs
  -- the region
  obtain ⟨R, hR⟩ := tcSt_split (F := F) d
  ihave Hst' := (Entails.of_eq hR) $$ Hst
  icases Hst' with ⟨HO, Hrest⟩
  iapply (wp_region m d _)
  isplitr [Hb Hbufs' HO HG]
  swap
  · isplitl [Hb]; · iexact Hb
    isplitl [Hbufs' HO]
    · isplitl [Hbufs']; · iexact Hbufs'
      iexact HO
    isplitr; · iapply ((K (F := F)).ctx_levAts (EH := EH) (P := P m (SC m)) κ); iexact Hctx
    iexact HG
  unfold held7
  iintro ⟨Hb, ⟨H0, H1, Hs, Hi, Hw, H3, H4⟩, HO⟩
  -- the call
  iapply ((K (F := F)).wp_run (D (F := F)) 𝒱 (EH := EH) (P := P m (SC m)) κ d 0)
  isplitr; · iexact Hctx
  isplitl [HO Hrest]
  · iapply (Entails.of_eq hR.symm)
    isplitl [HO]; · iexact HO
    iexact Hrest
  isplitl [Hs Hi Hw]
  · rw [st0_eq]
    isplitl [Hs]; · iexact Hs
    isplitl [Hi]; · iexact Hi
    iexact Hw
  iintro ⟨Hst, Hdn⟩
  ihave Hdn' := (Entails.of_eq (dn0_eq m (SC m) d)) $$ Hdn
  icases Hdn' with ⟨-, Hi, Hw⟩
  -- the two transposes
  iapply (StableHlo.wp_hlo_within 𝒱 (SparseCore.T d) none Set.univ (op := opI) (S := {i', i3'}) (StableHlo.unary_bufs _ _ _ _ _).subset (V := VI m d)) $$ [Hb Hi H3]
  · isplitl [Hb]; · iexact Hb
    rw [held_I, VI_i, VI_3]
    isplitl [Hi] <;> iassumption
  iintro ⟨Hb, Hheld⟩
  rw [wp_ret]; imodintro
  ihave Hh := (Entails.of_eq (held_I d _)) $$ Hheld
  icases Hh with ⟨-, H3⟩
  iapply (StableHlo.wp_hlo_within 𝒱 (SparseCore.T d) none Set.univ (op := opW) (S := {w', w4'}) (StableHlo.unary_bufs _ _ _ _ _).subset (V := VW m d)) $$ [Hb Hw H4]
  · isplitl [Hb]; · iexact Hb
    rw [held_W, VW_w, VW_4]
    isplitl [Hw] <;> iassumption
  iintro ⟨Hb, Hheld⟩
  rw [wp_ret]; imodintro
  ihave Hh := (Entails.of_eq (held_W d _)) $$ Hheld
  icases Hh with ⟨-, H4⟩
  rw [after_I, after_W]
  imodintro
  isplitl [Hst]; · iexact Hst
  isplitr [Hb Hts]
  · isplitl [H0]; · iexact H0
    isplitl [H1]; · iexact H1
    isplitl [H3]; · iexact H3
    iexact H4
  isplitl [Hb] <;> iassumption

/-! ## The run -/

def fq (d : Dev nD) (s' : Phys nD τ sig (Elt F)) : Prop :=
  s'.mem.mem ((d : Thread nD τ).loc main_arg0) = m ((d : Thread nD τ).loc main_arg0) ∧ s'.mem.mem ((d : Thread nD τ).loc main_arg1) = m ((d : Thread nD τ).loc main_arg1)
    ∧ s'.mem.mem ((d : Thread nD τ).loc main_v3) = resI m d ∧ s'.mem.mem ((d : Thread nD τ).loc main_v4) = resW m d

omit [FloatOps F] in
/-- A buffer held whole is what the memory holds. -/
theorem agree (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hi, HSI⟩
  ihave H := (persistent_entails_right (SI_pointsTo_agree (st := s') (ℓ := ℓ) (I := Finset.univ) (q := fullShare) (f := f))) $$ [HSI Hi]
  · isplitl [HSI] <;> iassumption
  icases H with ⟨%h1, HSI, -⟩
  isplitr; · ipureintro; exact funext fun i => h1 i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H3, H4⟩, HSI⟩
  ihave H := (agree s' _ _) $$ [H0 HSI]
  · isplitl [H0] <;> iassumption
  icases H with ⟨%h0, HSI⟩
  ihave H := (agree s' _ _) $$ [H1 HSI]
  · isplitl [H1] <;> iassumption
  icases H with ⟨%h1, HSI⟩
  ihave H := (agree s' _ _) $$ [H3 HSI]
  · isplitl [H3] <;> iassumption
  icases H with ⟨%h3, HSI⟩
  ihave H := (agree s' _ _) $$ [H4 HSI]
  · isplitl [H4] <;> iassumption
  icases H with ⟨%h4, HSI⟩
  ipureintro; exact ⟨h0, h1, h3, h4⟩

def QC : PUnit × MemSt nD τ sig (Elt F) → Prop := fun r =>
  (∀ d : Dev nD, r.2.mem ((d : Thread nD τ).loc main_arg0) = m ((d : Thread nD τ).loc main_arg0) ∧ r.2.mem ((d : Thread nD τ).loc main_arg1) = m ((d : Thread nD τ).loc main_arg1)
    ∧ r.2.mem ((d : Thread nD τ).loc main_v3) = resI m d ∧ r.2.mem ((d : Thread nD τ).loc main_v4) = resW m d) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (SC m)) (A := ∅) facts v₀
    (fun q hq => match q with | 0 => nomatch hq)
    (fun q _ => match q with | 0 => tileObl m (SC m) facts)
    (fun q _ => match q with | 0 => SparseCore.Cfg.VecSplit.of_plain (vecSplit m (SC m)))
    m ρ main (fun d => G d) (FIN m) (u₀ (F := F)) (sep_elim_left.trans (hu₀ m)) (hmain m ρ) (fq m) (hfin m) (QC m) (fun _ h hz => ⟨h, hz⟩)

end Cert.Route

end
-- ==== Proof.Same.lean ====
/-
  The kernel as printed and the idealized kernel have the same text: their body tables are equal, label by label.
-/
module
public import proofs.«01_k».proof.Defs
public import proofs.«01_k».proof.Proof.Gen.Kernel
public import proofs.«01_k».proof.Proof.Gen.KernelIdeal

public section

namespace Cert.Route

open Idealize.ShloMosaic

/-- The kernels' bodies agree on every processor. -/
theorem bodies_same : Cert.Kernel.defs₀ (F := Bits) = Cert.KernelIdeal.defs₀ (F := Bits) := by
  funext p l a
  match p, l, a with
  | .tc, 0, (t, s) => rfl
  | .tc, 1, a => rfl
  | .scVector c s, 0, a => rfl
  | .scVector c s, 1, a => rfl
  | .scScalar c, 0, a => rfl
  | .scScalar c, 1, a => rfl

/-- So do the tables with the regions and the dispatch. -/
theorem tables_same : Cert.Kernel.defs (F := Bits) = Cert.KernelIdeal.defs (F := Bits) := by
  unfold Cert.Kernel.defs
  rw [bodies_same]
  rfl

end Cert.Route

end
-- ==== Proof.Soft.lean ====
/-
  One token's scores over the extended reals: the quotients of the exponentials of its logits, each less the greatest, by their sum.
-/
module
public import Idealize.ShloMosaic.PureOps.Ideal.Laws
public import Idealize.ShloMosaic.Lib.ValueIdx

@[expose] public section

noncomputable section

namespace Cert.Route

open Idealize.ShloMosaic

/-- The logit of token `c` for expert `e`. -/
def logit (X : (⟨2, ![16384, 2048]⟩ : Shape).Idx → EReal) (w : (⟨2, ![64, 2048]⟩ : Shape).Idx → EReal) (c : Fin 16384) (e : Fin 64) : EReal :=
  ∑ k : Fin 2048, X (ValueIdx.ix2 c k) * w (ValueIdx.ix2 e k)

/-- The exponential of a logit less the greatest. -/
def expo (L : Fin 64 → EReal) (e : Fin 64) : EReal := Ideal.exp (L e - Finset.univ.sup L)

/-- The scores of a token with logits `L`. -/
def soft (L : Fin 64 → EReal) (e : Fin 64) : EReal := Ideal.div (expo L e) (∑ e', expo L e')

theorem exp_nonneg (x : EReal) : 0 ≤ Ideal.exp x := by
  induction x with
  | bot => exact le_rfl
  | top => exact le_top
  | coe r => exact EReal.coe_nonneg.mpr (Real.exp_pos r).le

theorem expo_nonneg (L : Fin 64 → EReal) (e : Fin 64) : 0 ≤ expo L e := exp_nonneg _

/-- Where two scores differ, none is negative. -/
theorem soft_nonneg {L : Fin 64 → EReal} {a b : Fin 64} (hab : soft L a ≠ soft L b) (e : Fin 64) : 0 ≤ soft L e := by
  have hs : 0 ≤ ∑ e', expo L e' := Finset.sum_nonneg fun _ _ => expo_nonneg _ _
  have hne : ∑ e', expo L e' ≠ 0 := by
    intro hz
    have h0 : ∀ i, expo L i = 0 := fun i =>
      (Finset.sum_eq_zero_iff_of_nonneg fun _ _ => expo_nonneg _ _).mp hz i (Finset.mem_univ _)
    exact hab (by unfold soft; rw [h0 a, h0 b])
  unfold soft Ideal.div
  rw [if_neg hne]
  exact mul_nonneg (expo_nonneg _ _) (EReal.inv_nonneg_of_nonneg hs)

/-- The pattern of minus infinity. -/
theorem ofBits_neg_inf : Ideal.ofBits .f32 0xFF800000#32 = ⊥ := by simp [Ideal.ofBits, Ideal.ieee]

/-- A fold of `max` from minus infinity is the supremum. -/
theorem fold_max {n : ℕ} (f : Fin n → EReal) : (Finset.univ : Finset (Fin n)).fold max (Ideal.ofBits .f32 0xFF800000#32) f = Finset.univ.sup f := by
  rw [ofBits_neg_inf]; rfl

end Cert.Route

end
-- ==== Proof.Pay.lean ====
/-
  The scores the TensorCore's kernel leaves, over the extended reals: each column is the scores of its token.
-/
module
public import proofs.«01_k».proof.Proof.Region
public import proofs.«01_k».proof.Proof.Soft

@[expose] public section

noncomputable section

namespace Cert.Route

open Idealize.ShloMosaic Cert.KernelIdeal Cert.KernelIdeal.Gen

theorem lhs0 (i : S64x2048.Idx) (q : dot_S64x2048_S2048x2048_S64x2048_1_1_0_0_n_n.contr.Idx) :
    (dot_S64x2048_S2048x2048_S64x2048_1_1_0_0_n_n.lhsIdx i q 0).val = (i 0).val := by
  unfold DotDims.lhsIdx
  rw [dif_neg (by decide), dif_pos (by decide)]
  rfl
theorem rhs0 (i : S64x2048.Idx) (q : dot_S64x2048_S2048x2048_S64x2048_1_1_0_0_n_n.contr.Idx) :
    (dot_S64x2048_S2048x2048_S64x2048_1_1_0_0_n_n.rhsIdx i q 0).val = (i 1).val := by
  unfold DotDims.rhsIdx
  rw [dif_neg (by decide), dif_pos (by decide)]
  rfl

/-- The product of the weights with a block of tokens. -/
theorem product_apply (w : S64x2048.Idx → EReal) (R : S2048x2048.Idx → EReal) (i : S64x2048.Idx) :
    matmul (F := Ideal) (φ₁ := .f32) (φ₂ := .f32) dot_S64x2048_S2048x2048_S64x2048_1_1_0_0_n_n none w R (constant S64x2048 .f32 0x00000000#32) i
      = ∑ k : Fin 2048, R (ValueIdx.ix2 (i 1) k) * w (ValueIdx.ix2 (i 0) k) := by
  simp only [matmul]
  rw [Ideal.matmul_constant_zero_apply,
    ← Equiv.sum_comp (ValueIdx.contrEquiv1 dot_S64x2048_S2048x2048_S64x2048_1_1_0_0_n_n 2048 rfl rfl).symm]
  refine Finset.sum_congr rfl fun k _ => ?_
  have hk := ValueIdx.contrEquiv1_symm_val dot_S64x2048_S2048x2048_S64x2048_1_1_0_0_n_n 2048 rfl rfl k
  have el : dot_S64x2048_S2048x2048_S64x2048_1_1_0_0_n_n.lhsIdx i ((ValueIdx.contrEquiv1 dot_S64x2048_S2048x2048_S64x2048_1_1_0_0_n_n 2048 rfl rfl).symm k)
      = ValueIdx.ix2 (i 0) k := funext fun a => Fin.ext (by
    match a with
    | ⟨0, _⟩ => exact lhs0 _ _
    | ⟨1, _⟩ => exact (dot_S64x2048_S2048x2048_S64x2048_1_1_0_0_n_n.lhsIdx_val_of_single rfl i _).trans hk)
  have er : dot_S64x2048_S2048x2048_S64x2048_1_1_0_0_n_n.rhsIdx i ((ValueIdx.contrEquiv1 dot_S64x2048_S2048x2048_S64x2048_1_1_0_0_n_n 2048 rfl rfl).symm k)
      = ValueIdx.ix2 (i 1) k := funext fun a => Fin.ext (by
    match a with
    | ⟨0, _⟩ => exact rhs0 _ _
    | ⟨1, _⟩ => exact (dot_S64x2048_S2048x2048_S64x2048_1_1_0_0_n_n.rhsIdx_val_of_single rfl i _).trans hk)
  rw [el, er, mul_comm]
  rfl

/-- A row of column statistics read back over the whole block. -/
theorem spread_apply (x : S2048.Idx → EReal) (e : Fin 64) (p : Fin 2048) :
    broadcastTo S64x2048 (shapeCast S1x2048 x shapeCasts_S2048_S1x2048) broadcasts_S1x2048_S64x2048 (ValueIdx.ix2 e p) = x (ValueIdx.ix1 p) := by
  rw [broadcastTo_apply _ broadcasts_S1x2048_S64x2048 (ValueIdx.ix2 e p) (ValueIdx.ix2 (0 : Fin 1) p) (fun a => by
    match a with
    | ⟨0, _⟩ => rfl
    | ⟨1, _⟩ => rfl)]
  refine shapeCast_apply x shapeCasts_S2048_S1x2048 _ (ValueIdx.ix1 p) ?_
  rw [Shape.rowMajor_val_one, Shape.rowMajor_val_two]
  show p.val = 0 * 2048 + p.val
  omega

/-- The kernel's arithmetic on a block of tokens, read at an expert and a token. -/
theorem pay_apply (w : S64x2048.Idx → EReal) (R : S2048x2048.Idx → EReal) (e : Fin 64) (p : Fin 2048) :
    k0_pay1 (F := Ideal) w R (ValueIdx.ix2 e p)
      = soft (fun e' => ∑ k : Fin 2048, R (ValueIdx.ix2 p k) * w (ValueIdx.ix2 e' k)) e := by
  have hm : ∀ y : S64x2048.Idx → EReal,
      multiReduction (F := Ideal) (φ := .f32) .maximumf [0] S2048 y 0xFF800000#32 reduces_S64x2048_S2048 (.inl rfl) rfl (ValueIdx.ix1 p)
        = Finset.univ.sup fun e' : Fin 64 => y (ValueIdx.ix2 e' p) := by
    intro y
    refine (Ideal.multiReduction_maximumf_single _ _ _ _ _ _).trans ((fold_max _).trans (congrArg _ (funext fun e' => congrArg y (funext fun a => Fin.ext ?_))))
    match a with
    | ⟨0, _⟩ => rfl
    | ⟨1, _⟩ => rfl
  have ha : ∀ y : S64x2048.Idx → EReal,
      multiReduction (F := Ideal) (φ := .f32) .add [0] S2048 y 0x00000000#32 reduces_S64x2048_S2048 (.inl rfl) rfl (ValueIdx.ix1 p)
        = ∑ e' : Fin 64, y (ValueIdx.ix2 e' p) := by
    intro y
    refine (Ideal.multiReduction_add_single _ _ _ _ _ _).trans
      (Finset.sum_congr rfl fun e' _ => congrArg y (funext fun a => Fin.ext ?_))
    match a with
    | ⟨0, _⟩ => rfl
    | ⟨1, _⟩ => rfl
  unfold k0_pay1
  simp only [shapeCast_self]
  show Ideal.div (Ideal.exp (matmul (F := Ideal) (φ₁ := .f32) (φ₂ := .f32) dot_S64x2048_S2048x2048_S64x2048_1_1_0_0_n_n none w R (constant S64x2048 .f32 0x00000000#32) (ValueIdx.ix2 e p) - _)) _ = _
  rw [spread_apply, spread_apply, hm, ha]
  simp only [product_apply]
  unfold soft expo
  refine congrArg₂ Ideal.div rfl (Finset.sum_congr rfl fun e' _ => ?_)
  show Ideal.exp (matmul (F := Ideal) (φ₁ := .f32) (φ₂ := .f32) dot_S64x2048_S2048x2048_S64x2048_1_1_0_0_n_n none w R (constant S64x2048 .f32 0x00000000#32) (ValueIdx.ix2 e' p) - _) = _
  rw [spread_apply, hm]
  simp only [product_apply]

/-- A column of the scores is the scores of its token. -/
theorem column_scores (w : S64x2048.Idx → EReal) (X : S16384x2048.Idx → EReal) (c : Fin 16384) :
    column (scores (F := Ideal) w X) c = soft (logit X w c) := by
  funext e
  show k0_pay1 (F := Ideal) w (rowsOf (F := Ideal) X _) (ValueIdx.ix2 e _) = _
  rw [pay_apply]
  refine congrFun (congrArg soft (funext fun e' => Finset.sum_congr rfl fun k _ => congrArg (· * _) ?_)) e
  unfold rowsOf
  refine congrArg X (funext fun a => Fin.ext ?_)
  match a with
  | ⟨0, _⟩ => exact Nat.div_add_mod _ _
  | ⟨1, _⟩ => rfl

end Cert.Route

end
-- ==== Proof.Differ.lean ====
/-
  "No two of a row are equal", read back from the chain the mask says it with.
-/
module
public import proofs.«01_k».proof.Proof.Gen.On_untied
public import Idealize.ShloMosaic.PureOps.Ideal.Laws
public import Idealize.ShloMosaic.Lib.ReduceAll
public import Idealize.ShloMosaic.Lib.ValueIdx
public import Idealize.ShloMosaic.Lib.Pipeline.Value

@[expose] public section

noncomputable section

namespace Cert.Route

open Idealize.ShloMosaic Cert.On_untied Cert.On_untied.Gen

/-- One pair's word: not equal, or the same place. -/
theorem pair_word {x y : EReal} {a b : BitVec 32}
    (h : IntOp.ori (~~~(Ideal.cmp .oeq x y)) (IntOp.cmpi .eq a b) = 1#1) (e : x = y) : a = b := by
  have h1 : Ideal.cmp .oeq x y = 1#1 := by unfold Ideal.cmp; simp [e]
  rw [h1] at h
  by_contra hne
  have h2 : IntOp.cmpi .eq a b = 0#1 := by
    have hb : (a == b) = false := by simpa using hne
    show BitVec.ofBool (a == b) = 0#1
    rw [hb]; rfl
  rw [h2] at h
  exact absurd h (by decide)

/-- The word of a row of 64 values: no two of them are equal. -/
def differ64 {F : FTy → Type} [FloatOps F] (y : S16384x64.Idx → F .f32) : IVec S16384x8 1 :=
  broadcastInDim S16384x8 ![0, 1] bcast_S16384x1_S16384x8_0_1 (broadcastInDim S16384x1 ![0] bcast_S16384_S16384x1_0
    (Host.reduce IntOp.andi
      (ori (noti (cmpf (φ := .f32) .oeq
          (broadcastInDim S16384x64x64 ![0, 1, 2] bcast_S16384x64x1_S16384x64x64_0_1_2 (broadcastInDim S16384x64x1 ![0, 1] bcast_S16384x64_S16384x64x1_0_1 y))
          (broadcastInDim S16384x64x64 ![0, 1, 2] bcast_S16384x1x64_S16384x64x64_0_1_2 (broadcastInDim S16384x1x64 ![0, 2] bcast_S16384x64_S16384x1x64_0_2 y))))
        (broadcastInDim S16384x64x64 ![0, 1, 2] bcast_S1x64x64_S16384x64x64_0_1_2 (cmpi .eq (iotaInDim S1x64x64 32 1) (iotaInDim S1x64x64 32 2))))
      (constantI S_ 1 1#1) reducesTo_S16384x64x64_S16384_d1_2 h_S_))

theorem differ64_injective (y : S16384x64.Idx → EReal) (c : Fin 16384) (j : Fin 8) (h : differ64 (F := Ideal) y (ValueIdx.ix2 c j) = 1#1) :
    Function.Injective fun e : Fin 64 => y (ValueIdx.ix2 c e) := by
  unfold differ64 at h
  rw [broadcastInDim_apply _ bcast_S16384x1_S16384x8_0_1 _ (ValueIdx.ix2 c j) (ValueIdx.ix2 c (0 : Fin 1)) (fun a => by
      match a with
      | ⟨0, _⟩ => rfl
      | ⟨1, _⟩ => rfl),
    broadcastInDim_apply _ bcast_S16384_S16384x1_0 _ (ValueIdx.ix2 c (0 : Fin 1)) (ValueIdx.ix1 c) (fun a => by
      match a with
      | ⟨0, _⟩ => rfl)] at h
  intro a b hab
  have hw := Host.reduce_andi_eq_one _ _ _ _ _ h (ValueIdx.ix3 c a b) (funext fun q => Fin.ext (by
    match q with
    | ⟨0, _⟩ => rfl))
  have hl : broadcastInDim S16384x64x64 ![0, 1, 2] bcast_S16384x64x1_S16384x64x64_0_1_2 (broadcastInDim S16384x64x1 ![0, 1] bcast_S16384x64_S16384x64x1_0_1 y) (ValueIdx.ix3 c a b)
      = y (ValueIdx.ix2 c a) := by
    rw [broadcastInDim_apply _ bcast_S16384x64x1_S16384x64x64_0_1_2 _ (ValueIdx.ix3 c a b) (ValueIdx.ix3 c a (0 : Fin 1)) (fun q => by
        match q with
        | ⟨0, _⟩ => rfl
        | ⟨1, _⟩ => rfl
        | ⟨2, _⟩ => rfl),
      broadcastInDim_apply _ bcast_S16384x64_S16384x64x1_0_1 _ (ValueIdx.ix3 c a (0 : Fin 1)) (ValueIdx.ix2 c a) (fun q => by
        match q with
        | ⟨0, _⟩ => rfl
        | ⟨1, _⟩ => rfl)]
  have hr : broadcastInDim S16384x64x64 ![0, 1, 2] bcast_S16384x1x64_S16384x64x64_0_1_2 (broadcastInDim S16384x1x64 ![0, 2] bcast_S16384x64_S16384x1x64_0_2 y) (ValueIdx.ix3 c a b)
      = y (ValueIdx.ix2 c b) := by
    rw [broadcastInDim_apply _ bcast_S16384x1x64_S16384x64x64_0_1_2 _ (ValueIdx.ix3 c a b) (ValueIdx.ix3 c (0 : Fin 1) b) (fun q => by
        match q with
        | ⟨0, _⟩ => rfl
        | ⟨1, _⟩ => rfl
        | ⟨2, _⟩ => rfl),
      broadcastInDim_apply _ bcast_S16384x64_S16384x1x64_0_2 _ (ValueIdx.ix3 c (0 : Fin 1) b) (ValueIdx.ix2 c b) (fun q => by
        match q with
        | ⟨0, _⟩ => rfl
        | ⟨1, _⟩ => rfl)]
  have hi : broadcastInDim S16384x64x64 ![0, 1, 2] bcast_S1x64x64_S16384x64x64_0_1_2 (cmpi .eq (iotaInDim S1x64x64 32 1) (iotaInDim S1x64x64 32 2)) (ValueIdx.ix3 c a b)
      = IntOp.cmpi .eq (BitVec.ofNat 32 a.val) (BitVec.ofNat 32 b.val) := by
    rw [broadcastInDim_apply _ bcast_S1x64x64_S16384x64x64_0_1_2 _ (ValueIdx.ix3 c a b) (ValueIdx.ix3 (0 : Fin 1) a b) (fun q => by
        match q with
        | ⟨0, _⟩ => rfl
        | ⟨1, _⟩ => rfl
        | ⟨2, _⟩ => rfl)]
    rfl
  have hv : IntOp.ori (~~~(Ideal.cmp .oeq
      (broadcastInDim S16384x64x64 ![0, 1, 2] bcast_S16384x64x1_S16384x64x64_0_1_2 (broadcastInDim S16384x64x1 ![0, 1] bcast_S16384x64_S16384x64x1_0_1 y) (ValueIdx.ix3 c a b))
      (broadcastInDim S16384x64x64 ![0, 1, 2] bcast_S16384x1x64_S16384x64x64_0_1_2 (broadcastInDim S16384x1x64 ![0, 2] bcast_S16384x64_S16384x1x64_0_2 y) (ValueIdx.ix3 c a b))))
      (broadcastInDim S16384x64x64 ![0, 1, 2] bcast_S1x64x64_S16384x64x64_0_1_2 (cmpi .eq (iotaInDim S1x64x64 32 1) (iotaInDim S1x64x64 32 2)) (ValueIdx.ix3 c a b)) = 1#1 := hw
  rw [hl, hr, hi] at hv
  have hn := congrArg BitVec.toNat (pair_word hv hab)
  rw [BitVec.toNat_ofNat, BitVec.toNat_ofNat] at hn
  have := a.isLt
  have := b.isLt
  exact Fin.ext (by omega)

/-- The word of a row of 8 values: no two of them are equal. -/
def differ8 {F : FTy → Type} [FloatOps F] (y : S16384x8.Idx → F .f32) : IVec S16384x8 1 :=
  broadcastInDim S16384x8 ![0, 1] bcast_S16384x1_S16384x8_0_1 (broadcastInDim S16384x1 ![0] bcast_S16384_S16384x1_0
    (Host.reduce IntOp.andi
      (ori (noti (cmpf (φ := .f32) .oeq
          (broadcastInDim S16384x8x8 ![0, 1, 2] bcast_S16384x8x1_S16384x8x8_0_1_2 (broadcastInDim S16384x8x1 ![0, 1] bcast_S16384x8_S16384x8x1_0_1 y))
          (broadcastInDim S16384x8x8 ![0, 1, 2] bcast_S16384x1x8_S16384x8x8_0_1_2 (broadcastInDim S16384x1x8 ![0, 2] bcast_S16384x8_S16384x1x8_0_2 y))))
        (broadcastInDim S16384x8x8 ![0, 1, 2] bcast_S1x8x8_S16384x8x8_0_1_2 (cmpi .eq (iotaInDim S1x8x8 32 1) (iotaInDim S1x8x8 32 2))))
      (constantI S_ 1 1#1) reducesTo_S16384x8x8_S16384_d1_2 h_S_))

theorem differ8_injective (y : S16384x8.Idx → EReal) (c : Fin 16384) (j : Fin 8) (h : differ8 (F := Ideal) y (ValueIdx.ix2 c j) = 1#1) :
    Function.Injective fun e : Fin 8 => y (ValueIdx.ix2 c e) := by
  unfold differ8 at h
  rw [broadcastInDim_apply _ bcast_S16384x1_S16384x8_0_1 _ (ValueIdx.ix2 c j) (ValueIdx.ix2 c (0 : Fin 1)) (fun a => by
      match a with
      | ⟨0, _⟩ => rfl
      | ⟨1, _⟩ => rfl),
    broadcastInDim_apply _ bcast_S16384_S16384x1_0 _ (ValueIdx.ix2 c (0 : Fin 1)) (ValueIdx.ix1 c) (fun a => by
      match a with
      | ⟨0, _⟩ => rfl)] at h
  intro a b hab
  have hw := Host.reduce_andi_eq_one _ _ _ _ _ h (ValueIdx.ix3 c a b) (funext fun q => Fin.ext (by
    match q with
    | ⟨0, _⟩ => rfl))
  have hl : broadcastInDim S16384x8x8 ![0, 1, 2] bcast_S16384x8x1_S16384x8x8_0_1_2 (broadcastInDim S16384x8x1 ![0, 1] bcast_S16384x8_S16384x8x1_0_1 y) (ValueIdx.ix3 c a b)
      = y (ValueIdx.ix2 c a) := by
    rw [broadcastInDim_apply _ bcast_S16384x8x1_S16384x8x8_0_1_2 _ (ValueIdx.ix3 c a b) (ValueIdx.ix3 c a (0 : Fin 1)) (fun q => by
        match q with
        | ⟨0, _⟩ => rfl
        | ⟨1, _⟩ => rfl
        | ⟨2, _⟩ => rfl),
      broadcastInDim_apply _ bcast_S16384x8_S16384x8x1_0_1 _ (ValueIdx.ix3 c a (0 : Fin 1)) (ValueIdx.ix2 c a) (fun q => by
        match q with
        | ⟨0, _⟩ => rfl
        | ⟨1, _⟩ => rfl)]
  have hr : broadcastInDim S16384x8x8 ![0, 1, 2] bcast_S16384x1x8_S16384x8x8_0_1_2 (broadcastInDim S16384x1x8 ![0, 2] bcast_S16384x8_S16384x1x8_0_2 y) (ValueIdx.ix3 c a b)
      = y (ValueIdx.ix2 c b) := by
    rw [broadcastInDim_apply _ bcast_S16384x1x8_S16384x8x8_0_1_2 _ (ValueIdx.ix3 c a b) (ValueIdx.ix3 c (0 : Fin 1) b) (fun q => by
        match q with
        | ⟨0, _⟩ => rfl
        | ⟨1, _⟩ => rfl
        | ⟨2, _⟩ => rfl),
      broadcastInDim_apply _ bcast_S16384x8_S16384x1x8_0_2 _ (ValueIdx.ix3 c (0 : Fin 1) b) (ValueIdx.ix2 c b) (fun q => by
        match q with
        | ⟨0, _⟩ => rfl
        | ⟨1, _⟩ => rfl)]
  have hi : broadcastInDim S16384x8x8 ![0, 1, 2] bcast_S1x8x8_S16384x8x8_0_1_2 (cmpi .eq (iotaInDim S1x8x8 32 1) (iotaInDim S1x8x8 32 2)) (ValueIdx.ix3 c a b)
      = IntOp.cmpi .eq (BitVec.ofNat 32 a.val) (BitVec.ofNat 32 b.val) := by
    rw [broadcastInDim_apply _ bcast_S1x8x8_S16384x8x8_0_1_2 _ (ValueIdx.ix3 c a b) (ValueIdx.ix3 (0 : Fin 1) a b) (fun q => by
        match q with
        | ⟨0, _⟩ => rfl
        | ⟨1, _⟩ => rfl
        | ⟨2, _⟩ => rfl)]
    rfl
  have hv : IntOp.ori (~~~(Ideal.cmp .oeq
      (broadcastInDim S16384x8x8 ![0, 1, 2] bcast_S16384x8x1_S16384x8x8_0_1_2 (broadcastInDim S16384x8x1 ![0, 1] bcast_S16384x8_S16384x8x1_0_1 y) (ValueIdx.ix3 c a b))
      (broadcastInDim S16384x8x8 ![0, 1, 2] bcast_S16384x1x8_S16384x8x8_0_1_2 (broadcastInDim S16384x1x8 ![0, 2] bcast_S16384x8_S16384x1x8_0_2 y) (ValueIdx.ix3 c a b))))
      (broadcastInDim S16384x8x8 ![0, 1, 2] bcast_S1x8x8_S16384x8x8_0_1_2 (cmpi .eq (iotaInDim S1x8x8 32 1) (iotaInDim S1x8x8 32 2)) (ValueIdx.ix3 c a b)) = 1#1 := hw
  rw [hl, hr, hi] at hv
  have hn := congrArg BitVec.toNat (pair_word hv hab)
  rw [BitVec.toNat_ofNat, BitVec.toNat_ofNat] at hn
  have := a.isLt
  have := b.isLt
  exact Fin.ext (by omega)

end Cert.Route

end
-- ==== Proof.Order.lean ====
/-
  The greatest keys of a finite family, in order: any two selections of the same length read the same keys, and the
  stable sort's first positions are such a selection.
-/
module
public import Idealize.ShloMosaic.PureOps
public import Idealize.ShloMosaic.Lib.SortFacts
public import Mathlib.Order.Interval.Finset.Fin
public import Mathlib.Data.Fintype.EquivFin

@[expose] public section

namespace Cert.Route

open Idealize.ShloMosaic

variable {α : Type} [LinearOrder α]

/-- `ρ` picks `k` positions with the greatest keys, the greatest first. -/
def TopSel {n k : ℕ} (v : Fin n → α) (ρ : Fin k → Fin n) : Prop :=
  Function.Injective ρ ∧ (Antitone fun j => v (ρ j)) ∧ ∀ e, (∀ j, ρ j ≠ e) → ∀ j, v e ≤ v (ρ j)

/-- One selection's key is at most another's at the same place. -/
theorem TopSel.key_le {n k : ℕ} {v : Fin n → α} {ρ σ : Fin k → Fin n} (h : TopSel v ρ) (h' : TopSel v σ) (j : Fin k) :
    v (σ j) ≤ v (ρ j) := by
  by_contra hlt
  rw [not_le] at hlt
  have hk : ∀ i : Fin k, ∃ q : Fin k, i ≤ j → ρ q = σ i ∧ q < j := by
    intro i
    by_cases hij : i ≤ j
    · have h1 : v (ρ j) < v (σ i) := lt_of_lt_of_le hlt (h'.2.1 hij)
      by_cases hq : ∃ q, ρ q = σ i
      · obtain ⟨q, hq⟩ := hq
        refine ⟨q, fun _ => ⟨hq, ?_⟩⟩
        by_contra hjq
        have h2 : v (ρ q) ≤ v (ρ j) := h.2.1 (not_lt.mp hjq)
        rw [hq] at h2
        exact absurd h1 (not_lt.mpr h2)
      · exact absurd h1 (not_lt.mpr (h.2.2 _ (fun q hq' => hq ⟨q, hq'⟩) j))
    · exact ⟨j, fun hc => absurd hc hij⟩
  choose f hf using hk
  have hcard : (Finset.Iic j).card ≤ (Finset.Iio j).card := by
    refine Finset.card_le_card_of_injOn f (fun i hi => ?_) fun a ha b hb hab => ?_
    · have hi' : i ≤ j := by simpa using hi
      simpa using (hf i hi').2
    · have ha' : a ≤ j := by simpa using ha
      have hb' : b ≤ j := by simpa using hb
      exact h'.1 (by rw [← (hf a ha').1, ← (hf b hb').1, hab])
  rw [Fin.card_Iic, Fin.card_Iio] at hcard
  omega

/-- So the keys agree. -/
theorem TopSel.key_eq {n k : ℕ} {v : Fin n → α} {ρ σ : Fin k → Fin n} (h : TopSel v ρ) (h' : TopSel v σ) (j : Fin k) :
    v (ρ j) = v (σ j) :=
  le_antisymm (h'.key_le h j) (h.key_le h' j)

/-- The stable sort's first `k` positions are such a selection. -/
theorem topSel_sortedFrom {n k : ℕ} (hk : k ≤ n) (v : Fin n → α) :
    TopSel v fun j : Fin k => sortedFrom (fun a b => decide (v b < v a)) (Fin.castLE hk j) := by
  have hle : ∀ i j : Fin n, i < j →
      v (sortedFrom (fun a b => decide (v b < v a)) j) ≤ v (sortedFrom (fun a b => decide (v b < v a)) i) := by
    intro i j hij
    have hn := sortedFrom_noInversion (fun a b => decide (v b < v a)) (fun a b => decide (v b < v a))
      (fun a b hab => decide_eq_false (not_lt.mpr (le_of_lt (of_decide_eq_true hab)))) (fun _ _ hab => hab)
      (fun a b c hab hbc => decide_eq_false (not_lt.mpr (le_trans (not_lt.mp (of_decide_eq_false hab)) (not_lt.mp (of_decide_eq_false hbc))))) i j hij
    exact not_lt.mp (of_decide_eq_false hn)
  refine ⟨fun a b hab => Fin.castLE_injective hk (sortedFrom_injective _ hab), fun i j hij => ?_, fun e he j => ?_⟩
  · rcases eq_or_lt_of_le hij with rfl | hlt
    · exact le_rfl
    · exact hle _ _ hlt
  · obtain ⟨l, rfl⟩ := sortedFrom_surjective (fun a b => decide (v b < v a)) e
    refine hle _ _ ?_
    by_contra hl
    have hlj : l.val ≤ j.val := not_lt.mp hl
    exact he ⟨l.val, lt_of_le_of_lt hlj j.isLt⟩ rfl

end Cert.Route

end
-- ==== Proof.Rank.lean ====
/-
  What the routing of one token computes, over the extended reals: with the eight groups' maxima pairwise different and no score
  negative, its eight winners are the eight greatest of the scores masked to the three best groups.
-/
module
public import proofs.«01_k».proof.Proof.Setup
public import proofs.«01_k».proof.Proof.Order

@[expose] public section

noncomputable section

namespace Cert.Route

open Idealize.ShloMosaic

/-- A group's greatest score. -/
def top (s : Fin 64 → EReal) (g : Fin 8) : EReal := max8 (F := Ideal) fun o => s (expert g o)

/-- The group of an expert. -/
def grp (e : Fin 64) : Fin 8 := ⟨e.val / 8, by omega⟩

/-- The scores of the three groups `τ` ranks first; zero elsewhere. -/
def masked (τ : Fin 3 → Fin 8) (s : Fin 64 → EReal) (e : Fin 64) : EReal := if ∃ i, τ i = grp e then s e else 0

theorem geF_ideal : geF (F := Ideal) = geB := by
  funext a b
  show decide (BitVec.ofBool (decide (b ≤ a)) = 1#1) = decide (b ≤ a)
  by_cases h : b ≤ a <;> simp [h]

theorem expert_grp (e : Fin 64) : ∃ o, expert (grp e) o = e :=
  ⟨⟨e.val % 8, by omega⟩, Fin.ext (show 8 * (e.val / 8) + e.val % 8 = e.val by omega)⟩

theorem grp_expert (g o : Fin 8) : grp (expert g o) = g :=
  Fin.ext (show (8 * g.val + o.val) / 8 = g.val by omega)

theorem expert_injective {g g' o o' : Fin 8} (h : expert g o = expert g' o') : g = g' ∧ o = o' := by
  have h' : 8 * g.val + o.val = 8 * g'.val + o'.val := congrArg Fin.val h
  exact ⟨Fin.ext (by omega), Fin.ext (by omega)⟩

theorem max8_eq (a : Fin 8 → EReal) : max8 (F := Ideal) a = Finset.univ.sup a := by
  show max (max (max (max (max (max (max (a 0) (a 1)) (a 2)) (a 3)) (a 4)) (a 5)) (a 6)) (a 7) = _
  refine le_antisymm ?_ (Finset.sup_le fun o _ => ?_)
  · simp only [max_le_iff]
    exact ⟨⟨⟨⟨⟨⟨⟨Finset.le_sup (Finset.mem_univ _), Finset.le_sup (Finset.mem_univ _)⟩, Finset.le_sup (Finset.mem_univ _)⟩,
      Finset.le_sup (Finset.mem_univ _)⟩, Finset.le_sup (Finset.mem_univ _)⟩, Finset.le_sup (Finset.mem_univ _)⟩,
      Finset.le_sup (Finset.mem_univ _)⟩, Finset.le_sup (Finset.mem_univ _)⟩
  · fin_cases o <;> simp

/-- A group's maximum is one of its scores. -/
theorem top_mem (s : Fin 64 → EReal) (g : Fin 8) : ∃ o, top s g = s (expert g o) := by
  obtain ⟨o, -, ho⟩ := Finset.exists_mem_eq_sup Finset.univ ⟨0, Finset.mem_univ _⟩ fun o : Fin 8 => s (expert g o)
  exact ⟨o, (max8_eq _).trans ho⟩

/-- Scores pairwise different have group maxima pairwise different. -/
theorem top_injective {s : Fin 64 → EReal} (hs : Function.Injective s) : Function.Injective (top s) := by
  intro g g' h
  obtain ⟨o, ho⟩ := top_mem s g
  obtain ⟨o', ho'⟩ := top_mem s g'
  exact (expert_injective (hs (ho ▸ ho' ▸ h))).1

/-- The groups as the first network ranks them. -/
theorem ranked_spec (s : Fin 64 → EReal) :
    ∃ τ : Fin 8 → Fin 8, TopSel (top s) τ ∧ ∀ i, ranked (F := Ideal) s i = (top s (τ i), BitVec.ofNat 32 (τ i).val) := by
  obtain ⟨τ, inj, eq, anti, hi⟩ := topOf_sort8 fun g : Fin 8 => (top s g, BitVec.ofNat 32 g.val)
  have hr : ranked (F := Ideal) s = sort8 geB fun g : Fin 8 => (top s g, BitVec.ofNat 32 g.val) := by
    unfold ranked; rw [geF_ideal]; rfl
  rw [← hr] at eq anti hi
  refine ⟨τ, ⟨inj, fun a b hab => ?_, fun e he j => ?_⟩, eq⟩
  · have := anti hab
    simp only [eq] at this
    exact this
  · have := hi e he j
    rw [eq] at this
    exact this

theorem eidW_eq : ∀ g o : Fin 8, eidW (BitVec.ofNat 32 g.val) o = BitVec.ofNat 32 (expert g o).val := by decide

theorem ofNat_expert : ∀ g o : Fin 8, Fin.ofNat 64 (BitVec.ofNat 32 (expert g o).val).toNat = expert g o := by decide

/-- The winners are the eight best of the three first groups' twenty-four experts. -/
theorem winners_spec (s : Fin 64 → EReal) {τ : Fin 8 → Fin 8}
    (hτ : ∀ i, ranked (F := Ideal) s i = (top s (τ i), BitVec.ofNat 32 (τ i).val)) :
    TopOf (Sum.elim (Sum.elim (fun o => (s (expert (τ 0) o), BitVec.ofNat 32 (expert (τ 0) o).val))
        fun o => (s (expert (τ 1) o), BitVec.ofNat 32 (expert (τ 1) o).val))
        fun o => (s (expert (τ 2) o), BitVec.ofNat 32 (expert (τ 2) o).val)) (winners (F := Ideal) s) := by
  have ho : ∀ i, octet (F := Ideal) s i = sort8 geB fun o => (s (expert (τ i) o), BitVec.ofNat 32 (expert (τ i) o).val) := by
    intro i
    unfold octet
    rw [geF_ideal]
    congr 1
    funext o
    rw [hτ i, eidW_eq, ofNat_expert]
  unfold winners
  rw [geF_ideal, ho 0, ho 1, ho 2]
  exact topOf_merge8 (topOf_merge8 (topOf_sort8 _) (topOf_sort8 _)) (topOf_sort8 _)

/-- The expert a candidate names. -/
def cand (τ : Fin 3 → Fin 8) : (Fin 8 ⊕ Fin 8) ⊕ Fin 8 → Fin 64
  | .inl (.inl o) => expert (τ 0) o
  | .inl (.inr o) => expert (τ 1) o
  | .inr o => expert (τ 2) o

theorem cand_injective {τ : Fin 3 → Fin 8} (hτ : Function.Injective τ) : Function.Injective (cand τ) := by
  have h01 : τ 0 ≠ τ 1 := fun h => absurd (hτ h) (by decide)
  have h02 : τ 0 ≠ τ 2 := fun h => absurd (hτ h) (by decide)
  have h12 : τ 1 ≠ τ 2 := fun h => absurd (hτ h) (by decide)
  rintro ((o | o) | o) ((o' | o') | o') h
  · rw [(expert_injective h).2]
  · exact absurd (expert_injective h).1 h01
  · exact absurd (expert_injective h).1 h02
  · exact absurd (expert_injective h).1.symm h01
  · rw [(expert_injective h).2]
  · exact absurd (expert_injective h).1 h12
  · exact absurd (expert_injective h).1.symm h02
  · exact absurd (expert_injective h).1.symm h12
  · rw [(expert_injective h).2]

theorem cand_chosen (τ : Fin 3 → Fin 8) (c : (Fin 8 ⊕ Fin 8) ⊕ Fin 8) : ∃ i, τ i = grp (cand τ c) := by
  rcases c with ((o | o) | o)
  · exact ⟨0, (grp_expert _ _).symm⟩
  · exact ⟨1, (grp_expert _ _).symm⟩
  · exact ⟨2, (grp_expert _ _).symm⟩

theorem exists_cand {τ : Fin 3 → Fin 8} {e : Fin 64} (h : ∃ i, τ i = grp e) : ∃ c, cand τ c = e := by
  obtain ⟨i, hi⟩ := h
  obtain ⟨o, ho⟩ := expert_grp e
  rw [← hi] at ho
  match i, ho with
  | 0, ho => exact ⟨.inl (.inl o), ho⟩
  | 1, ho => exact ⟨.inl (.inr o), ho⟩
  | 2, ho => exact ⟨.inr o, ho⟩

/-- The winners as a selection of the masked scores, for the three groups a selection of the maxima ranks first. -/
theorem winners_topSel {s : Fin 64 → EReal} (h0 : ∀ e, 0 ≤ s e) (ht : Function.Injective (top s)) {τ : Fin 3 → Fin 8} (hτ : TopSel (top s) τ) :
    ∃ ρ : Fin 8 → Fin 64, TopSel (masked τ s) ρ ∧ (∀ j, ∃ i, τ i = grp (ρ j))
      ∧ ∀ j, winners (F := Ideal) s j = (masked τ s (ρ j), BitVec.ofNat 32 (ρ j).val) := by
  obtain ⟨τ', hτ', hr⟩ := ranked_spec s
  have h3 : TopSel (top s) fun i : Fin 3 => τ' (Fin.castLE (by decide) i) := by
    refine ⟨fun a b hab => Fin.castLE_injective _ (hτ'.1 hab), fun a b hab => hτ'.2.1 (by exact hab), fun e he j => ?_⟩
    obtain ⟨l, rfl⟩ := Finite.surjective_of_injective hτ'.1 e
    refine hτ'.2.1 ?_
    by_contra hl
    have hlj : l.val < j.val := not_le.mp hl
    exact he ⟨l.val, lt_trans hlj j.isLt⟩ rfl
  have e3 : ∀ i : Fin 3, τ' (Fin.castLE (by decide) i) = τ i := fun i => ht (h3.key_eq hτ i)
  obtain ⟨σ, inj, eq, anti, hi⟩ := winners_spec s hr
  have hc : (Sum.elim (Sum.elim (fun o => (s (expert (τ' 0) o), BitVec.ofNat 32 (expert (τ' 0) o).val))
        fun o => (s (expert (τ' 1) o), BitVec.ofNat 32 (expert (τ' 1) o).val))
        fun o => (s (expert (τ' 2) o), BitVec.ofNat 32 (expert (τ' 2) o).val))
      = fun c => (masked τ s (cand τ c), BitVec.ofNat 32 (cand τ c).val) := by
    have t0 : τ' 0 = τ 0 := e3 0
    have t1 : τ' 1 = τ 1 := e3 1
    have t2 : τ' 2 = τ 2 := e3 2
    funext c
    unfold masked
    rw [if_pos (cand_chosen τ c), t0, t1, t2]
    rcases c with ((o | o) | o) <;> rfl
  rw [hc] at eq hi
  refine ⟨fun j => cand τ (σ j), ⟨fun a b hab => inj (cand_injective hτ.1 hab), fun a b hab => ?_, fun e he j => ?_⟩,
    fun j => cand_chosen τ _, eq⟩
  · have := anti hab
    simp only [eq] at this
    exact this
  · by_cases hch : ∃ i, τ i = grp e
    · obtain ⟨c, rfl⟩ := exists_cand hch
      have := hi c (fun q hq => he q (congrArg (cand τ) hq)) j
      rw [eq] at this
      exact this
    · rw [show masked τ s e = 0 from if_neg hch, show masked τ s (cand τ (σ j)) = s (cand τ (σ j)) from if_pos (cand_chosen τ _)]
      exact h0 _

/-- The weights' numerators: the masked scores at any selection. -/
theorem winners_key {s : Fin 64 → EReal} (h0 : ∀ e, 0 ≤ s e) (ht : Function.Injective (top s)) {τ : Fin 3 → Fin 8} (hτ : TopSel (top s) τ)
    {σ : Fin 8 → Fin 64} (hσ : TopSel (masked τ s) σ) (j : Fin 8) : (winners (F := Ideal) s j).1 = masked τ s (σ j) := by
  obtain ⟨ρ, hρ, -, hw⟩ := winners_topSel h0 ht hτ
  rw [hw]
  exact hρ.key_eq hσ j

/-- The indices: with the scores pairwise different, the selection's own positions. -/
theorem winners_index {s : Fin 64 → EReal} (h0 : ∀ e, 0 ≤ s e) (hs : Function.Injective s) {τ : Fin 3 → Fin 8} (hτ : TopSel (top s) τ)
    {σ : Fin 8 → Fin 64} (hσ : TopSel (masked τ s) σ) (j : Fin 8) : (winners (F := Ideal) s j).2 = BitVec.ofNat 32 (σ j).val := by
  obtain ⟨ρ, hρ, hch, hw⟩ := winners_topSel h0 (top_injective hs) hτ
  rw [hw]
  have hkey := hρ.key_eq hσ j
  have hρj : masked τ s (ρ j) = s (ρ j) := if_pos (hch j)
  have hpos : 0 < masked τ s (ρ j) := by
    refine lt_of_le_of_ne (hρj ▸ h0 _) fun hz => ?_
    -- sixteen of the twenty-four candidates are not among the eight, and would all score zero
    have h1 : 1 < ((Finset.univ.image (cand τ)) \ (Finset.univ.image ρ)).card := by
      have c24 : (Finset.univ.image (cand τ)).card = 24 := by
        rw [Finset.card_image_of_injective _ (cand_injective hτ.1)]; rfl
      have c8 : (Finset.univ.image ρ).card ≤ 8 := Finset.card_image_le
      have := Finset.le_card_sdiff (Finset.univ.image ρ) (Finset.univ.image (cand τ))
      omega
    obtain ⟨a, ha, b, hb, hab⟩ := Finset.one_lt_card.mp h1
    have hzero : ∀ e ∈ (Finset.univ.image (cand τ)) \ (Finset.univ.image ρ), s e = 0 := by
      intro e he
      rw [Finset.mem_sdiff] at he
      obtain ⟨c, -, rfl⟩ := Finset.mem_image.mp he.1
      have hle := hρ.2.2 (cand τ c) (fun q hq => he.2 (Finset.mem_image.mpr ⟨q, Finset.mem_univ _, hq⟩)) j
      rw [show masked τ s (cand τ c) = s (cand τ c) from if_pos (cand_chosen τ c), ← hz] at hle
      exact le_antisymm hle (h0 _)
    exact hab (hs ((hzero a ha).trans (hzero b hb).symm))
  have hσj : ∃ i, τ i = grp (σ j) := by
    by_contra hno
    rw [hkey, show masked τ s (σ j) = 0 from if_neg hno] at hpos
    exact lt_irrefl _ hpos
  rw [hρj, show masked τ s (σ j) = s (σ j) from if_pos hσj] at hkey
  rw [hs hkey]

end Cert.Route

end
-- ==== Proof.Untied.lean ====
/-
  What the mask says of a row over the extended reals: its first word that the token's scores are pairwise different, its second that
  the greatest scores of its groups are.
-/
module
public import proofs.«01_k».proof.Proof.Differ
public import proofs.«01_k».proof.Proof.Soft
public import proofs.«01_k».proof.Proof.Rank

@[expose] public section

noncomputable section

namespace Cert.Route

open Idealize.ShloMosaic Cert.On_untied Cert.On_untied.Gen

/-- The mask's logits. -/
def uLogit (X : S16384x2048.Idx → EReal) (w : S64x2048.Idx → EReal) : S16384x64.Idx → EReal :=
  Host.dotGeneral (F := Ideal) (φ₁ := .f32) (φ₂ := .f32) dot_S16384x2048_S64x2048_S16384x64_1_1_0_0_n_n none X w

theorem ulhs0 (i : S16384x64.Idx) (q : dot_S16384x2048_S64x2048_S16384x64_1_1_0_0_n_n.contr.Idx) :
    (dot_S16384x2048_S64x2048_S16384x64_1_1_0_0_n_n.lhsIdx i q 0).val = (i 0).val := by
  unfold DotDims.lhsIdx
  rw [dif_neg (show ¬(0 : Fin S16384x2048.rank) ∈ dot_S16384x2048_S64x2048_S16384x64_1_1_0_0_n_n.lhsBatch by decide),
    dif_pos (show (0 : Fin S16384x2048.rank) ∈ dot_S16384x2048_S64x2048_S16384x64_1_1_0_0_n_n.lhsNonContracting by decide)]
  rfl
theorem urhs0 (i : S16384x64.Idx) (q : dot_S16384x2048_S64x2048_S16384x64_1_1_0_0_n_n.contr.Idx) :
    (dot_S16384x2048_S64x2048_S16384x64_1_1_0_0_n_n.rhsIdx i q 0).val = (i 1).val := by
  unfold DotDims.rhsIdx
  rw [dif_neg (show ¬(0 : Fin S64x2048.rank) ∈ dot_S16384x2048_S64x2048_S16384x64_1_1_0_0_n_n.rhsBatch by decide),
    dif_pos (show (0 : Fin S64x2048.rank) ∈ dot_S16384x2048_S64x2048_S16384x64_1_1_0_0_n_n.rhsNonContracting by decide)]
  rfl

theorem uLogit_apply (X : S16384x2048.Idx → EReal) (w : S64x2048.Idx → EReal) (c : Fin 16384) (e : Fin 64) :
    uLogit X w (ValueIdx.ix2 c e) = logit X w c e := by
  unfold uLogit
  simp only [Host.dotGeneral]
  rw [Ideal.dotGeneral_apply, ← Equiv.sum_comp (ValueIdx.contrEquiv1 dot_S16384x2048_S64x2048_S16384x64_1_1_0_0_n_n 2048 rfl rfl).symm]
  refine Finset.sum_congr rfl fun k _ => ?_
  have hk := ValueIdx.contrEquiv1_symm_val dot_S16384x2048_S64x2048_S16384x64_1_1_0_0_n_n 2048 rfl rfl k
  have el : dot_S16384x2048_S64x2048_S16384x64_1_1_0_0_n_n.lhsIdx (ValueIdx.ix2 c e) ((ValueIdx.contrEquiv1 dot_S16384x2048_S64x2048_S16384x64_1_1_0_0_n_n 2048 rfl rfl).symm k)
      = ValueIdx.ix2 c k := funext fun a => Fin.ext (by
    match a with
    | ⟨0, _⟩ => exact ulhs0 _ _
    | ⟨1, _⟩ => exact (dot_S16384x2048_S64x2048_S16384x64_1_1_0_0_n_n.lhsIdx_val_of_single rfl _ _).trans hk)
  have er : dot_S16384x2048_S64x2048_S16384x64_1_1_0_0_n_n.rhsIdx (ValueIdx.ix2 c e) ((ValueIdx.contrEquiv1 dot_S16384x2048_S64x2048_S16384x64_1_1_0_0_n_n 2048 rfl rfl).symm k)
      = ValueIdx.ix2 e k := funext fun a => Fin.ext (by
    match a with
    | ⟨0, _⟩ => exact urhs0 _ _
    | ⟨1, _⟩ => exact (dot_S16384x2048_S64x2048_S16384x64_1_1_0_0_n_n.rhsIdx_val_of_single rfl _ _).trans hk)
  rw [el, er]

/-- A column of row statistics spread over the rows. -/
def uSpread (x : S16384.Idx → EReal) : S16384x64.Idx → EReal :=
  broadcastInDim S16384x64 ![0, 1] bcast_S16384x1_S16384x64_0_1 (broadcastInDim S16384x1 ![0] bcast_S16384_S16384x1_0 x)

theorem uSpread_apply (x : S16384.Idx → EReal) (c : Fin 16384) (e : Fin 64) : uSpread x (ValueIdx.ix2 c e) = x (ValueIdx.ix1 c) := by
  unfold uSpread
  rw [broadcastInDim_apply _ bcast_S16384x1_S16384x64_0_1 _ (ValueIdx.ix2 c e) (ValueIdx.ix2 c (0 : Fin 1)) (fun a => by
      match a with
      | ⟨0, _⟩ => rfl
      | ⟨1, _⟩ => rfl),
    broadcastInDim_apply _ bcast_S16384_S16384x1_0 _ (ValueIdx.ix2 c (0 : Fin 1)) (ValueIdx.ix1 c) (fun a => by
      match a with
      | ⟨0, _⟩ => rfl)]

/-- Each row's greatest. -/
def uMax (L : S16384x64.Idx → EReal) : S16384.Idx → EReal :=
  Host.reduce (FloatOps.maximumf (F := Ideal) (φ := .f32)) L (constant (F := Ideal) S_ .f32 0xFF800000#32) reducesTo_S16384x64_S16384_d1 h_S_

theorem uMax_apply (L : S16384x64.Idx → EReal) (c : Fin 16384) : uMax L (ValueIdx.ix1 c) = Finset.univ.sup fun e : Fin 64 => L (ValueIdx.ix2 c e) := by
  refine (Host.reduce_eq_fold_single (max : EReal → EReal → EReal) L _ reducesTo_S16384x64_S16384_d1 (by decide) h_S_ (ValueIdx.ix1 c)).trans ?_
  refine (fold_max _).trans (congrArg _ (funext fun e => congrArg L (funext fun a => Fin.ext ?_)))
  match a with
  | ⟨0, _⟩ => rfl
  | ⟨1, _⟩ => rfl

/-- Each row's sum. -/
def uSum (x : S16384x64.Idx → EReal) : S16384.Idx → EReal :=
  Host.reduceAdd (F := Ideal) (φ := .f32) x (constant (F := Ideal) S_ .f32 0x00000000#32) reducesTo_S16384x64_S16384_d1 h_S_

theorem uSum_apply (x : S16384x64.Idx → EReal) (c : Fin 16384) : uSum x (ValueIdx.ix1 c) = ∑ e : Fin 64, x (ValueIdx.ix2 c e) := by
  unfold uSum
  simp only [Host.reduceAdd, Ideal.hostReduceAdd_def]
  rw [Ideal.hostReduceAdd_single reducesTo_S16384x64_S16384_d1 (by decide)]
  have hz : (constant (F := Ideal) S_ .f32 0x00000000#32 : S_.Idx → EReal) (Shape.Idx.first h_S_) = 0 := Ideal.ofBits_zero_f32
  rw [hz, zero_add]
  refine Finset.sum_congr rfl fun e _ => congrArg x (funext fun a => Fin.ext ?_)
  match a with
  | ⟨0, _⟩ => rfl
  | ⟨1, _⟩ => rfl

/-- The exponentials. -/
def uExp (L : S16384x64.Idx → EReal) : S16384x64.Idx → EReal :=
  Host.exp (F := Ideal) (φ := .f32) (subf (F := Ideal) (φ := .f32) L (uSpread (uMax L)))

/-- The mask's scores. -/
def uSoft (L : S16384x64.Idx → EReal) : S16384x64.Idx → EReal :=
  Host.divf (F := Ideal) (φ := .f32) (uExp L) (uSpread (uSum (uExp L)))

theorem uExp_apply (L : S16384x64.Idx → EReal) (c : Fin 16384) (e : Fin 64) :
    uExp L (ValueIdx.ix2 c e) = expo (fun e => L (ValueIdx.ix2 c e)) e := by
  show Ideal.exp (L _ - uSpread (uMax L) _) = _
  rw [uSpread_apply, uMax_apply]
  rfl

theorem uSoft_apply (L : S16384x64.Idx → EReal) (c : Fin 16384) (e : Fin 64) :
    uSoft L (ValueIdx.ix2 c e) = soft (fun e => L (ValueIdx.ix2 c e)) e := by
  have h : uSoft L (ValueIdx.ix2 c e) = Ideal.div (uExp L (ValueIdx.ix2 c e)) (uSpread (uSum (uExp L)) (ValueIdx.ix2 c e)) := by
    unfold uSoft
    generalize uSpread (uSum (uExp L)) = z
    generalize uExp L = y
    rfl
  rw [h, uSpread_apply, uSum_apply]
  simp only [uExp_apply]
  rfl

/-- The greatest of each group. -/
def uTop (s : S16384x64.Idx → EReal) : S16384x8.Idx → EReal :=
  Host.reduce (FloatOps.maximumf (F := Ideal) (φ := .f32)) (shapeCast S16384x8x8 s shapeCasts_S16384x64_S16384x8x8)
    (constant (F := Ideal) S_ .f32 0xFF800000#32) reducesTo_S16384x8x8_S16384x8_d2 h_S_

theorem uTop_apply (s : S16384x64.Idx → EReal) (c : Fin 16384) (g : Fin 8) :
    uTop s (ValueIdx.ix2 c g) = top (fun e => s (ValueIdx.ix2 c e)) g := by
  refine (Host.reduce_eq_fold_single (max : EReal → EReal → EReal) _ _ reducesTo_S16384x8x8_S16384x8_d2 (by decide) h_S_ (ValueIdx.ix2 c g)).trans ?_
  unfold top
  refine (fold_max _).trans (Eq.trans (congrArg _ (funext fun o => ?_)) (max8_eq _).symm)
  refine shapeCast_apply s shapeCasts_S16384x64_S16384x8x8 _ (ValueIdx.ix2 c (expert g o)) ?_
  rw [Shape.rowMajor_val_two, Shape.rowMajor_val_three]
  show c.val * 64 + (8 * g.val + o.val) = (c.val * 8 + g.val) * 8 + o.val
  omega

theorem untied_fst (x0 : S4x4096x2048.Idx → EReal) (x1 : S64x2048.Idx → EReal) :
    (fn (F := Ideal) x0 x1).1 = differ64 (F := Ideal) (uSoft (uLogit (shapeCast S16384x2048 x0 shapeCasts_S4x4096x2048_S16384x2048) x1)) := by
  unfold fn fn_part1 differ64 uSoft uExp uSum uMax uSpread uLogit
  dsimp only

theorem untied_snd (x0 : S4x4096x2048.Idx → EReal) (x1 : S64x2048.Idx → EReal) :
    (fn (F := Ideal) x0 x1).2 = differ8 (F := Ideal) (uTop (uSoft (uLogit (shapeCast S16384x2048 x0 shapeCasts_S4x4096x2048_S16384x2048) x1))) := by
  unfold fn fn_part1 differ8 uTop uSoft uExp uSum uMax uSpread uLogit
  dsimp only

/-- The mask's scores of a token. -/
theorem uScores_apply (X : S16384x2048.Idx → EReal) (x1 : S64x2048.Idx → EReal) (c : Fin 16384) :
    (fun e => uSoft (uLogit X x1) (ValueIdx.ix2 c e)) = soft (logit X x1 c) := by
  funext e
  rw [uSoft_apply]
  exact congrFun (congrArg soft (funext fun e => uLogit_apply X x1 c e)) e

/-- The first word: the token's scores are pairwise different. -/
theorem scores_differ {x0 : S4x4096x2048.Idx → EReal} {x1 : S64x2048.Idx → EReal} {c : Fin 16384} {j : Fin 8}
    (h : (fn (F := Ideal) x0 x1).1 (ValueIdx.ix2 c j) = 1#1) :
    Function.Injective (soft (logit (shapeCast S16384x2048 x0 shapeCasts_S4x4096x2048_S16384x2048) x1 c)) := by
  rw [untied_fst] at h
  have hd := differ64_injective _ c j h
  rwa [uScores_apply] at hd

/-- The second word: the greatest scores of the groups are pairwise different. -/
theorem tops_differ {x0 : S4x4096x2048.Idx → EReal} {x1 : S64x2048.Idx → EReal} {c : Fin 16384} {j : Fin 8}
    (h : (fn (F := Ideal) x0 x1).2 (ValueIdx.ix2 c j) = 1#1) :
    Function.Injective (top (soft (logit (shapeCast S16384x2048 x0 shapeCasts_S4x4096x2048_S16384x2048) x1 c))) := by
  rw [untied_snd] at h
  have hd := differ8_injective _ c j h
  simp only [uTop_apply, uScores_apply] at hd
  exact hd

end Cert.Route

end
-- ==== Proof.RefScore.lean ====
/-
  The reference's scores over the extended reals, and the greatest of each of their groups.
-/
module
public import proofs.«01_k».proof.Proof.Gen.ReferenceIdeal.Read
public import proofs.«01_k».proof.Proof.Soft
public import proofs.«01_k».proof.Proof.Rank

@[expose] public section

noncomputable section

namespace Cert.Route

open Idealize.ShloMosaic Cert.ReferenceIdeal Cert.ReferenceIdeal.Gen Cert.ReferenceIdeal.Read

/-- The tokens, one to a row. -/
def rows (x0 : S4x4096x2048.Idx → EReal) : S16384x2048.Idx → EReal := shapeCast S16384x2048 x0 shapeCasts_S4x4096x2048_S16384x2048

theorem ref_logit (x0 : S4x4096x2048.Idx → EReal) (x1 : S64x2048.Idx → EReal) (c : Fin 16384) (e : Fin 64) :
    val_main_v2 (F := Ideal) x0 x1 (ValueIdx.ix2 c e) = logit (rows x0) x1 c e := by
  rw [val_main_v2_apply]
  refine Finset.sum_congr rfl fun k _ => ?_
  rw [val_main_v1_apply]
  refine congrArg₂ (· * ·) (congrArg (rows x0) (funext fun a => Fin.ext ?_)) (congrArg x1 (funext fun a => Fin.ext ?_))
  · match a with
    | ⟨0, _⟩ => rfl
    | ⟨1, _⟩ => rfl
  · match a with
    | ⟨0, _⟩ => rfl
    | ⟨1, _⟩ => rfl

theorem ref_rowMax (x0 : S4x4096x2048.Idx → EReal) (x1 : S64x2048.Idx → EReal) (i : S16384.Idx) :
    val_main_v3 (F := Ideal) x0 x1 i = Finset.univ.sup (logit (rows x0) x1 (i 0)) := by
  unfold val_main_v3
  have hl := fun e => ref_logit x0 x1 (i 0) e
  generalize val_main_v2 (F := Ideal) x0 x1 = L at hl
  refine (Host.reduce_eq_fold_single (max : EReal → EReal → EReal) L _ reducesTo_S16384x64_S16384_d1 (by decide) h_S_ i).trans ?_
  refine (fold_max _).trans (congrArg _ (funext fun e => (congrArg L (funext fun a => Fin.ext ?_)).trans (hl e)))
  match a with
  | ⟨0, _⟩ => rfl
  | ⟨1, _⟩ => rfl

/-- The greatest logit again: minus infinity adds nothing to it. -/
theorem ref_floor (x0 : S4x4096x2048.Idx → EReal) (x1 : S64x2048.Idx → EReal) (i : S16384.Idx) :
    val_main_v5 (F := Ideal) x0 x1 i = Finset.univ.sup (logit (rows x0) x1 (i 0)) := by
  rw [val_main_v5_apply, ref_rowMax, val_main_v4_apply, val_main_cst_0_apply]
  show max (Ideal.ofBits .f32 0xFF800000#32) _ = _
  rw [ofBits_neg_inf]
  exact max_eq_right bot_le

theorem ref_exp (x0 : S4x4096x2048.Idx → EReal) (x1 : S64x2048.Idx → EReal) (c : Fin 16384) (e : Fin 64) :
    val_main_v9 (F := Ideal) x0 x1 (ValueIdx.ix2 c e) = expo (logit (rows x0) x1 c) e := by
  rw [val_main_v9_apply, val_main_v8_apply, val_main_v7_apply, val_main_v6_apply, ref_floor, ref_logit]
  rfl

theorem ref_score (x0 : S4x4096x2048.Idx → EReal) (x1 : S64x2048.Idx → EReal) (c : Fin 16384) (e : Fin 64) :
    val_main_v13 (F := Ideal) x0 x1 (ValueIdx.ix2 c e) = soft (logit (rows x0) x1 c) e := by
  rw [val_main_v13_apply, val_main_v12_apply, val_main_v11_apply, val_main_v10_apply, val_main_cst_1_apply, ref_exp]
  have hs : ∀ k : Fin 64, val_main_v9 (F := Ideal) x0 x1 (idx_main_v10 (idx_main_v11 (idx_main_v12 (ValueIdx.ix2 c e))) k) = expo (logit (rows x0) x1 c) k := by
    intro k
    rw [← ref_exp]
    refine congrArg _ (funext fun a => Fin.ext ?_)
    match a with
    | ⟨0, _⟩ => rfl
    | ⟨1, _⟩ => rfl
  rw [Finset.sum_congr rfl fun k _ => hs k]
  show Ideal.div _ (Ideal.ofBits .f32 0x00000000#32 + _) = _
  rw [Ideal.ofBits_zero_f32, zero_add]
  rfl

/-- The greatest score of each group. -/
theorem ref_top (x0 : S4x4096x2048.Idx → EReal) (x1 : S64x2048.Idx → EReal) (c : Fin 16384) (g : Fin 8) :
    val_main_v15 (F := Ideal) x0 x1 (ValueIdx.ix2 c g) = top (soft (logit (rows x0) x1 c)) g := by
  have hv : ∀ o : Fin 8, val_main_v14 (F := Ideal) x0 x1 (ValueIdx.ix3 c g o) = soft (logit (rows x0) x1 c) (expert g o) := by
    intro o
    rw [val_main_v14_apply, ← ref_score]
    refine congrArg _ (funext fun a => Fin.ext ?_)
    have hg := g.isLt
    have ho := o.isLt
    match a with
    | ⟨0, _⟩ =>
      show ((c.val * 8 + g.val) * 8 + o.val) / 64 = c.val
      omega
    | ⟨1, _⟩ =>
      show ((c.val * 8 + g.val) * 8 + o.val) % 64 = 8 * g.val + o.val
      omega
  unfold val_main_v15
  generalize val_main_v14 (F := Ideal) x0 x1 = y at hv
  refine (Host.reduce_eq_fold_single (max : EReal → EReal → EReal) y _ reducesTo_S16384x8x8_S16384x8_d2 (by decide) h_S_ (ValueIdx.ix2 c g)).trans ?_
  unfold top
  refine (fold_max _).trans (Eq.trans (congrArg _ (funext fun o => (congrArg y (funext fun a => Fin.ext ?_)).trans (hv o))) (max8_eq _).symm)
  match a with
  | ⟨0, _⟩ => rfl
  | ⟨1, _⟩ => rfl
  | ⟨2, _⟩ => rfl

end Cert.Route

end
-- ==== Proof.TopK.lean ====
/-
  The reference's top-k along the rows of a matrix, read at a place: the value and the position of a selection of the row's greatest.
-/
module
public import proofs.«01_k».proof.Proof.Order
public import Idealize.ShloMosaic.PureOps.Ideal.Laws
public import Idealize.ShloMosaic.Lib.ValueIdx

@[expose] public section

noncomputable section

namespace Cert.Route

open Idealize.ShloMosaic

/-- The position of row `c`'s `j`-th greatest. -/
def rowBest {C n k : ℕ} (hk : k ≤ n) (y : (⟨2, ![C, n]⟩ : Shape).Idx → EReal) (c : Fin C) (j : Fin k) : Fin n :=
  sortedFrom (fun a b => decide (y (ValueIdx.ix2 c b) < y (ValueIdx.ix2 c a))) (Fin.castLE hk j)

theorem rowBest_topSel {C n k : ℕ} (hk : k ≤ n) (y : (⟨2, ![C, n]⟩ : Shape).Idx → EReal) (c : Fin C) :
    TopSel (fun e => y (ValueIdx.ix2 c e)) (rowBest hk y c) :=
  topSel_sortedFrom hk fun e => y (ValueIdx.ix2 c e)

theorem along_row {C n : ℕ} (x : (⟨2, ![C, n]⟩ : Shape).Idx) (c : Fin C) (hc : x 0 = c) (e : Fin n) :
    x.along (1 : Fin 2) e = ValueIdx.ix2 c e := by
  funext a
  match a with
  | ⟨0, _⟩ => exact (Function.update_of_ne (show (0 : Fin 2) ≠ 1 by decide) _ _).trans hc
  | ⟨1, _⟩ => exact Function.update_self _ _ _

theorem gt_word (x y : EReal) : (FloatOps.cmpfTotal (F := Ideal) (φ := .f32) .gt x y == 1#1) = decide (y < x) := by
  show (BitVec.ofBool (decide (y < x)) == 1#1) = decide (y < x)
  cases decide (y < x) <;> rfl

theorem topK_apply {C n k : ℕ} (hk : k ≤ n) (y : (⟨2, ![C, n]⟩ : Shape).Idx → EReal)
    (h : (⟨2, ![C, n]⟩ : Shape).Slices (fun _ => 0) ⟨2, ![C, k]⟩) (c : Fin C) (j : Fin k) :
    (Host.topK ⟨2, ![C, k]⟩ 1 (FloatOps.cmpfTotal (F := Ideal) (φ := .f32) .gt) y h).1 (ValueIdx.ix2 c j) = y (ValueIdx.ix2 c (rowBest hk y c j))
    ∧ (Host.topK ⟨2, ![C, k]⟩ 1 (FloatOps.cmpfTotal (F := Ideal) (φ := .f32) .gt) y h).2 (ValueIdx.ix2 c j) = BitVec.ofNat 32 (rowBest hk y c j).val := by
  have hi : (fun a : Fin 2 => (⟨0 + ((ValueIdx.ix2 c j : (⟨2, ![C, k]⟩ : Shape).Idx) (a.cast h.1.symm)).val,
      Nat.lt_of_lt_of_le (Nat.add_lt_add_left ((ValueIdx.ix2 c j : (⟨2, ![C, k]⟩ : Shape).Idx) _).isLt _) (h.2 a)⟩ : Fin ((⟨2, ![C, n]⟩ : Shape).size a)))
      = (ValueIdx.ix2 c (Fin.castLE hk j) : (⟨2, ![C, n]⟩ : Shape).Idx) := by
    funext a
    apply Fin.ext
    match a with
    | ⟨0, _⟩ => exact Nat.zero_add _
    | ⟨1, _⟩ => exact Nat.zero_add _
  have hs : ∀ x : (⟨2, ![C, n]⟩ : Shape).Idx, x = ValueIdx.ix2 c (Fin.castLE hk j) →
      x.along (1 : Fin 2) (sortedFrom (fun a b => FloatOps.cmpfTotal (F := Ideal) (φ := .f32) .gt (y (x.along (1 : Fin 2) a)) (y (x.along (1 : Fin 2) b)) == 1#1) (x 1))
        = ValueIdx.ix2 c (rowBest hk y c j) := by
    intro x hx
    subst hx
    have hr := along_row (ValueIdx.ix2 c (Fin.castLE hk j) : (⟨2, ![C, n]⟩ : Shape).Idx) c rfl
    refine (hr _).trans (congrArg (ValueIdx.ix2 c) (congrFun (congrArg sortedFrom (funext fun a => funext fun b => ?_)) _))
    exact (gt_word _ _).trans (congrArg₂ (fun u v => decide (y u < y v)) (hr b) (hr a))
  constructor
  · exact congrArg y (hs _ hi)
  · exact congrArg (fun x : (⟨2, ![C, n]⟩ : Shape).Idx => BitVec.ofNat 32 (x 1).val) (hs _ hi)

end Cert.Route

end
-- ==== Proof.RefMask.lean ====
/-
  The reference's masking of the scores: a one set at each of the three best groups, and the scores of the other groups made zero.
-/
module
public import proofs.«01_k».proof.Proof.RefScore
public import proofs.«01_k».proof.Proof.TopK
public import Idealize.ShloMosaic.Lib.Routing.OpsSet

@[expose] public section

noncomputable section

namespace Cert.Route

open Idealize.ShloMosaic Cert.ReferenceIdeal Cert.ReferenceIdeal.Gen Cert.ReferenceIdeal.Read

/-- The three best groups of a token, the best first. -/
def best (x0 : S4x4096x2048.Idx → EReal) (x1 : S64x2048.Idx → EReal) (c : Fin 16384) : Fin 3 → Fin 8 :=
  rowBest (by decide) (val_main_v15 (F := Ideal) x0 x1 : S16384x8.Idx → EReal) c

theorem best_topSel (x0 : S4x4096x2048.Idx → EReal) (x1 : S64x2048.Idx → EReal) (c : Fin 16384) :
    TopSel (top (soft (logit (rows x0) x1 c))) (best x0 x1 c) := by
  have h := rowBest_topSel (k := 3) (by decide) (val_main_v15 (F := Ideal) x0 x1 : S16384x8.Idx → EReal) c
  simp only [ref_top] at h
  exact h

theorem ref_best (x0 : S4x4096x2048.Idx → EReal) (x1 : S64x2048.Idx → EReal) (c : Fin 16384) (j : Fin 3) :
    val_main_indices (F := Ideal) x0 x1 (ValueIdx.ix2 c j) = BitVec.ofNat 32 (best x0 x1 c j).val := by
  unfold val_main_indices best
  generalize val_main_v15 (F := Ideal) x0 x1 = y
  exact (topK_apply (by decide) y sliceFits_S16384x8_S16384x3 c j).2

/-- A small number's wrap as an index is itself. -/
theorem wrap_small {n : ℕ} (hn : n < 16384) (a : BitVec 32) :
    Scalar.select (IntOp.cmpi .slt (BitVec.ofNat 32 n) 0#32) a (BitVec.ofNat 32 n) = BitVec.ofNat 32 n := by
  refine Routing.wrap_of_lt _ _ ?_
  rw [BitVec.toNat_ofNat]
  omega

theorem ref_row (i : S16384x3x1.Idx) : val_main_v30 (F := Ideal) i = BitVec.ofNat 32 (i 0).val := by
  rw [val_main_v30_apply, val_main_v29_apply, val_main_v23_apply, val_main_v20_apply, val_main_v19_apply, val_main_c_apply, val_main_v18_apply,
    val_main_v17_apply]
  exact wrap_small (i 0).isLt _

theorem ref_group (x0 : S4x4096x2048.Idx → EReal) (x1 : S64x2048.Idx → EReal) (c : Fin 16384) (j : Fin 3) :
    val_main_v31 (F := Ideal) x0 x1 (ValueIdx.ix3 c j (0 : Fin 1)) = BitVec.ofNat 32 (best x0 x1 c j).val := by
  have hi : idx_main_v31 (ValueIdx.ix3 c j (0 : Fin 1)) = ValueIdx.ix2 c j := funext fun a => Fin.ext (by
    match a with
    | ⟨0, _⟩ => rfl
    | ⟨1, _⟩ => rfl)
  rw [val_main_v31_apply, hi, val_main_v28_apply, val_main_v25_apply, val_main_v24_apply, val_main_c_5_apply, ref_best]
  exact wrap_small (lt_trans (best x0 x1 c j).isLt (by decide)) _

theorem ref_pair0 (x0 : S4x4096x2048.Idx → EReal) (x1 : S64x2048.Idx → EReal) (c : Fin 16384) (j : Fin 3) :
    val_main_v32 (F := Ideal) x0 x1 (ValueIdx.ix3 c j (0 : Fin 2)) = BitVec.ofNat 32 c.val := by
  unfold val_main_v32
  have hr := ref_row (ValueIdx.ix3 c j (0 : Fin 1))
  generalize val_main_v30 (F := Ideal) = y at hr ⊢
  generalize val_main_v31 (F := Ideal) x0 x1 = z
  refine (concatenate_pair_apply_left (s₁ := S16384x3x1) (s₂ := S16384x3x1) (t := S16384x3x2) (2 : Fin 3) y z
    concatenates_S16384x3x1_S16384x3x1_S16384x3x2_d2 (ValueIdx.ix3 c j (0 : Fin 2)) rfl (ValueIdx.ix3 c j (0 : Fin 1)) (fun b => ?_)).trans hr
  match b with
  | ⟨0, _⟩ => rfl
  | ⟨1, _⟩ => rfl
  | ⟨2, _⟩ => rfl

theorem ref_pair1 (x0 : S4x4096x2048.Idx → EReal) (x1 : S64x2048.Idx → EReal) (c : Fin 16384) (j : Fin 3) :
    val_main_v32 (F := Ideal) x0 x1 (ValueIdx.ix3 c j (1 : Fin 2)) = BitVec.ofNat 32 (best x0 x1 c j).val := by
  unfold val_main_v32
  have hg := ref_group x0 x1 c j
  generalize val_main_v30 (F := Ideal) = y
  generalize val_main_v31 (F := Ideal) x0 x1 = z at hg ⊢
  refine (concatenate_pair_apply_right (s₁ := S16384x3x1) (s₂ := S16384x3x1) (t := S16384x3x2) (2 : Fin 3) y z
    concatenates_S16384x3x1_S16384x3x1_S16384x3x2_d2 (ValueIdx.ix3 c j (1 : Fin 2)) rfl rfl (ValueIdx.ix3 c j (0 : Fin 1)) (fun b hb => ?_) rfl).trans hg
  match b with
  | ⟨0, _⟩ => rfl
  | ⟨1, _⟩ => rfl
  | ⟨2, _⟩ => exact absurd rfl hb

theorem toInt_small {n : ℕ} (hn : n < 16384) : (BitVec.ofNat 32 n).toInt = (n : ℤ) :=
  StableHlo.Predicate.toInt_ofNat_small n (by omega)

/-- Where the `j`-th update of token `c` lands. -/
theorem ref_lands (x0 : S4x4096x2048.Idx → EReal) (x1 : S64x2048.Idx → EReal) (c : Fin 16384) (j : Fin 3) (r : Fin 16384) (g : Fin 8) :
    scatter_S16384x8_S16384x3x2_S16384x3_n_01_01_2.resultIdx? (ValueIdx.ix2 c j) (val_main_v32 (F := Ideal) x0 x1) = some (ValueIdx.ix2 r g)
      ↔ c = r ∧ best x0 x1 c j = g := by
  rw [Routing.scatter_lands2 scatter_S16384x8_S16384x3x2_S16384x3_n_01_01_2 rfl rfl rfl _ c j r g, ref_pair0, ref_pair1, toInt_small c.isLt,
    toInt_small (lt_trans (best x0 x1 c j).isLt (by decide))]
  constructor
  · intro h
    exact ⟨Fin.ext (by exact_mod_cast h.1), Fin.ext (by exact_mod_cast h.2)⟩
  · rintro ⟨rfl, rfl⟩
    exact ⟨rfl, rfl⟩

theorem ofBits_one : Ideal.ofBits .f32 0x3F800000#32 ≠ 0 := by simp [Ideal.ofBits, Ideal.ieee]

/-- A best group's mark. -/
theorem ref_mark_hit (x0 : S4x4096x2048.Idx → EReal) (x1 : S64x2048.Idx → EReal) (c : Fin 16384) (j : Fin 3) :
    val_main_v34 (F := Ideal) x0 x1 (ValueIdx.ix2 c (best x0 x1 c j)) = Ideal.ofBits .f32 0x3F800000#32 := by
  unfold val_main_v34
  refine Routing.scatter_set_hit _ _ _ _ _ _ (fun k _ => ?_) (ValueIdx.ix2 c j) ((ref_lands x0 x1 c j c _).mpr ⟨rfl, rfl⟩)
  rw [val_main_v33_apply]
  rfl

/-- Another group's. -/
theorem ref_mark_miss (x0 : S4x4096x2048.Idx → EReal) (x1 : S64x2048.Idx → EReal) (c : Fin 16384) (g : Fin 8) (hg : ∀ j, best x0 x1 c j ≠ g) :
    val_main_v34 (F := Ideal) x0 x1 (ValueIdx.ix2 c g) = 0 := by
  unfold val_main_v34
  refine (Routing.scatter_set_miss _ _ _ _ _ fun k hk => ?_).trans ?_
  · have hkk : k = ValueIdx.ix2 (k 0) (k 1) := funext fun a => by
      match a with
      | ⟨0, _⟩ => rfl
      | ⟨1, _⟩ => rfl
    rw [hkk] at hk
    obtain ⟨h0, h1⟩ := (ref_lands x0 x1 (k 0) (k 1) c g).mp hk
    rw [h0] at h1
    exact hg _ h1
  · rw [val_main_v16_apply]
    exact Ideal.ofBits_zero_f32

theorem une_word (x y : EReal) : FloatOps.cmpf (F := Ideal) (φ := .f32) .une x y = BitVec.ofBool (decide (x ≠ y)) := rfl

theorem ofBits_nil : FloatOps.ofBits (F := Ideal) .f32 0x00000000#32 = (0 : EReal) := Ideal.ofBits_zero_f32

/-- The masked scores. -/
theorem ref_masked (x0 : S4x4096x2048.Idx → EReal) (x1 : S64x2048.Idx → EReal) (c : Fin 16384) (e : Fin 64) :
    val_main_v40 (F := Ideal) x0 x1 (ValueIdx.ix2 c e) = masked (best x0 x1 c) (soft (logit (rows x0) x1 c)) e := by
  have hi : idx_main_v35 (idx_main_v36 (ValueIdx.ix2 c e)) = ValueIdx.ix2 c (grp e) := funext fun a => Fin.ext (by
    have he := e.isLt
    match a with
    | ⟨0, _⟩ =>
      show (c.val * 64 + e.val) / 64 = c.val
      omega
    | ⟨1, _⟩ =>
      show (c.val * 64 + e.val) / 8 % 8 = e.val / 8
      omega)
  rw [val_main_v40_apply, val_main_v39_apply, val_main_v38_apply, val_main_v37_apply, val_main_cst_8_apply, val_main_v36_apply, val_main_v35_apply, hi,
    ref_score, val_main_call0_v1_apply, val_main_call0_v0_apply, val_main_cst_9_apply]
  rw [ofBits_nil, une_word]
  unfold masked
  by_cases h : ∃ i, best x0 x1 c i = grp e
  · obtain ⟨j, hj⟩ := h
    have hm := ref_mark_hit x0 x1 c j
    rw [hj] at hm
    rw [if_pos ⟨j, hj⟩, hm, decide_eq_true ofBits_one]
    rfl
  · rw [if_neg h, ref_mark_miss x0 x1 c (grp e) (fun j hj => h ⟨j, hj⟩), decide_eq_false (fun hn => hn rfl)]
    rfl

end Cert.Route

end
-- ==== Proof.RefOut.lean ====
/-
  The reference's two results over the extended reals: the positions of the eight greatest masked scores, and those scores by their sum.
-/
module
public import proofs.«01_k».proof.Proof.RefMask

@[expose] public section

noncomputable section

namespace Cert.Route

open Idealize.ShloMosaic Cert.ReferenceIdeal Cert.ReferenceIdeal.Gen Cert.ReferenceIdeal.Read

/-- The eight chosen experts of a token, the best first. -/
def chosen (x0 : S4x4096x2048.Idx → EReal) (x1 : S64x2048.Idx → EReal) (c : Fin 16384) : Fin 8 → Fin 64 :=
  rowBest (by decide) (val_main_v40 (F := Ideal) x0 x1 : S16384x64.Idx → EReal) c

theorem chosen_topSel (x0 : S4x4096x2048.Idx → EReal) (x1 : S64x2048.Idx → EReal) (c : Fin 16384) :
    TopSel (masked (best x0 x1 c) (soft (logit (rows x0) x1 c))) (chosen x0 x1 c) := by
  have h := rowBest_topSel (k := 8) (by decide) (val_main_v40 (F := Ideal) x0 x1 : S16384x64.Idx → EReal) c
  simp only [ref_masked] at h
  exact h

theorem ref_index (x0 : S4x4096x2048.Idx → EReal) (x1 : S64x2048.Idx → EReal) (c : Fin 16384) (j : Fin 8) :
    val_main_indices_11 (F := Ideal) x0 x1 (ValueIdx.ix2 c j) = BitVec.ofNat 32 (chosen x0 x1 c j).val := by
  unfold val_main_indices_11 chosen
  generalize val_main_v40 (F := Ideal) x0 x1 = y
  exact (topK_apply (by decide) y sliceFits_S16384x64_S16384x8 c j).2

theorem ref_value (x0 : S4x4096x2048.Idx → EReal) (x1 : S64x2048.Idx → EReal) (c : Fin 16384) (j : Fin 8) :
    val_main_values_10 (F := Ideal) x0 x1 (ValueIdx.ix2 c j)
      = masked (best x0 x1 c) (soft (logit (rows x0) x1 c)) (chosen x0 x1 c j) := by
  rw [← ref_masked]
  unfold val_main_values_10 chosen
  generalize val_main_v40 (F := Ideal) x0 x1 = y
  exact (topK_apply (by decide) y sliceFits_S16384x64_S16384x8 c j).1

theorem ref_weight (x0 : S4x4096x2048.Idx → EReal) (x1 : S64x2048.Idx → EReal) (c : Fin 16384) (j : Fin 8) :
    val_main_v46 (F := Ideal) x0 x1 (ValueIdx.ix2 c j)
      = Ideal.div (masked (best x0 x1 c) (soft (logit (rows x0) x1 c)) (chosen x0 x1 c j))
        ((∑ k : Fin 8, masked (best x0 x1 c) (soft (logit (rows x0) x1 c)) (chosen x0 x1 c k)) + Ideal.ofBits .f32 0x1E3CE508#32) := by
  have hs : ∀ k : Fin 8, val_main_values_10 (F := Ideal) x0 x1 (idx_main_v41 (idx_main_v42 (idx_main_v45 (ValueIdx.ix2 c j))) k)
      = masked (best x0 x1 c) (soft (logit (rows x0) x1 c)) (chosen x0 x1 c k) := by
    intro k
    rw [← ref_value]
    refine congrArg _ (funext fun a => Fin.ext ?_)
    match a with
    | ⟨0, _⟩ => rfl
    | ⟨1, _⟩ => rfl
  rw [val_main_v46_apply, val_main_v45_apply, val_main_v44_apply, val_main_v43_apply, val_main_cst_13_apply, val_main_v42_apply, val_main_v41_apply,
    val_main_cst_12_apply, ref_value, Finset.sum_congr rfl fun k _ => hs k, ofBits_nil, zero_add]
  rfl

end Cert.Route

end
-- ==== Proof.Agree.lean ====
/-
  The kernel's results are the reference's over the extended reals: its indices where a token's scores are pairwise different, its weights
  where the greatest scores of the token's groups are.
-/
module
public import proofs.«01_k».proof.Proof.Main
public import proofs.«01_k».proof.Proof.Pay
public import proofs.«01_k».proof.Proof.Untied
public import proofs.«01_k».proof.Proof.RefOut

@[expose] public section

noncomputable section

namespace Cert.Route

open Idealize.ShloMosaic Cert.KernelIdeal Cert.KernelIdeal.Gen

/-- The kernel's sum of eight, with the small constant added last. -/
theorem total8_ideal (k : Fin 8 → EReal) : total8 (F := Ideal) k = (∑ i : Fin 8, k i) + Ideal.ofBits .f32 0x1E3CE508#32 := by
  rw [Fin.sum_univ_eight]
  rfl

/-- The indices agree on a token whose scores are pairwise different. -/
theorem index_agrees (x0 : S4x4096x2048.Idx → EReal) (x1 : S64x2048.Idx → EReal) (c : Fin 16384) (j : Fin 8)
    (hs : Function.Injective (soft (logit (rows x0) x1 c))) :
    routeI (F := Ideal) (soft (logit (rows x0) x1 c)) j = Cert.ReferenceIdeal.Read.val_main_indices_11 (F := Ideal) x0 x1 (ValueIdx.ix2 c j) := by
  have hne : soft (logit (rows x0) x1 c) 0 ≠ soft (logit (rows x0) x1 c) 1 := fun h => absurd (hs h) (by decide)
  rw [ref_index]
  exact winners_index (fun e => soft_nonneg hne e) hs (best_topSel x0 x1 c) (chosen_topSel x0 x1 c) j

/-- The weights agree on a token whose groups' greatest scores are pairwise different. -/
theorem weight_agrees (x0 : S4x4096x2048.Idx → EReal) (x1 : S64x2048.Idx → EReal) (c : Fin 16384) (j : Fin 8)
    (ht : Function.Injective (top (soft (logit (rows x0) x1 c)))) :
    routeW (F := Ideal) (soft (logit (rows x0) x1 c)) j = Cert.ReferenceIdeal.Read.val_main_v46 (F := Ideal) x0 x1 (ValueIdx.ix2 c j) := by
  have h0 : ∀ e, 0 ≤ soft (logit (rows x0) x1 c) e := by
    obtain ⟨a, ha⟩ := top_mem (soft (logit (rows x0) x1 c)) 0
    obtain ⟨b, hb⟩ := top_mem (soft (logit (rows x0) x1 c)) 1
    refine fun e => soft_nonneg (a := expert 0 a) (b := expert 1 b) (fun h => ?_) e
    exact absurd (ht (ha.trans (h.trans hb.symm))) (by decide)
  have hk := fun i => winners_key h0 ht (best_topSel x0 x1 c) (chosen_topSel x0 x1 c) i
  rw [ref_weight]
  unfold routeW
  rw [total8_ideal]
  simp only [hk]
  rfl

variable (m : (ℓ : Loc nD τ sig) → Buf (Elt Ideal) ℓ)

/-- The kernel's first result at a token and a place. -/
theorem resI_apply (d : Dev nD) (c : Fin 16384) (j : Fin 8) :
    resI m d (ValueIdx.ix2 c j) = routeI (F := Ideal) (soft (logit (tokens m d) (weights m d) c)) j := by
  unfold resI
  rw [transpose_apply [1, 0] (outI (SC m d)) transposes_S8x16384_S16384x8_1_0 (ValueIdx.ix2 c j) (ValueIdx.ix2 j c) (fun b => by
    match b with
    | ⟨0, _⟩ => rfl
    | ⟨1, _⟩ => rfl)]
  show routeI (F := Ideal) (column (SC m d) c) j = _
  unfold SC
  rw [column_scores]

/-- The second. -/
theorem resW_apply (d : Dev nD) (c : Fin 16384) (j : Fin 8) :
    resW m d (ValueIdx.ix2 c j) = routeW (F := Ideal) (soft (logit (tokens m d) (weights m d) c)) j := by
  unfold resW
  rw [transpose_apply [1, 0] (outW (SC m d)) transposes_S8x16384_S16384x8_1_0 (ValueIdx.ix2 c j) (ValueIdx.ix2 j c) (fun b => by
    match b with
    | ⟨0, _⟩ => rfl
    | ⟨1, _⟩ => rfl)]
  show routeW (F := Ideal) (column (SC m d) c) j = _
  unfold SC
  rw [column_scores]

theorem ix2_eta (i : S16384x8.Idx) : ∃ (c : Fin 16384) (j : Fin 8), i = ValueIdx.ix2 c j := ⟨i 0, i 1, funext fun a => by
  match a with
  | ⟨0, _⟩ => rfl
  | ⟨1, _⟩ => rfl⟩

theorem indices_agree (d : Dev nD) (x0 : S4x4096x2048.Idx → EReal) (x1 : S64x2048.Idx → EReal)
    (h0 : m ((d.tc : Thread nD τ).loc main_arg0) = x0) (h1 : m ((d.tc : Thread nD τ).loc main_arg1) = x1) (i : S16384x8.Idx)
    (h : (Cert.On_untied.fn (F := Ideal) x0 x1).1 i = 1#1) :
    resI m d i = Cert.ReferenceIdeal.Read.val_main_indices_11 (F := Ideal) x0 x1 i := by
  subst h0 h1
  obtain ⟨c, j, rfl⟩ := ix2_eta i
  rw [resI_apply]
  exact index_agrees _ _ _ _ (scores_differ h)

theorem weights_agree (d : Dev nD) (x0 : S4x4096x2048.Idx → EReal) (x1 : S64x2048.Idx → EReal)
    (h0 : m ((d.tc : Thread nD τ).loc main_arg0) = x0) (h1 : m ((d.tc : Thread nD τ).loc main_arg1) = x1) (i : S16384x8.Idx)
    (h : (Cert.On_untied.fn (F := Ideal) x0 x1).2 i = 1#1) :
    resW m d i = Cert.ReferenceIdeal.Read.val_main_v46 (F := Ideal) x0 x1 i := by
  subst h0 h1
  obtain ⟨c, j, rfl⟩ := ix2_eta i
  rw [resW_apply]
  exact weight_agrees _ _ _ _ (tops_differ h)

end Cert.Route

end
-- ==== Proof.lean ====
/-
  The certificate: each program's frame from its run, that idealizing rewrote nothing, and the equality of results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.On_untied
public import proofs.«01_k».proof.Proof.Main
public import proofs.«01_k».proof.Proof.Same
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's run with the results dropped, over any float values. -/
theorem kept {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (Cert.KernelIdeal.threads (F := F)) ⟨m, fun _ => 0, ρ⟩ (fun r =>
      (∀ d : Dev Cert.KernelIdeal.nD, r.2.mem ((d.tc : Thread Cert.KernelIdeal.nD Cert.KernelIdeal.τ).loc Cert.KernelIdeal.main_arg0)
          = m ((d.tc : Thread Cert.KernelIdeal.nD Cert.KernelIdeal.τ).loc Cert.KernelIdeal.main_arg0)
        ∧ r.2.mem ((d.tc : Thread Cert.KernelIdeal.nD Cert.KernelIdeal.τ).loc Cert.KernelIdeal.main_arg1)
          = m ((d.tc : Thread Cert.KernelIdeal.nD Cert.KernelIdeal.τ).loc Cert.KernelIdeal.main_arg1))
      ∧ r.2.sem = fun _ => 0) :=
  (θ_run Cert.KernelIdeal.defs _ _).mono (fun _ h => ⟨fun d => ⟨(h.1 d).1, (h.1 d).2.1⟩, h.2⟩) (Cert.Route.run_main (F := F) m ρ)

/-- The kernel as printed: its text is the idealized kernel's, so the one run gives its frame. -/
theorem frame_kernel : Cert.quiescent_Kernel := fun m ρ _ => by
  rw [Cert.Route.tables_same]
  exact kept (F := Bits) m ρ

/-- The idealized kernel's frame. -/
theorem frame_kernelIdeal : Cert.quiescent_KernelIdeal := fun m ρ _ => kept (F := Ideal) m ρ

/-- The reference's frame: it has no semaphore. -/
theorem frame_referenceIdeal : Cert.quiescent_ReferenceIdeal := fun m ρ _ =>
  (θ_run Cert.ReferenceIdeal.defs _ _).mono (fun r h => ⟨fun d => ⟨(h d).2.2.1, (h d).2.2.2⟩, sem_eq_zero_of_no_sems (by decide) r.2⟩)
    (Cert.ReferenceIdeal.Value.run (F := Ideal) m ρ)

/-- The results agree over the extended reals wherever the mask says: the values are the kernel's. -/
theorem algebraic : Cert.algebraic_KernelIdeal_ReferenceIdeal_on_untied := fun m g m' g' _ hargs => by
  refine ⟨fun c => Cert.Route.resI (F := Ideal) m c, fun c => Cert.Route.resW (F := Ideal) m c, ?_, ?_⟩
  · exact (θ_run Cert.KernelIdeal.defs _ _).mono (fun _ h c =>
      ⟨fun i _ => congrFun (h.1 c).2.2.1 i, fun i _ => congrFun (h.1 c).2.2.2 i, (h.1 c).1, (h.1 c).2.1⟩) (Cert.Route.run_main (F := Ideal) m g)
  · refine (θ_run Cert.ReferenceIdeal.defs _ _).mono (fun _ h c => ⟨fun i hi => ?_, fun i hi => ?_, (h c).2.2.1, (h c).2.2.2⟩)
      (Cert.ReferenceIdeal.Value.run (F := Ideal) m' g')
    · refine (congrFun ((h c).1.trans (Cert.ReferenceIdeal.Read.val_main_indices_11_eq m' c)) i).trans ?_
      rw [(hargs c).1, (hargs c).2]
      exact (Cert.Route.indices_agree m c _ _ rfl rfl i hi).symm
    · refine (congrFun ((h c).2.1.trans (Cert.ReferenceIdeal.Read.val_main_v46_eq m' c)) i).trans ?_
      rw [(hargs c).1, (hargs c).2]
      exact (Cert.Route.weights_agree m c _ _ rfl rfl i hi).symm

theorem claim : Cert.Claim :=
  ⟨Cert.Kernel.Gen.facts, Cert.KernelIdeal.Gen.facts, Cert.ReferenceIdeal.Gen.facts, Cert.On_untied.Gen.facts, frame_kernel, frame_kernelIdeal,
    frame_referenceIdeal, trivial, algebraic⟩

end Cert.Proof

end
